-- ==== Defs.lean ====
def Pre_Kernel [hPre_drawn : Cert.Pre_drawn.Facts] (m : (ℓ : Loc Cert.Kernel.nD Cert.Kernel.τ Cert.Kernel.sig) → Buf (Elt Bits) ℓ) : Prop :=
  ∀ c : Dev Cert.Kernel.nD,
    (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_KernelIdeal_drawn_finite [hPre_drawn_finite : Cert.Pre_drawn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_finite [hPre_drawn_finite : Cert.Pre_drawn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_drawn : Cert.Pre_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_drawn_finite [hKernelIdeal : Cert.KernelIdeal.Facts] [hPre_drawn_finite : Cert.Pre_drawn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_drawn_finite [hReferenceIdeal : Cert.ReferenceIdeal.Facts] [hPre_drawn_finite : Cert.Pre_drawn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_drawn_finite [hKernelIdeal : Cert.KernelIdeal.Facts] [hReferenceIdeal : Cert.ReferenceIdeal.Facts] [hPre_drawn_finite : Cert.Pre_drawn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_drawn : Cert.Pre_drawn.Facts) (hPre_drawn_finite : Cert.Pre_drawn_finite.Facts),
    quiescent_Kernel (hKernel := hKernel) (hPre_drawn := hPre_drawn)
    ∧ quiescent_KernelIdeal (hKernelIdeal := hKernelIdeal) (hPre_drawn := hPre_drawn)
    ∧ quiescent_KernelIdeal_pre_drawn_finite (hKernelIdeal := hKernelIdeal) (hPre_drawn_finite := hPre_drawn_finite)
    ∧ quiescent_ReferenceIdeal (hReferenceIdeal := hReferenceIdeal)
    ∧ quiescent_ReferenceIdeal_pre_drawn_finite (hReferenceIdeal := hReferenceIdeal) (hPre_drawn_finite := hPre_drawn_finite)
    ∧ preserves_Kernel_KernelIdeal
    ∧ algebraic_KernelIdeal_ReferenceIdeal_pre_drawn_finite (hKernelIdeal := hKernelIdeal) (hReferenceIdeal := hReferenceIdeal) (hPre_drawn_finite := hPre_drawn_finite)
-- ==== Pre_drawn.lean ====
abbrev S64x1x512x300 : Shape := ⟨4, ![64, 1, 512, 300]⟩
abbrev S2048x2 : Shape := ⟨2, ![2048, 2]⟩
abbrev S2048 : Shape := ⟨1, ![2048]⟩
abbrev S256x1x3x300 : Shape := ⟨4, ![256, 1, 3, 300]⟩
abbrev S256 : Shape := ⟨1, ![256]⟩
abbrev S2048x2048 : Shape := ⟨2, ![2048, 2048]⟩
abbrev S2048x19 : Shape := ⟨2, ![2048, 19]⟩
abbrev S19 : Shape := ⟨1, ![19]⟩
abbrev S2048x38 : Shape := ⟨2, ![2048, 38]⟩
abbrev S38 : Shape := ⟨1, ![38]⟩
abbrev S2048x1 : Shape := ⟨2, ![2048, 1]⟩
abbrev S_ : Shape := ⟨0, ![]⟩

class Facts : Prop where
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S2048 : S_.BroadcastsInDim S2048 (![] : Fin 0 → Fin S2048.rank)
  reducesTo_S2048_S_d0 : S2048.ReducesTo [0] S_
  h_S_ : 0 < S_.numel

variable [Facts]

def fn_part1 {F : FTy → Type} [FloatOps F] (main_arg2 : IVec S2048 32) (main_v1 : IVec S2048 32) (main_v3 : IVec S2048 32) (main_v15 : IVec S_ 1) (main_v16 : IVec S2048 32) : IVec S_ 1 :=
  let main_v17 : IVec S2048 32 := addi main_v1 main_v16
  let main_v18 : IVec S2048 1 := cmpi .sle main_v3 main_v17
  let main_c_6 : IVec S_ 1 := constantI S_ 1 1#1
  let main_v19 : IVec S_ 1 := (fun x v => Host.reduce IntOp.andi x v reducesTo_S2048_S_d0 h_S_) main_v18 main_c_6
  let main_v20 : IVec S_ 1 := andi main_v15 main_v19
  let main_c_7 : IVec S_ 32 := constantI S_ 32 0#32
  let main_v21 : IVec S2048 32 := broadcastInDim S2048 ![] bcast_S_S2048 main_c_7
  let main_v22 : IVec S2048 1 := cmpi .sge main_arg2 main_v21
  let main_c_8 : IVec S_ 1 := constantI S_ 1 1#1
  let main_v23 : IVec S_ 1 := (fun x v => Host.reduce IntOp.andi x v reducesTo_S2048_S_d0 h_S_) main_v22 main_c_8
  let main_v24 : IVec S_ 1 := andi main_v20 main_v23
  let main_c_9 : IVec S_ 32 := constantI S_ 32 64#32
  let main_v25 : IVec S2048 32 := broadcastInDim S2048 ![] bcast_S_S2048 main_c_9
  let main_v26 : IVec S2048 1 := cmpi .slt main_arg2 main_v25
  let main_c_10 : IVec S_ 1 := constantI S_ 1 1#1
  let main_v27 : IVec S_ 1 := (fun x v => Host.reduce IntOp.andi x v reducesTo_S2048_S_d0 h_S_) main_v26 main_c_10
  let main_v28 : IVec S_ 1 := andi main_v24 main_v27
  main_v28

def fn {F : FTy → Type} [FloatOps F] (main_arg0 : FVec F S64x1x512x300 .f32) (main_arg1 : IVec S2048x2 32) (main_arg2 : IVec S2048 32) (main_arg3 : FVec F S256x1x3x300 .f32) (main_arg4 : FVec F S256 .f32) (main_arg5 : FVec F S2048x2048 .f32) (main_arg6 : FVec F S2048 .f32) (main_arg7 : FVec F S2048x19 .f32) (main_arg8 : FVec F S19 .f32) (main_arg9 : FVec F S2048x2048 .f32) (main_arg10 : FVec F S2048 .f32) (main_arg11 : FVec F S2048x38 .f32) (main_arg12 : FVec F S38 .f32) : IVec S_ 1 :=
  let main_v0 : IVec S2048x1 32 := (extractStridedSlice S2048x1 ![0, 0] · slices_S2048x2_S2048x1_0_0) main_arg1
  let main_v1 : IVec S2048 32 := shapeCast S2048 main_v0 shapeCasts_S2048x1_S2048
  let main_v2 : IVec S2048x1 32 := (extractStridedSlice S2048x1 ![0, 1] · slices_S2048x2_S2048x1_0_1) main_arg1
  let main_v3 : IVec S2048 32 := shapeCast S2048 main_v2 shapeCasts_S2048x1_S2048
  let main_c : IVec S_ 32 := constantI S_ 32 0#32
  let main_v4 : IVec S2048 32 := broadcastInDim S2048 ![] bcast_S_S2048 main_c
  let main_v5 : IVec S2048 1 := cmpi .sge main_v1 main_v4
  let main_c_0 : IVec S_ 1 := constantI S_ 1 1#1
  let main_v6 : IVec S_ 1 := (fun x v => Host.reduce IntOp.andi x v reducesTo_S2048_S_d0 h_S_) main_v5 main_c_0
  let main_c_1 : IVec S_ 32 := constantI S_ 32 480#32
  let main_v7 : IVec S2048 32 := broadcastInDim S2048 ![] bcast_S_S2048 main_c_1
  let main_v8 : IVec S2048 1 := cmpi .slt main_v1 main_v7
  let main_c_2 : IVec S_ 1 := constantI S_ 1 1#1
  let main_v9 : IVec S_ 1 := (fun x v => Host.reduce IntOp.andi x v reducesTo_S2048_S_d0 h_S_) main_v8 main_c_2
  let main_v10 : IVec S_ 1 := andi main_v6 main_v9
  let main_c_3 : IVec S_ 32 := constantI S_ 32 1#32
  let main_v11 : IVec S2048 32 := broadcastInDim S2048 ![] bcast_S_S2048 main_c_3
  let main_v12 : IVec S2048 32 := addi main_v1 main_v11
  let main_v13 : IVec S2048 1 := cmpi .sle main_v12 main_v3
  let main_c_4 : IVec S_ 1 := constantI S_ 1 1#1
  let main_v14 : IVec S_ 1 := (fun x v => Host.reduce IntOp.andi x v reducesTo_S2048_S_d0 h_S_) main_v13 main_c_4
  let main_v15 : IVec S_ 1 := andi main_v10 main_v14
  let main_c_5 : IVec S_ 32 := constantI S_ 32 31#32
  let main_v16 : IVec S2048 32 := broadcastInDim S2048 ![] bcast_S_S2048 main_c_5
  fn_part1 (F := F) main_arg2 main_v1 main_v3 main_v15 main_v16
-- ==== Pre_drawn_finite.lean ====
abbrev S64x1x512x300 : Shape := ⟨4, ![64, 1, 512, 300]⟩
abbrev S2048x2 : Shape := ⟨2, ![2048, 2]⟩
abbrev S2048 : Shape := ⟨1, ![2048]⟩
abbrev S256x1x3x300 : Shape := ⟨4, ![256, 1, 3, 300]⟩
abbrev S256 : Shape := ⟨1, ![256]⟩
abbrev S2048x2048 : Shape := ⟨2, ![2048, 2048]⟩
abbrev S2048x19 : Shape := ⟨2, ![2048, 19]⟩
abbrev S19 : Shape := ⟨1, ![19]⟩
abbrev S2048x38 : Shape := ⟨2, ![2048, 38]⟩
abbrev S38 : Shape := ⟨1, ![38]⟩
abbrev S2048x1 : Shape := ⟨2, ![2048, 1]⟩
abbrev S_ : Shape := ⟨0, ![]⟩

class Facts : Prop where
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S2048 : S_.BroadcastsInDim S2048 (![] : Fin 0 → Fin S2048.rank)
  reducesTo_S2048_S_d0 : S2048.ReducesTo [0] S_
  h_S_ : 0 < S_.numel
  bcast_S_S64x1x512x300 : S_.BroadcastsInDim S64x1x512x300 (![] : Fin 0 → Fin S64x1x512x300.rank)
  reducesTo_S64x1x512x300_S_d0_1_2_3 : S64x1x512x300.ReducesTo [0, 1, 2, 3] S_
  bcast_S_S256x1x3x300 : S_.BroadcastsInDim S256x1x3x300 (![] : Fin 0 → Fin S256x1x3x300.rank)
  reducesTo_S256x1x3x300_S_d0_1_2_3 : S256x1x3x300.ReducesTo [0, 1, 2, 3] S_
  bcast_S_S256 : S_.BroadcastsInDim S256 (![] : Fin 0 → Fin S256.rank)
  reducesTo_S256_S_d0 : S256.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x19 : S_.BroadcastsInDim S2048x19 (![] : Fin 0 → Fin S2048x19.rank)
  reducesTo_S2048x19_S_d0_1 : S2048x19.ReducesTo [0, 1] S_
  bcast_S_S2048x38 : S_.BroadcastsInDim S2048x38 (![] : Fin 0 → Fin S2048x38.rank)
  reducesTo_S2048x38_S_d0_1 : S2048x38.ReducesTo [0, 1] S_

variable [Facts]

def fn_part3 {F : FTy → Type} [FloatOps F] (main_arg9 : FVec F S2048x2048 .f32) (main_arg11 : FVec F S2048x38 .f32) (main_v48 : IVec S_ 1) (main_v49 : FVec F S2048x19 .f32) (main_v50 : FVec F S2048x19 .f32) : IVec S_ 1 :=
  let main_v51 : IVec S2048x19 1 := cmpf .olt main_v49 main_v50
  let main_c_19 : IVec S_ 1 := constantI S_ 1 1#1
  let main_v52 : IVec S_ 1 := (fun x v => Host.reduce IntOp.andi x v reducesTo_S2048x19_S_d0_1 h_S_) main_v51 main_c_19
  let main_v53 : IVec S_ 1 := andi main_v48 main_v52
  let main_v54 : FVec F S2048x2048 .f32 := Host.absf main_arg9
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x38 .f32 := Host.absf main_arg11
  let main_cst_22 : FVec F S_ .f32 := constant S_ .f32 0x7F800000#32
  let main_v60 : FVec F S2048x38 .f32 := broadcastInDim S2048x38 ![] bcast_S_S2048x38 main_cst_22
  let main_v61 : IVec S2048x38 1 := cmpf .olt main_v59 main_v60
  let main_c_23 : IVec S_ 1 := constantI S_ 1 1#1
  let main_v62 : IVec S_ 1 := (fun x v => Host.reduce IntOp.andi x v reducesTo_S2048x38_S_d0_1 h_S_) main_v61 main_c_23
  let main_v63 : IVec S_ 1 := andi main_v58 main_v62
  main_v63

def fn_part2 {F : FTy → Type} [FloatOps F] (main_arg3 : FVec F S256x1x3x300 .f32) (main_arg4 : FVec F S256 .f32) (main_arg5 : FVec F S2048x2048 .f32) (main_arg7 : FVec F S2048x19 .f32) (main_arg9 : FVec F S2048x2048 .f32) (main_arg11 : FVec F S2048x38 .f32) (main_v33 : IVec S_ 1) : IVec S_ 1 :=
  let main_v34 : FVec F S256x1x3x300 .f32 := Host.absf main_arg3
  let main_cst_12 : FVec F S_ .f32 := constant S_ .f32 0x7F800000#32
  let main_v35 : FVec F S256x1x3x300 .f32 := broadcastInDim S256x1x3x300 ![] bcast_S_S256x1x3x300 main_cst_12
  let main_v36 : IVec S256x1x3x300 1 := cmpf .olt main_v34 main_v35
  let main_c_13 : IVec S_ 1 := constantI S_ 1 1#1
  let main_v37 : IVec S_ 1 := (fun x v => Host.reduce IntOp.andi x v reducesTo_S256x1x3x300_S_d0_1_2_3 h_S_) main_v36 main_c_13
  let main_v38 : IVec S_ 1 := andi main_v33 main_v37
  let main_v39 : FVec F S256 .f32 := Host.absf main_arg4
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S2048x2048 .f32 := Host.absf main_arg5
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x19 .f32 := Host.absf main_arg7
  let main_cst_18 : FVec F S_ .f32 := constant S_ .f32 0x7F800000#32
  let main_v50 : FVec F S2048x19 .f32 := broadcastInDim S2048x19 ![] bcast_S_S2048x19 main_cst_18
  fn_part3 (F := F) main_arg9 main_arg11 main_v48 main_v49 main_v50

def fn_part1 {F : FTy → Type} [FloatOps F] (main_arg0 : FVec F S64x1x512x300 .f32) (main_arg2 : IVec S2048 32) (main_arg3 : FVec F S256x1x3x300 .f32) (main_arg4 : FVec F S256 .f32) (main_arg5 : FVec F S2048x2048 .f32) (main_arg7 : FVec F S2048x19 .f32) (main_arg9 : FVec F S2048x2048 .f32) (main_arg11 : FVec F S2048x38 .f32) (main_v1 : IVec S2048 32) (main_v3 : IVec S2048 32) (main_v15 : IVec S_ 1) (main_v16 : IVec S2048 32) : IVec S_ 1 :=
  let main_v17 : IVec S2048 32 := addi main_v1 main_v16
  let main_v18 : IVec S2048 1 := cmpi .sle main_v3 main_v17
  let main_c_6 : IVec S_ 1 := constantI S_ 1 1#1
  let main_v19 : IVec S_ 1 := (fun x v => Host.reduce IntOp.andi x v reducesTo_S2048_S_d0 h_S_) main_v18 main_c_6
  let main_v20 : IVec S_ 1 := andi main_v15 main_v19
  let main_c_7 : IVec S_ 32 := constantI S_ 32 0#32
  let main_v21 : IVec S2048 32 := broadcastInDim S2048 ![] bcast_S_S2048 main_c_7
  let main_v22 : IVec S2048 1 := cmpi .sge main_arg2 main_v21
  let main_c_8 : IVec S_ 1 := constantI S_ 1 1#1
  let main_v23 : IVec S_ 1 := (fun x v => Host.reduce IntOp.andi x v reducesTo_S2048_S_d0 h_S_) main_v22 main_c_8
  let main_v24 : IVec S_ 1 := andi main_v20 main_v23
  let main_c_9 : IVec S_ 32 := constantI S_ 32 64#32
  let main_v25 : IVec S2048 32 := broadcastInDim S2048 ![] bcast_S_S2048 main_c_9
  let main_v26 : IVec S2048 1 := cmpi .slt main_arg2 main_v25
  let main_c_10 : IVec S_ 1 := constantI S_ 1 1#1
  let main_v27 : IVec S_ 1 := (fun x v => Host.reduce IntOp.andi x v reducesTo_S2048_S_d0 h_S_) main_v26 main_c_10
  let main_v28 : IVec S_ 1 := andi main_v24 main_v27
  let main_v29 : FVec F S64x1x512x300 .f32 := Host.absf main_arg0
  let main_cst : FVec F S_ .f32 := constant S_ .f32 0x7F800000#32
  let main_v30 : FVec F S64x1x512x300 .f32 := broadcastInDim S64x1x512x300 ![] bcast_S_S64x1x512x300 main_cst
  let main_v31 : IVec S64x1x512x300 1 := cmpf .olt main_v29 main_v30
  let main_c_11 : IVec S_ 1 := constantI S_ 1 1#1
  let main_v32 : IVec S_ 1 := (fun x v => Host.reduce IntOp.andi x v reducesTo_S64x1x512x300_S_d0_1_2_3 h_S_) main_v31 main_c_11
  let main_v33 : IVec S_ 1 := andi main_v28 main_v32
  fn_part2 (F := F) main_arg3 main_arg4 main_arg5 main_arg7 main_arg9 main_arg11 main_v33

def fn {F : FTy → Type} [FloatOps F] (main_arg0 : FVec F S64x1x512x300 .f32) (main_arg1 : IVec S2048x2 32) (main_arg2 : IVec S2048 32) (main_arg3 : FVec F S256x1x3x300 .f32) (main_arg4 : FVec F S256 .f32) (main_arg5 : FVec F S2048x2048 .f32) (main_arg6 : FVec F S2048 .f32) (main_arg7 : FVec F S2048x19 .f32) (main_arg8 : FVec F S19 .f32) (main_arg9 : FVec F S2048x2048 .f32) (main_arg10 : FVec F S2048 .f32) (main_arg11 : FVec F S2048x38 .f32) (main_arg12 : FVec F S38 .f32) : IVec S_ 1 :=
  let main_v0 : IVec S2048x1 32 := (extractStridedSlice S2048x1 ![0, 0] · slices_S2048x2_S2048x1_0_0) main_arg1
  let main_v1 : IVec S2048 32 := shapeCast S2048 main_v0 shapeCasts_S2048x1_S2048
  let main_v2 : IVec S2048x1 32 := (extractStridedSlice S2048x1 ![0, 1] · slices_S2048x2_S2048x1_0_1) main_arg1
  let main_v3 : IVec S2048 32 := shapeCast S2048 main_v2 shapeCasts_S2048x1_S2048
  let main_c : IVec S_ 32 := constantI S_ 32 0#32
  let main_v4 : IVec S2048 32 := broadcastInDim S2048 ![] bcast_S_S2048 main_c
  let main_v5 : IVec S2048 1 := cmpi .sge main_v1 main_v4
  let main_c_0 : IVec S_ 1 := constantI S_ 1 1#1
  let main_v6 : IVec S_ 1 := (fun x v => Host.reduce IntOp.andi x v reducesTo_S2048_S_d0 h_S_) main_v5 main_c_0
  let main_c_1 : IVec S_ 32 := constantI S_ 32 480#32
  let main_v7 : IVec S2048 32 := broadcastInDim S2048 ![] bcast_S_S2048 main_c_1
  let main_v8 : IVec S2048 1 := cmpi .slt main_v1 main_v7
  let main_c_2 : IVec S_ 1 := constantI S_ 1 1#1
  let main_v9 : IVec S_ 1 := (fun x v => Host.reduce IntOp.andi x v reducesTo_S2048_S_d0 h_S_) main_v8 main_c_2
  let main_v10 : IVec S_ 1 := andi main_v6 main_v9
  let main_c_3 : IVec S_ 32 := constantI S_ 32 1#32
  let main_v11 : IVec S2048 32 := broadcastInDim S2048 ![] bcast_S_S2048 main_c_3
  let main_v12 : IVec S2048 32 := addi main_v1 main_v11
  let main_v13 : IVec S2048 1 := cmpi .sle main_v12 main_v3
  let main_c_4 : IVec S_ 1 := constantI S_ 1 1#1
  let main_v14 : IVec S_ 1 := (fun x v => Host.reduce IntOp.andi x v reducesTo_S2048_S_d0 h_S_) main_v13 main_c_4
  let main_v15 : IVec S_ 1 := andi main_v10 main_v14
  let main_c_5 : IVec S_ 32 := constantI S_ 32 31#32
  let main_v16 : IVec S2048 32 := broadcastInDim S2048 ![] bcast_S_S2048 main_c_5
  fn_part1 (F := F) main_arg0 main_arg2 main_arg3 main_arg4 main_arg5 main_arg7 main_arg9 main_arg11 main_v1 main_v3 main_v15 main_v16
-- ==== Kernel.lean ====
abbrev S64x1x512x300 : Shape := ⟨4, ![64, 1, 512, 300]⟩
abbrev S2048x2 : Shape := ⟨2, ![2048, 2]⟩
abbrev S2048 : Shape := ⟨1, ![2048]⟩
abbrev S256x1x3x300 : Shape := ⟨4, ![256, 1, 3, 300]⟩
abbrev S256 : Shape := ⟨1, ![256]⟩
abbrev S2048x2048 : Shape := ⟨2, ![2048, 2048]⟩
abbrev S2048x19 : Shape := ⟨2, ![2048, 19]⟩
abbrev S19 : Shape := ⟨1, ![19]⟩
abbrev S2048x38 : Shape := ⟨2, ![2048, 38]⟩
abbrev S38 : Shape := ⟨1, ![38]⟩
abbrev S1x2048 : Shape := ⟨2, ![1, 2048]⟩
abbrev S1x19 : Shape := ⟨2, ![1, 19]⟩
abbrev S1x38 : Shape := ⟨2, ![1, 38]⟩
abbrev S256x57 : Shape := ⟨2, ![256, 57]⟩
abbrev S1x57 : Shape := ⟨2, ![1, 57]⟩
abbrev S256x2048 : Shape := ⟨2, ![256, 2048]⟩
abbrev S256x19 : Shape := ⟨2, ![256, 19]⟩
abbrev S256x38 : Shape := ⟨2, ![256, 38]⟩
abbrev S64x512x300 : Shape := ⟨3, ![64, 512, 300]⟩
abbrev S2048x1 : Shape := ⟨2, ![2048, 1]⟩
abbrev S_ : Shape := ⟨0, ![]⟩
abbrev S256x3x300 : Shape := ⟨3, ![256, 3, 300]⟩
abbrev S3x300x256 : Shape := ⟨3, ![3, 300, 256]⟩
abbrev S1x256 : Shape := ⟨2, ![1, 256]⟩
abbrev S2048x57 : Shape := ⟨2, ![2048, 57]⟩
abbrev S8x512x300 : Shape := ⟨3, ![8, 512, 300]⟩
abbrev S128x57 : Shape := ⟨2, ![128, 57]⟩
abbrev S32768x256 : Shape := ⟨2, ![32768, 256]⟩
abbrev S128x256 : Shape := ⟨2, ![128, 256]⟩
abbrev S4096x300 : Shape := ⟨2, ![4096, 300]⟩
abbrev S1x300x256 : Shape := ⟨3, ![1, 300, 256]⟩
abbrev S300x256 : Shape := ⟨2, ![300, 256]⟩
abbrev S4096x256 : Shape := ⟨2, ![4096, 256]⟩
abbrev S511x256 : Shape := ⟨2, ![511, 256]⟩
abbrev S512x256 : Shape := ⟨2, ![512, 256]⟩
abbrev S1 : Shape := ⟨1, ![1]⟩
abbrev S40x256 : Shape := ⟨2, ![40, 256]⟩
abbrev S2048x19x2 : Shape := ⟨3, ![2048, 19, 2]⟩

abbrev nBuf : Space → Nat
  | .hbm => 66
  | .vmem => 20
  | .smem => 3
  | _ => 0

abbrev bufTy : (tb : Table) → Fin (tcTables nBuf tb) → BufTy
  | .hbm, ⟨0, _⟩ => ⟨S64x1x512x300, .f32⟩
  | .hbm, ⟨1, _⟩ => ⟨S2048x2, .i32⟩
  | .hbm, ⟨2, _⟩ => ⟨S2048, .i32⟩
  | .hbm, ⟨3, _⟩ => ⟨S256x1x3x300, .f32⟩
  | .hbm, ⟨4, _⟩ => ⟨S256, .f32⟩
  | .hbm, ⟨5, _⟩ => ⟨S2048x2048, .f32⟩
  | .hbm, ⟨6, _⟩ => ⟨S2048, .f32⟩
  | .hbm, ⟨7, _⟩ => ⟨S2048x19, .f32⟩
  | .hbm, ⟨8, _⟩ => ⟨S19, .f32⟩
  | .hbm, ⟨9, _⟩ => ⟨S2048x2048, .f32⟩
  | .hbm, ⟨10, _⟩ => ⟨S2048, .f32⟩
  | .hbm, ⟨11, _⟩ => ⟨S2048x38, .f32⟩
  | .hbm, ⟨12, _⟩ => ⟨S38, .f32⟩
  | .hbm, ⟨13, _⟩ => ⟨S1x2048, .f32⟩
  | .hbm, ⟨14, _⟩ => ⟨S1x19, .f32⟩
  | .hbm, ⟨15, _⟩ => ⟨S1x2048, .f32⟩
  | .hbm, ⟨16, _⟩ => ⟨S1x38, .f32⟩
  | .hbm, ⟨17, _⟩ => ⟨S256x57, .f32⟩
  | .hbm, ⟨18, _⟩ => ⟨S1x57, .f32⟩
  | .hbm, ⟨19, _⟩ => ⟨S64x512x300, .f32⟩
  | .hbm, ⟨20, _⟩ => ⟨S2048x1, .i32⟩
  | .hbm, ⟨21, _⟩ => ⟨S2048, .i32⟩
  | .hbm, ⟨22, _⟩ => ⟨S2048x1, .i32⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S2048, .i32⟩
  | .hbm, ⟨59, _⟩ => ⟨S256x3x300, .f32⟩
  | .hbm, ⟨60, _⟩ => ⟨S3x300x256, .f32⟩
  | .hbm, ⟨61, _⟩ => ⟨S1x256, .f32⟩
  | .hbm, ⟨62, _⟩ => ⟨S2048x57, .f32⟩
  | .hbm, ⟨63, _⟩ => ⟨S2048x19, .f32⟩
  | .hbm, ⟨64, _⟩ => ⟨S2048x38, .f32⟩
  | .hbm, ⟨65, _⟩ => ⟨S2048x19x2, .f32⟩
  | .local _ .vmem, ⟨0, _⟩ => ⟨S2048x2048, .f32⟩
  | .local _ .vmem, ⟨1, _⟩ => ⟨S2048x19, .f32⟩
  | .local _ .vmem, ⟨2, _⟩ => ⟨S1x2048, .f32⟩
  | .local _ .vmem, ⟨3, _⟩ => ⟨S1x19, .f32⟩
  | .local _ .vmem, ⟨4, _⟩ => ⟨S2048x2048, .f32⟩
  | .local _ .vmem, ⟨5, _⟩ => ⟨S2048x38, .f32⟩
  | .local _ .vmem, ⟨6, _⟩ => ⟨S1x2048, .f32⟩
  | .local _ .vmem, ⟨7, _⟩ => ⟨S1x38, .f32⟩
  | .local _ .vmem, ⟨8, _⟩ => ⟨S256x57, .f32⟩
  | .local _ .vmem, ⟨9, _⟩ => ⟨S1x57, .f32⟩
  | .local _ .vmem, ⟨10, _⟩ => ⟨S8x512x300, .f32⟩
  | .local _ .vmem, ⟨11, _⟩ => ⟨S8x512x300, .f32⟩
  | .local _ .vmem, ⟨12, _⟩ => ⟨S3x300x256, .f32⟩
  | .local _ .vmem, ⟨13, _⟩ => ⟨S1x256, .f32⟩
  | .local _ .vmem, ⟨14, _⟩ => ⟨S256x57, .f32⟩
  | .local _ .vmem, ⟨15, _⟩ => ⟨S1x57, .f32⟩
  | .local _ .vmem, ⟨16, _⟩ => ⟨S128x57, .f32⟩
  | .local _ .vmem, ⟨17, _⟩ => ⟨S128x57, .f32⟩
  | .local _ .vmem, ⟨18, _⟩ => ⟨S32768x256, .bf16⟩
  | .local _ .vmem, ⟨19, _⟩ => ⟨S128x256, .f32⟩
  | .local _ .smem, ⟨0, _⟩ => ⟨S2048, .i32⟩
  | .local _ .smem, ⟨1, _⟩ => ⟨S2048, .i32⟩
  | .local _ .smem, ⟨2, _⟩ => ⟨S2048, .i32⟩
  | _, _ => ⟨S64x1x512x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v11 : Ref sig .tc := ⟨.hbm, 42, rfl⟩
abbrev main_c_0 : Ref sig .tc := ⟨.hbm, 43, rfl⟩
abbrev main_v12 : Ref sig .tc := ⟨.hbm, 44, rfl⟩
abbrev main_v13 : Ref sig .tc := ⟨.hbm, 45, rfl⟩
abbrev main_c_1 : Ref sig .tc := ⟨.hbm, 46, rfl⟩
abbrev main_c_2 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v14 : Ref sig .tc := ⟨.hbm, 53, rfl⟩
abbrev main_c_3 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc1_scratch0 : Ref sig .tc := ⟨.vmem, 18, rfl⟩
abbrev cc1_scratch1 : Ref sig .tc := ⟨.vmem, 19, rfl⟩
abbrev cc1_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := .none

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x19 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x19 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x38 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x38 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x57 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x57 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨1, ![24], ![false]⟩

def k1_cond1 (i : grid1.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k1_off1 (i : grid1.Coords) (c0_i32_13 : BitVec 32) : Fin 2 → Nat :=
  let arg0 : BitVec 32 := BitVec.ofNat 32 (i 0).val
  let c4096_i32 : BitVec 32 := 4096#32
  let v37 : BitVec 32 := Scalar.muli arg0 c4096_i32
  let v38 : BitVec 32 := Scalar.addi v37 c0_i32_13
  let v39 : Index := Scalar.indexCast v38
  let c0_14 : Index := 0#32
  ![v39.toNat, 0]
def k1_cond2 (i : grid1.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def k1_off2 (i : grid1.Coords) : Fin 1 → Nat :=
  let arg0 : BitVec 32 := BitVec.ofNat 32 (i 0).val
  let c8_i32_2 : BitVec 32 := 8#32
  let v6 : BitVec 32 := Scalar.subi arg0 c8_i32_2
  let c128_i32 : BitVec 32 := 128#32
  let v7 : BitVec 32 := Scalar.muli v6 c128_i32
  let c0_i32_3 : BitVec 32 := 0#32
  let v8 : BitVec 32 := Scalar.addi v7 c0_i32_3
  let v9 : Index := Scalar.indexCast v8
  ![v9.toNat]
def k1_mult1 (v10 : BitVec 32) : BitVec 32 :=
  v10

def k1_off3 (v10 : BitVec 32) : Fin 2 → Nat :=
  let v11 : BitVec 32 := v10
  let v12 : Index := Scalar.indexCast v11
  let c0 : Index := 0#32
  ![v12.toNat, 0]

def k1_chk1 (i : grid1.Coords) (v10 : BitVec 32) : Prop :=
  (∀ (k1_h2 : k1_cond2 i = 1#1), 8 ∣ (k1_mult1 v10).toNat) ∧
  (∀ (k1_h2 : k1_cond2 i = 1#1), ∀ a, (k1_off3 v10) a + S40x256.size a ≤ S32768x256.size a)
theorem k1_mult1_dvd : ∀ (i : grid1.Coords) (v10 : BitVec 32) (k1_hw1 : k1_chk1 i v10), ∀ (k1_h2 : k1_cond2 i = 1#1), 8 ∣ (k1_mult1 v10).toNat := fun i v10 k1_hw1 k1_h2 => k1_hw1.1 k1_h2
theorem k1_off3_inb : ∀ (i : grid1.Coords) (v10 : BitVec 32) (k1_hw1 : k1_chk1 i v10), ∀ (k1_h2 : k1_cond2 i = 1#1), ∀ a, (k1_off3 v10) a + S40x256.size a ≤ S32768x256.size a := fun i v10 k1_hw1 k1_h2 => k1_hw1.2 k1_h2

def k1_off4 (i : grid1.Coords) (c0_i32_3 : BitVec 32) : Fin 1 → Nat :=
  let arg0 : BitVec 32 := BitVec.ofNat 32 (i 0).val
  let c8_i32_2 : BitVec 32 := 8#32
  let v6 : BitVec 32 := Scalar.subi arg0 c8_i32_2
  let c128_i32 : BitVec 32 := 128#32
  let v7 : BitVec 32 := Scalar.muli v6 c128_i32
  let v8 : BitVec 32 := Scalar.addi v7 c0_i32_3
  let v15 : Index := Scalar.indexCast v8
  ![v15.toNat]
def k1_mult2 (v37 : BitVec 32) : BitVec 32 :=
  v37

def k1_off5 (v37 : BitVec 32) : Fin 2 → Nat :=
  let v38 : BitVec 32 := v37
  let v39 : Index := Scalar.indexCast v38
  let c0_9 : Index := 0#32
  ![v39.toNat, 0]

def k1_chk2 (i : grid1.Coords) (v37 : BitVec 32) : Prop :=
  (∀ (k1_h2 : k1_cond2 i = 1#1), 8 ∣ (k1_mult2 v37).toNat) ∧
  (∀ (k1_h2 : k1_cond2 i = 1#1), ∀ a, (k1_off5 v37) a + S40x256.size a ≤ S32768x256.size a)
theorem k1_mult2_dvd : ∀ (i : grid1.Coords) (v37 : BitVec 32) (k1_hw2 : k1_chk2 i v37), ∀ (k1_h2 : k1_cond2 i = 1#1), 8 ∣ (k1_mult2 v37).toNat := fun i v37 k1_hw2 k1_h2 => k1_hw2.1 k1_h2
theorem k1_off5_inb : ∀ (i : grid1.Coords) (v37 : BitVec 32) (k1_hw2 : k1_chk2 i v37), ∀ (k1_h2 : k1_cond2 i = 1#1), ∀ a, (k1_off5 v37) a + S40x256.size a ≤ S32768x256.size a := fun i v37 k1_hw2 k1_h2 => k1_hw2.2 k1_h2

def k1_off6 (i : grid1.Coords) (c1_i32 : BitVec 32) : Fin 1 → Nat :=
  let arg0 : BitVec 32 := BitVec.ofNat 32 (i 0).val
  let c8_i32_7 : BitVec 32 := 8#32
  let v33 : BitVec 32 := Scalar.subi arg0 c8_i32_7
  let c128_i32_8 : BitVec 32 := 128#32
  let v34 : BitVec 32 := Scalar.muli v33 c128_i32_8
  let v35 : BitVec 32 := Scalar.addi v34 c1_i32
  let v42 : Index := Scalar.indexCast v35
  ![v42.toNat]
def k1_mult3 (v64 : BitVec 32) : BitVec 32 :=
  v64

def k1_off7 (v64 : BitVec 32) : Fin 2 → Nat :=
  let v65 : BitVec 32 := v64
  let v66 : Index := Scalar.indexCast v65
  let c0_15 : Index := 0#32
  ![v66.toNat, 0]

def k1_chk3 (i : grid1.Coords) (v64 : BitVec 32) : Prop :=
  (∀ (k1_h2 : k1_cond2 i = 1#1), 8 ∣ (k1_mult3 v64).toNat) ∧
  (∀ (k1_h2 : k1_cond2 i = 1#1), ∀ a, (k1_off7 v64) a + S40x256.size a ≤ S32768x256.size a)
theorem k1_mult3_dvd : ∀ (i : grid1.Coords) (v64 : BitVec 32) (k1_hw3 : k1_chk3 i v64), ∀ (k1_h2 : k1_cond2 i = 1#1), 8 ∣ (k1_mult3 v64).toNat := fun i v64 k1_hw3 k1_h2 => k1_hw3.1 k1_h2
theorem k1_off7_inb : ∀ (i : grid1.Coords) (v64 : BitVec 32) (k1_hw3 : k1_chk3 i v64), ∀ (k1_h2 : k1_cond2 i = 1#1), ∀ a, (k1_off7 v64) a + S40x256.size a ≤ S32768x256.size a := fun i v64 k1_hw3 k1_h2 => k1_hw3.2 k1_h2

def k1_off8 (i : grid1.Coords) (c2_i32 : BitVec 32) : Fin 1 → Nat :=
  let arg0 : BitVec 32 := BitVec.ofNat 32 (i 0).val
  let c8_i32_13 : BitVec 32 := 8#32
  let v60 : BitVec 32 := Scalar.subi arg0 c8_i32_13
  let c128_i32_14 : BitVec 32 := 128#32
  let v61 : BitVec 32 := Scalar.muli v60 c128_i32_14
  let v62 : BitVec 32 := Scalar.addi v61 c2_i32
  let v69 : Index := Scalar.indexCast v62
  ![v69.toNat]
def k1_mult4 (v91 : BitVec 32) : BitVec 32 :=
  v91

def k1_off9 (v91 : BitVec 32) : Fin 2 → Nat :=
  let v92 : BitVec 32 := v91
  let v93 : Index := Scalar.indexCast v92
  let c0_21 : Index := 0#32
  ![v93.toNat, 0]

def k1_chk4 (i : grid1.Coords) (v91 : BitVec 32) : Prop :=
  (∀ (k1_h2 : k1_cond2 i = 1#1), 8 ∣ (k1_mult4 v91).toNat) ∧
  (∀ (k1_h2 : k1_cond2 i = 1#1), ∀ a, (k1_off9 v91) a + S40x256.size a ≤ S32768x256.size a)
theorem k1_mult4_dvd : ∀ (i : grid1.Coords) (v91 : BitVec 32) (k1_hw4 : k1_chk4 i v91), ∀ (k1_h2 : k1_cond2 i = 1#1), 8 ∣ (k1_mult4 v91).toNat := fun i v91 k1_hw4 k1_h2 => k1_hw4.1 k1_h2
theorem k1_off9_inb : ∀ (i : grid1.Coords) (v91 : BitVec 32) (k1_hw4 : k1_chk4 i v91), ∀ (k1_h2 : k1_cond2 i = 1#1), ∀ a, (k1_off9 v91) a + S40x256.size a ≤ S32768x256.size a := fun i v91 k1_hw4 k1_h2 => k1_hw4.2 k1_h2

def k1_off10 (i : grid1.Coords) (c3_i32 : BitVec 32) : Fin 1 → Nat :=
  let arg0 : BitVec 32 := BitVec.ofNat 32 (i 0).val
  let c8_i32_19 : BitVec 32 := 8#32
  let v87 : BitVec 32 := Scalar.subi arg0 c8_i32_19
  let c128_i32_20 : BitVec 32 := 128#32
  let v88 : BitVec 32 := Scalar.muli v87 c128_i32_20
  let v89 : BitVec 32 := Scalar.addi v88 c3_i32
  let v96 : Index := Scalar.indexCast v89
  ![v96.toNat]
def k1_mult5 (v118 : BitVec 32) : BitVec 32 :=
  v118

def k1_off11 (v118 : BitVec 32) : Fin 2 → Nat :=
  let v119 : BitVec 32 := v118
  let v120 : Index := Scalar.indexCast v119
  let c0_27 : Index := 0#32
  ![v120.toNat, 0]

def k1_chk5 (i : grid1.Coords) (v118 : BitVec 32) : Prop :=
  (∀ (k1_h2 : k1_cond2 i = 1#1), 8 ∣ (k1_mult5 v118).toNat) ∧
  (∀ (k1_h2 : k1_cond2 i = 1#1), ∀ a, (k1_off11 v118) a + S40x256.size a ≤ S32768x256.size a)
theorem k1_mult5_dvd : ∀ (i : grid1.Coords) (v118 : BitVec 32) (k1_hw5 : k1_chk5 i v118), ∀ (k1_h2 : k1_cond2 i = 1#1), 8 ∣ (k1_mult5 v118).toNat := fun i v118 k1_hw5 k1_h2 => k1_hw5.1 k1_h2
theorem k1_off11_inb : ∀ (i : grid1.Coords) (v118 : BitVec 32) (k1_hw5 : k1_chk5 i v118), ∀ (k1_h2 : k1_cond2 i = 1#1), ∀ a, (k1_off11 v118) a + S40x256.size a ≤ S32768x256.size a := fun i v118 k1_hw5 k1_h2 => k1_hw5.2 k1_h2

def k1_off12 (i : grid1.Coords) (c4_i32 : BitVec 32) : Fin 1 → Nat :=
  let arg0 : BitVec 32 := BitVec.ofNat 32 (i 0).val
  let c8_i32_25 : BitVec 32 := 8#32
  let v114 : BitVec 32 := Scalar.subi arg0 c8_i32_25
  let c128_i32_26 : BitVec 32 := 128#32
  let v115 : BitVec 32 := Scalar.muli v114 c128_i32_26
  let v116 : BitVec 32 := Scalar.addi v115 c4_i32
  let v123 : Index := Scalar.indexCast v116
  ![v123.toNat]
def k1_mult6 (v145 : BitVec 32) : BitVec 32 :=
  v145

def k1_off13 (v145 : BitVec 32) : Fin 2 → Nat :=
  let v146 : BitVec 32 := v145
  let v147 : Index := Scalar.indexCast v146
  let c0_33 : Index := 0#32
  ![v147.toNat, 0]

def k1_chk6 (i : grid1.Coords) (v145 : BitVec 32) : Prop :=
  (∀ (k1_h2 : k1_cond2 i = 1#1), 8 ∣ (k1_mult6 v145).toNat) ∧
  (∀ (k1_h2 : k1_cond2 i = 1#1), ∀ a, (k1_off13 v145) a + S40x256.size a ≤ S32768x256.size a)
theorem k1_mult6_dvd : ∀ (i : grid1.Coords) (v145 : BitVec 32) (k1_hw6 : k1_chk6 i v145), ∀ (k1_h2 : k1_cond2 i = 1#1), 8 ∣ (k1_mult6 v145).toNat := fun i v145 k1_hw6 k1_h2 => k1_hw6.1 k1_h2
theorem k1_off13_inb : ∀ (i : grid1.Coords) (v145 : BitVec 32) (k1_hw6 : k1_chk6 i v145), ∀ (k1_h2 : k1_cond2 i = 1#1), ∀ a, (k1_off13 v145) a + S40x256.size a ≤ S32768x256.size a := fun i v145 k1_hw6 k1_h2 => k1_hw6.2 k1_h2

def k1_off14 (i : grid1.Coords) (c5_i32 : BitVec 32) : Fin 1 → Nat :=
  let arg0 : BitVec 32 := BitVec.ofNat 32 (i 0).val
  let c8_i32_31 : BitVec 32 := 8#32
  let v141 : BitVec 32 := Scalar.subi arg0 c8_i32_31
  let c128_i32_32 : BitVec 32 := 128#32
  let v142 : BitVec 32 := Scalar.muli v141 c128_i32_32
  let v143 : BitVec 32 := Scalar.addi v142 c5_i32
  let v150 : Index := Scalar.indexCast v143
  ![v150.toNat]
def k1_mult7 (v172 : BitVec 32) : BitVec 32 :=
  v172

def k1_off15 (v172 : BitVec 32) : Fin 2 → Nat :=
  let v173 : BitVec 32 := v172
  let v174 : Index := Scalar.indexCast v173
  let c0_39 : Index := 0#32
  ![v174.toNat, 0]

def k1_chk7 (i : grid1.Coords) (v172 : BitVec 32) : Prop :=
  (∀ (k1_h2 : k1_cond2 i = 1#1), 8 ∣ (k1_mult7 v172).toNat) ∧
  (∀ (k1_h2 : k1_cond2 i = 1#1), ∀ a, (k1_off15 v172) a + S40x256.size a ≤ S32768x256.size a)
theorem k1_mult7_dvd : ∀ (i : grid1.Coords) (v172 : BitVec 32) (k1_hw7 : k1_chk7 i v172), ∀ (k1_h2 : k1_cond2 i = 1#1), 8 ∣ (k1_mult7 v172).toNat := fun i v172 k1_hw7 k1_h2 => k1_hw7.1 k1_h2
theorem k1_off15_inb : ∀ (i : grid1.Coords) (v172 : BitVec 32) (k1_hw7 : k1_chk7 i v172), ∀ (k1_h2 : k1_cond2 i = 1#1), ∀ a, (k1_off15 v172) a + S40x256.size a ≤ S32768x256.size a := fun i v172 k1_hw7 k1_h2 => k1_hw7.2 k1_h2

def k1_off16 (i : grid1.Coords) (c6_i32 : BitVec 32) : Fin 1 → Nat :=
  let arg0 : BitVec 32 := BitVec.ofNat 32 (i 0).val
  let c8_i32_37 : BitVec 32 := 8#32
  let v168 : BitVec 32 := Scalar.subi arg0 c8_i32_37
  let c128_i32_38 : BitVec 32 := 128#32
  let v169 : BitVec 32 := Scalar.muli v168 c128_i32_38
  let v170 : BitVec 32 := Scalar.addi v169 c6_i32
  let v177 : Index := Scalar.indexCast v170
  ![v177.toNat]
def k1_mult8 (v199 : BitVec 32) : BitVec 32 :=
  v199

def k1_off17 (v199 : BitVec 32) : Fin 2 → Nat :=
  let v200 : BitVec 32 := v199
  let v201 : Index := Scalar.indexCast v200
  let c0_45 : Index := 0#32
  ![v201.toNat, 0]

def k1_chk8 (i : grid1.Coords) (v199 : BitVec 32) : Prop :=
  (∀ (k1_h2 : k1_cond2 i = 1#1), 8 ∣ (k1_mult8 v199).toNat) ∧
  (∀ (k1_h2 : k1_cond2 i = 1#1), ∀ a, (k1_off17 v199) a + S40x256.size a ≤ S32768x256.size a)
theorem k1_mult8_dvd : ∀ (i : grid1.Coords) (v199 : BitVec 32) (k1_hw8 : k1_chk8 i v199), ∀ (k1_h2 : k1_cond2 i = 1#1), 8 ∣ (k1_mult8 v199).toNat := fun i v199 k1_hw8 k1_h2 => k1_hw8.1 k1_h2
theorem k1_off17_inb : ∀ (i : grid1.Coords) (v199 : BitVec 32) (k1_hw8 : k1_chk8 i v199), ∀ (k1_h2 : k1_cond2 i = 1#1), ∀ a, (k1_off17 v199) a + S40x256.size a ≤ S32768x256.size a := fun i v199 k1_hw8 k1_h2 => k1_hw8.2 k1_h2

def k1_off18 (i : grid1.Coords) (c7_i32 : BitVec 32) : Fin 1 → Nat :=
  let arg0 : BitVec 32 := BitVec.ofNat 32 (i 0).val
  let c8_i32_43 : BitVec 32 := 8#32
  let v195 : BitVec 32 := Scalar.subi arg0 c8_i32_43
  let c128_i32_44 : BitVec 32 := 128#32
  let v196 : BitVec 32 := Scalar.muli v195 c128_i32_44
  let v197 : BitVec 32 := Scalar.addi v196 c7_i32
  let v204 : Index := Scalar.indexCast v197
  ![v204.toNat]
def k1_mult9 (v226 : BitVec 32) : BitVec 32 :=
  v226

def k1_off19 (v226 : BitVec 32) : Fin 2 → Nat :=
  let v227 : BitVec 32 := v226
  let v228 : Index := Scalar.indexCast v227
  let c0_52 : Index := 0#32
  ![v228.toNat, 0]

def k1_chk9 (i : grid1.Coords) (v226 : BitVec 32) : Prop :=
  (∀ (k1_h2 : k1_cond2 i = 1#1), 8 ∣ (k1_mult9 v226).toNat) ∧
  (∀ (k1_h2 : k1_cond2 i = 1#1), ∀ a, (k1_off19 v226) a + S40x256.size a ≤ S32768x256.size a)
theorem k1_mult9_dvd : ∀ (i : grid1.Coords) (v226 : BitVec 32) (k1_hw9 : k1_chk9 i v226), ∀ (k1_h2 : k1_cond2 i = 1#1), 8 ∣ (k1_mult9 v226).toNat := fun i v226 k1_hw9 k1_h2 => k1_hw9.1 k1_h2
theorem k1_off19_inb : ∀ (i : grid1.Coords) (v226 : BitVec 32) (k1_hw9 : k1_chk9 i v226), ∀ (k1_h2 : k1_cond2 i = 1#1), ∀ a, (k1_off19 v226) a + S40x256.size a ≤ S32768x256.size a := fun i v226 k1_hw9 k1_h2 => k1_hw9.2 k1_h2

def k1_off20 (i : grid1.Coords) (c8_i32_51 : BitVec 32) : Fin 1 → Nat :=
  let arg0 : BitVec 32 := BitVec.ofNat 32 (i 0).val
  let c8_i32_49 : BitVec 32 := 8#32
  let v222 : BitVec 32 := Scalar.subi arg0 c8_i32_49
  let c128_i32_50 : BitVec 32 := 128#32
  let v223 : BitVec 32 := Scalar.muli v222 c128_i32_50
  let v224 : BitVec 32 := Scalar.addi v223 c8_i32_51
  let v231 : Index := Scalar.indexCast v224
  ![v231.toNat]
def k1_mult10 (v253 : BitVec 32) : BitVec 32 :=
  v253

def k1_off21 (v253 : BitVec 32) : Fin 2 → Nat :=
  let v254 : BitVec 32 := v253
  let v255 : Index := Scalar.indexCast v254
  let c0_58 : Index := 0#32
  ![v255.toNat, 0]

def k1_chk10 (i : grid1.Coords) (v253 : BitVec 32) : Prop :=
  (∀ (k1_h2 : k1_cond2 i = 1#1), 8 ∣ (k1_mult10 v253).toNat) ∧
  (∀ (k1_h2 : k1_cond2 i = 1#1), ∀ a, (k1_off21 v253) a + S40x256.size a ≤ S32768x256.size a)
theorem k1_mult10_dvd : ∀ (i : grid1.Coords) (v253 : BitVec 32) (k1_hw10 : k1_chk10 i v253), ∀ (k1_h2 : k1_cond2 i = 1#1), 8 ∣ (k1_mult10 v253).toNat := fun i v253 k1_hw10 k1_h2 => k1_hw10.1 k1_h2
theorem k1_off21_inb : ∀ (i : grid1.Coords) (v253 : BitVec 32) (k1_hw10 : k1_chk10 i v253), ∀ (k1_h2 : k1_cond2 i = 1#1), ∀ a, (k1_off21 v253) a + S40x256.size a ≤ S32768x256.size a := fun i v253 k1_hw10 k1_h2 => k1_hw10.2 k1_h2

def k1_off22 (i : grid1.Coords) (c9_i32 : BitVec 32) : Fin 1 → Nat :=
  let arg0 : BitVec 32 := BitVec.ofNat 32 (i 0).val
  let c8_i32_56 : BitVec 32 := 8#32
  let v249 : BitVec 32 := Scalar.subi arg0 c8_i32_56
  let c128_i32_57 : BitVec 32 := 128#32
  let v250 : BitVec 32 := Scalar.muli v249 c128_i32_57
  let v251 : BitVec 32 := Scalar.addi v250 c9_i32
  let v258 : Index := Scalar.indexCast v251
  ![v258.toNat]
def k1_mult11 (v280 : BitVec 32) : BitVec 32 :=
  v280

def k1_off23 (v280 : BitVec 32) : Fin 2 → Nat :=
  let v281 : BitVec 32 := v280
  let v282 : Index := Scalar.indexCast v281
  let c0_64 : Index := 0#32
  ![v282.toNat, 0]

def k1_chk11 (i : grid1.Coords) (v280 : BitVec 32) : Prop :=
  (∀ (k1_h2 : k1_cond2 i = 1#1), 8 ∣ (k1_mult11 v280).toNat) ∧
  (∀ (k1_h2 : k1_cond2 i = 1#1), ∀ a, (k1_off23 v280) a + S40x256.size a ≤ S32768x256.size a)
theorem k1_mult11_dvd : ∀ (i : grid1.Coords) (v280 : BitVec 32) (k1_hw11 : k1_chk11 i v280), ∀ (k1_h2 : k1_cond2 i = 1#1), 8 ∣ (k1_mult11 v280).toNat := fun i v280 k1_hw11 k1_h2 => k1_hw11.1 k1_h2
theorem k1_off23_inb : ∀ (i : grid1.Coords) (v280 : BitVec 32) (k1_hw11 : k1_chk11 i v280), ∀ (k1_h2 : k1_cond2 i = 1#1), ∀ a, (k1_off23 v280) a + S40x256.size a ≤ S32768x256.size a := fun i v280 k1_hw11 k1_h2 => k1_hw11.2 k1_h2

def k1_off24 (i : grid1.Coords) (c10_i32 : BitVec 32) : Fin 1 → Nat :=
  let arg0 : BitVec 32 := BitVec.ofNat 32 (i 0).val
  let c8_i32_62 : BitVec 32 := 8#32
  let v276 : BitVec 32 := Scalar.subi arg0 c8_i32_62
  let c128_i32_63 : BitVec 32 := 128#32
  let v277 : BitVec 32 := Scalar.muli v276 c128_i32_63
  let v278 : BitVec 32 := Scalar.addi v277 c10_i32
  let v285 : Index := Scalar.indexCast v278
  ![v285.toNat]
def k1_mult12 (v307 : BitVec 32) : BitVec 32 :=
  v307

def k1_off25 (v307 : BitVec 32) : Fin 2 → Nat :=
  let v308 : BitVec 32 := v307
  let v309 : Index := Scalar.indexCast v308
  let c0_70 : Index := 0#32
  ![v309.toNat, 0]

def k1_chk12 (i : grid1.Coords) (v307 : BitVec 32) : Prop :=
  (∀ (k1_h2 : k1_cond2 i = 1#1), 8 ∣ (k1_mult12 v307).toNat) ∧
  (∀ (k1_h2 : k1_cond2 i = 1#1), ∀ a, (k1_off25 v307) a + S40x256.size a ≤ S32768x256.size a)
theorem k1_mult12_dvd : ∀ (i : grid1.Coords) (v307 : BitVec 32) (k1_hw12 : k1_chk12 i v307), ∀ (k1_h2 : k1_cond2 i = 1#1), 8 ∣ (k1_mult12 v307).toNat := fun i v307 k1_hw12 k1_h2 => k1_hw12.1 k1_h2
theorem k1_off25_inb : ∀ (i : grid1.Coords) (v307 : BitVec 32) (k1_hw12 : k1_chk12 i v307), ∀ (k1_h2 : k1_cond2 i = 1#1), ∀ a, (k1_off25 v307) a + S40x256.size a ≤ S32768x256.size a := fun i v307 k1_hw12 k1_h2 => k1_hw12.2 k1_h2

def k1_off26 (i : grid1.Coords) (c11_i32 : BitVec 32) : Fin 1 → Nat :=
  let arg0 : BitVec 32 := BitVec.ofNat 32 (i 0).val
  let c8_i32_68 : BitVec 32 := 8#32
  let v303 : BitVec 32 := Scalar.subi arg0 c8_i32_68
  let c128_i32_69 : BitVec 32 := 128#32
  let v304 : BitVec 32 := Scalar.muli v303 c128_i32_69
  let v305 : BitVec 32 := Scalar.addi v304 c11_i32
  let v312 : Index := Scalar.indexCast v305
  ![v312.toNat]
def k1_mult13 (v334 : BitVec 32) : BitVec 32 :=
  v334

def k1_off27 (v334 : BitVec 32) : Fin 2 → Nat :=
  let v335 : BitVec 32 := v334
  let v336 : Index := Scalar.indexCast v335
  let c0_76 : Index := 0#32
  ![v336.toNat, 0]

def k1_chk13 (i : grid1.Coords) (v334 : BitVec 32) : Prop :=
  (∀ (k1_h2 : k1_cond2 i = 1#1), 8 ∣ (k1_mult13 v334).toNat) ∧
  (∀ (k1_h2 : k1_cond2 i = 1#1), ∀ a, (k1_off27 v334) a + S40x256.size a ≤ S32768x256.size a)
theorem k1_mult13_dvd : ∀ (i : grid1.Coords) (v334 : BitVec 32) (k1_hw13 : k1_chk13 i v334), ∀ (k1_h2 : k1_cond2 i = 1#1), 8 ∣ (k1_mult13 v334).toNat := fun i v334 k1_hw13 k1_h2 => k1_hw13.1 k1_h2
theorem k1_off27_inb : ∀ (i : grid1.Coords) (v334 : BitVec 32) (k1_hw13 : k1_chk13 i v334), ∀ (k1_h2 : k1_cond2 i = 1#1), ∀ a, (k1_off27 v334) a + S40x256.size a ≤ S32768x256.size a := fun i v334 k1_hw13 k1_h2 => k1_hw13.2 k1_h2

def k1_off28 (i : grid1.Coords) (c12_i32 : BitVec 32) : Fin 1 → Nat :=
  let arg0 : BitVec 32 := BitVec.ofNat 32 (i 0).val
  let c8_i32_74 : BitVec 32 := 8#32
  let v330 : BitVec 32 := Scalar.subi arg0 c8_i32_74
  let c128_i32_75 : BitVec 32 := 128#32
  let v331 : BitVec 32 := Scalar.muli v330 c128_i32_75
  let v332 : BitVec 32 := Scalar.addi v331 c12_i32
  let v339 : Index := Scalar.indexCast v332
  ![v339.toNat]
def k1_mult14 (v361 : BitVec 32) : BitVec 32 :=
  v361

def k1_off29 (v361 : BitVec 32) : Fin 2 → Nat :=
  let v362 : BitVec 32 := v361
  let v363 : Index := Scalar.indexCast v362
  let c0_82 : Index := 0#32
  ![v363.toNat, 0]

def k1_chk14 (i : grid1.Coords) (v361 : BitVec 32) : Prop :=
  (∀ (k1_h2 : k1_cond2 i = 1#1), 8 ∣ (k1_mult14 v361).toNat) ∧
  (∀ (k1_h2 : k1_cond2 i = 1#1), ∀ a, (k1_off29 v361) a + S40x256.size a ≤ S32768x256.size a)
theorem k1_mult14_dvd : ∀ (i : grid1.Coords) (v361 : BitVec 32) (k1_hw14 : k1_chk14 i v361), ∀ (k1_h2 : k1_cond2 i = 1#1), 8 ∣ (k1_mult14 v361).toNat := fun i v361 k1_hw14 k1_h2 => k1_hw14.1 k1_h2
theorem k1_off29_inb : ∀ (i : grid1.Coords) (v361 : BitVec 32) (k1_hw14 : k1_chk14 i v361), ∀ (k1_h2 : k1_cond2 i = 1#1), ∀ a, (k1_off29 v361) a + S40x256.size a ≤ S32768x256.size a := fun i v361 k1_hw14 k1_h2 => k1_hw14.2 k1_h2

def k1_off30 (i : grid1.Coords) (c13_i32 : BitVec 32) : Fin 1 → Nat :=
  let arg0 : BitVec 32 := BitVec.ofNat 32 (i 0).val
  let c8_i32_80 : BitVec 32 := 8#32
  let v357 : BitVec 32 := Scalar.subi arg0 c8_i32_80
  let c128_i32_81 : BitVec 32 := 128#32
  let v358 : BitVec 32 := Scalar.muli v357 c128_i32_81
  let v359 : BitVec 32 := Scalar.addi v358 c13_i32
  let v366 : Index := Scalar.indexCast v359
  ![v366.toNat]
def k1_mult15 (v388 : BitVec 32) : BitVec 32 :=
  v388

def k1_off31 (v388 : BitVec 32) : Fin 2 → Nat :=
  let v389 : BitVec 32 := v388
  let v390 : Index := Scalar.indexCast v389
  let c0_88 : Index := 0#32
  ![v390.toNat, 0]

def k1_chk15 (i : grid1.Coords) (v388 : BitVec 32) : Prop :=
  (∀ (k1_h2 : k1_cond2 i = 1#1), 8 ∣ (k1_mult15 v388).toNat) ∧
  (∀ (k1_h2 : k1_cond2 i = 1#1), ∀ a, (k1_off31 v388) a + S40x256.size a ≤ S32768x256.size a)
theorem k1_mult15_dvd : ∀ (i : grid1.Coords) (v388 : BitVec 32) (k1_hw15 : k1_chk15 i v388), ∀ (k1_h2 : k1_cond2 i = 1#1), 8 ∣ (k1_mult15 v388).toNat := fun i v388 k1_hw15 k1_h2 => k1_hw15.1 k1_h2
theorem k1_off31_inb : ∀ (i : grid1.Coords) (v388 : BitVec 32) (k1_hw15 : k1_chk15 i v388), ∀ (k1_h2 : k1_cond2 i = 1#1), ∀ a, (k1_off31 v388) a + S40x256.size a ≤ S32768x256.size a := fun i v388 k1_hw15 k1_h2 => k1_hw15.2 k1_h2

def k1_off32 (i : grid1.Coords) (c14_i32 : BitVec 32) : Fin 1 → Nat :=
  let arg0 : BitVec 32 := BitVec.ofNat 32 (i 0).val
  let c8_i32_86 : BitVec 32 := 8#32
  let v384 : BitVec 32 := Scalar.subi arg0 c8_i32_86
  let c128_i32_87 : BitVec 32 := 128#32
  let v385 : BitVec 32 := Scalar.muli v384 c128_i32_87
  let v386 : BitVec 32 := Scalar.addi v385 c14_i32
  let v393 : Index := Scalar.indexCast v386
  ![v393.toNat]
def k1_mult16 (v415 : BitVec 32) : BitVec 32 :=
  v415

def k1_off33 (v415 : BitVec 32) : Fin 2 → Nat :=
  let v416 : BitVec 32 := v415
  let v417 : Index := Scalar.indexCast v416
  let c0_94 : Index := 0#32
  ![v417.toNat, 0]

def k1_chk16 (i : grid1.Coords) (v415 : BitVec 32) : Prop :=
  (∀ (k1_h2 : k1_cond2 i = 1#1), 8 ∣ (k1_mult16 v415).toNat) ∧
  (∀ (k1_h2 : k1_cond2 i = 1#1), ∀ a, (k1_off33 v415) a + S40x256.size a ≤ S32768x256.size a)
theorem k1_mult16_dvd : ∀ (i : grid1.Coords) (v415 : BitVec 32) (k1_hw16 : k1_chk16 i v415), ∀ (k1_h2 : k1_cond2 i = 1#1), 8 ∣ (k1_mult16 v415).toNat := fun i v415 k1_hw16 k1_h2 => k1_hw16.1 k1_h2
theorem k1_off33_inb : ∀ (i : grid1.Coords) (v415 : BitVec 32) (k1_hw16 : k1_chk16 i v415), ∀ (k1_h2 : k1_cond2 i = 1#1), ∀ a, (k1_off33 v415) a + S40x256.size a ≤ S32768x256.size a := fun i v415 k1_hw16 k1_h2 => k1_hw16.2 k1_h2

def k1_off34 (i : grid1.Coords) (c15_i32 : BitVec 32) : Fin 1 → Nat :=
  let arg0 : BitVec 32 := BitVec.ofNat 32 (i 0).val
  let c8_i32_92 : BitVec 32 := 8#32
  let v411 : BitVec 32 := Scalar.subi arg0 c8_i32_92
  let c128_i32_93 : BitVec 32 := 128#32
  let v412 : BitVec 32 := Scalar.muli v411 c128_i32_93
  let v413 : BitVec 32 := Scalar.addi v412 c15_i32
  let v420 : Index := Scalar.indexCast v413
  ![v420.toNat]
def k1_mult17 (v442 : BitVec 32) : BitVec 32 :=
  v442

def k1_off35 (v442 : BitVec 32) : Fin 2 → Nat :=
  let v443 : BitVec 32 := v442
  let v444 : Index := Scalar.indexCast v443
  let c0_100 : Index := 0#32
  ![v444.toNat, 0]

def k1_chk17 (i : grid1.Coords) (v442 : BitVec 32) : Prop :=
  (∀ (k1_h2 : k1_cond2 i = 1#1), 8 ∣ (k1_mult17 v442).toNat) ∧
  (∀ (k1_h2 : k1_cond2 i = 1#1), ∀ a, (k1_off35 v442) a + S40x256.size a ≤ S32768x256.size a)
theorem k1_mult17_dvd : ∀ (i : grid1.Coords) (v442 : BitVec 32) (k1_hw17 : k1_chk17 i v442), ∀ (k1_h2 : k1_cond2 i = 1#1), 8 ∣ (k1_mult17 v442).toNat := fun i v442 k1_hw17 k1_h2 => k1_hw17.1 k1_h2
theorem k1_off35_inb : ∀ (i : grid1.Coords) (v442 : BitVec 32) (k1_hw17 : k1_chk17 i v442), ∀ (k1_h2 : k1_cond2 i = 1#1), ∀ a, (k1_off35 v442) a + S40x256.size a ≤ S32768x256.size a := fun i v442 k1_hw17 k1_h2 => k1_hw17.2 k1_h2

def k1_off36 (i : grid1.Coords) (c16_i32 : BitVec 32) : Fin 1 → Nat :=
  let arg0 : BitVec 32 := BitVec.ofNat 32 (i 0).val
  let c8_i32_98 : BitVec 32 := 8#32
  let v438 : BitVec 32 := Scalar.subi arg0 c8_i32_98
  let c128_i32_99 : BitVec 32 := 128#32
  let v439 : BitVec 32 := Scalar.muli v438 c128_i32_99
  let v440 : BitVec 32 := Scalar.addi v439 c16_i32
  let v447 : Index := Scalar.indexCast v440
  ![v447.toNat]
def k1_mult18 (v469 : BitVec 32) : BitVec 32 :=
  v469

def k1_off37 (v469 : BitVec 32) : Fin 2 → Nat :=
  let v470 : BitVec 32 := v469
  let v471 : Index := Scalar.indexCast v470
  let c0_106 : Index := 0#32
  ![v471.toNat, 0]

def k1_chk18 (i : grid1.Coords) (v469 : BitVec 32) : Prop :=
  (∀ (k1_h2 : k1_cond2 i = 1#1), 8 ∣ (k1_mult18 v469).toNat) ∧
  (∀ (k1_h2 : k1_cond2 i = 1#1), ∀ a, (k1_off37 v469) a + S40x256.size a ≤ S32768x256.size a)
theorem k1_mult18_dvd : ∀ (i : grid1.Coords) (v469 : BitVec 32) (k1_hw18 : k1_chk18 i v469), ∀ (k1_h2 : k1_cond2 i = 1#1), 8 ∣ (k1_mult18 v469).toNat := fun i v469 k1_hw18 k1_h2 => k1_hw18.1 k1_h2
theorem k1_off37_inb : ∀ (i : grid1.Coords) (v469 : BitVec 32) (k1_hw18 : k1_chk18 i v469), ∀ (k1_h2 : k1_cond2 i = 1#1), ∀ a, (k1_off37 v469) a + S40x256.size a ≤ S32768x256.size a := fun i v469 k1_hw18 k1_h2 => k1_hw18.2 k1_h2

def k1_off38 (i : grid1.Coords) (c17_i32 : BitVec 32) : Fin 1 → Nat :=
  let arg0 : BitVec 32 := BitVec.ofNat 32 (i 0).val
  let c8_i32_104 : BitVec 32 := 8#32
  let v465 : BitVec 32 := Scalar.subi arg0 c8_i32_104
  let c128_i32_105 : BitVec 32 := 128#32
  let v466 : BitVec 32 := Scalar.muli v465 c128_i32_105
  let v467 : BitVec 32 := Scalar.addi v466 c17_i32
  let v474 : Index := Scalar.indexCast v467
  ![v474.toNat]
def k1_mult19 (v496 : BitVec 32) : BitVec 32 :=
  v496

def k1_off39 (v496 : BitVec 32) : Fin 2 → Nat :=
  let v497 : BitVec 32 := v496
  let v498 : Index := Scalar.indexCast v497
  let c0_112 : Index := 0#32
  ![v498.toNat, 0]

def k1_chk19 (i : grid1.Coords) (v496 : BitVec 32) : Prop :=
  (∀ (k1_h2 : k1_cond2 i = 1#1), 8 ∣ (k1_mult19 v496).toNat) ∧
  (∀ (k1_h2 : k1_cond2 i = 1#1), ∀ a, (k1_off39 v496) a + S40x256.size a ≤ S32768x256.size a)
theorem k1_mult19_dvd : ∀ (i : grid1.Coords) (v496 : BitVec 32) (k1_hw19 : k1_chk19 i v496), ∀ (k1_h2 : k1_cond2 i = 1#1), 8 ∣ (k1_mult19 v496).toNat := fun i v496 k1_hw19 k1_h2 => k1_hw19.1 k1_h2
theorem k1_off39_inb : ∀ (i : grid1.Coords) (v496 : BitVec 32) (k1_hw19 : k1_chk19 i v496), ∀ (k1_h2 : k1_cond2 i = 1#1), ∀ a, (k1_off39 v496) a + S40x256.size a ≤ S32768x256.size a := fun i v496 k1_hw19 k1_h2 => k1_hw19.2 k1_h2

def k1_off40 (i : grid1.Coords) (c18_i32 : BitVec 32) : Fin 1 → Nat :=
  let arg0 : BitVec 32 := BitVec.ofNat 32 (i 0).val
  let c8_i32_110 : BitVec 32 := 8#32
  let v492 : BitVec 32 := Scalar.subi arg0 c8_i32_110
  let c128_i32_111 : BitVec 32 := 128#32
  let v493 : BitVec 32 := Scalar.muli v492 c128_i32_111
  let v494 : BitVec 32 := Scalar.addi v493 c18_i32
  let v501 : Index := Scalar.indexCast v494
  ![v501.toNat]
def k1_mult20 (v523 : BitVec 32) : BitVec 32 :=
  v523

def k1_off41 (v523 : BitVec 32) : Fin 2 → Nat :=
  let v524 : BitVec 32 := v523
  let v525 : Index := Scalar.indexCast v524
  let c0_118 : Index := 0#32
  ![v525.toNat, 0]

def k1_chk20 (i : grid1.Coords) (v523 : BitVec 32) : Prop :=
  (∀ (k1_h2 : k1_cond2 i = 1#1), 8 ∣ (k1_mult20 v523).toNat) ∧
  (∀ (k1_h2 : k1_cond2 i = 1#1), ∀ a, (k1_off41 v523) a + S40x256.size a ≤ S32768x256.size a)
theorem k1_mult20_dvd : ∀ (i : grid1.Coords) (v523 : BitVec 32) (k1_hw20 : k1_chk20 i v523), ∀ (k1_h2 : k1_cond2 i = 1#1), 8 ∣ (k1_mult20 v523).toNat := fun i v523 k1_hw20 k1_h2 => k1_hw20.1 k1_h2
theorem k1_off41_inb : ∀ (i : grid1.Coords) (v523 : BitVec 32) (k1_hw20 : k1_chk20 i v523), ∀ (k1_h2 : k1_cond2 i = 1#1), ∀ a, (k1_off41 v523) a + S40x256.size a ≤ S32768x256.size a := fun i v523 k1_hw20 k1_h2 => k1_hw20.2 k1_h2

def k1_off42 (i : grid1.Coords) (c19_i32 : BitVec 32) : Fin 1 → Nat :=
  let arg0 : BitVec 32 := BitVec.ofNat 32 (i 0).val
  let c8_i32_116 : BitVec 32 := 8#32
  let v519 : BitVec 32 := Scalar.subi arg0 c8_i32_116
  let c128_i32_117 : BitVec 32 := 128#32
  let v520 : BitVec 32 := Scalar.muli v519 c128_i32_117
  let v521 : BitVec 32 := Scalar.addi v520 c19_i32
  let v528 : Index := Scalar.indexCast v521
  ![v528.toNat]
def k1_mult21 (v550 : BitVec 32) : BitVec 32 :=
  v550

def k1_off43 (v550 : BitVec 32) : Fin 2 → Nat :=
  let v551 : BitVec 32 := v550
  let v552 : Index := Scalar.indexCast v551
  let c0_124 : Index := 0#32
  ![v552.toNat, 0]

def k1_chk21 (i : grid1.Coords) (v550 : BitVec 32) : Prop :=
  (∀ (k1_h2 : k1_cond2 i = 1#1), 8 ∣ (k1_mult21 v550).toNat) ∧
  (∀ (k1_h2 : k1_cond2 i = 1#1), ∀ a, (k1_off43 v550) a + S40x256.size a ≤ S32768x256.size a)
theorem k1_mult21_dvd : ∀ (i : grid1.Coords) (v550 : BitVec 32) (k1_hw21 : k1_chk21 i v550), ∀ (k1_h2 : k1_cond2 i = 1#1), 8 ∣ (k1_mult21 v550).toNat := fun i v550 k1_hw21 k1_h2 => k1_hw21.1 k1_h2
theorem k1_off43_inb : ∀ (i : grid1.Coords) (v550 : BitVec 32) (k1_hw21 : k1_chk21 i v550), ∀ (k1_h2 : k1_cond2 i = 1#1), ∀ a, (k1_off43 v550) a + S40x256.size a ≤ S32768x256.size a := fun i v550 k1_hw21 k1_h2 => k1_hw21.2 k1_h2

def k1_off44 (i : grid1.Coords) (c20_i32 : BitVec 32) : Fin 1 → Nat :=
  let arg0 : BitVec 32 := BitVec.ofNat 32 (i 0).val
  let c8_i32_122 : BitVec 32 := 8#32
  let v546 : BitVec 32 := Scalar.subi arg0 c8_i32_122
  let c128_i32_123 : BitVec 32 := 128#32
  let v547 : BitVec 32 := Scalar.muli v546 c128_i32_123
  let v548 : BitVec 32 := Scalar.addi v547 c20_i32
  let v555 : Index := Scalar.indexCast v548
  ![v555.toNat]
def k1_mult22 (v577 : BitVec 32) : BitVec 32 :=
  v577

def k1_off45 (v577 : BitVec 32) : Fin 2 → Nat :=
  let v578 : BitVec 32 := v577
  let v579 : Index := Scalar.indexCast v578
  let c0_130 : Index := 0#32
  ![v579.toNat, 0]

def k1_chk22 (i : grid1.Coords) (v577 : BitVec 32) : Prop :=
  (∀ (k1_h2 : k1_cond2 i = 1#1), 8 ∣ (k1_mult22 v577).toNat) ∧
  (∀ (k1_h2 : k1_cond2 i = 1#1), ∀ a, (k1_off45 v577) a + S40x256.size a ≤ S32768x256.size a)
theorem k1_mult22_dvd : ∀ (i : grid1.Coords) (v577 : BitVec 32) (k1_hw22 : k1_chk22 i v577), ∀ (k1_h2 : k1_cond2 i = 1#1), 8 ∣ (k1_mult22 v577).toNat := fun i v577 k1_hw22 k1_h2 => k1_hw22.1 k1_h2
theorem k1_off45_inb : ∀ (i : grid1.Coords) (v577 : BitVec 32) (k1_hw22 : k1_chk22 i v577), ∀ (k1_h2 : k1_cond2 i = 1#1), ∀ a, (k1_off45 v577) a + S40x256.size a ≤ S32768x256.size a := fun i v577 k1_hw22 k1_h2 => k1_hw22.2 k1_h2

def k1_off46 (i : grid1.Coords) (c21_i32 : BitVec 32) : Fin 1 → Nat :=
  let arg0 : BitVec 32 := BitVec.ofNat 32 (i 0).val
  let c8_i32_128 : BitVec 32 := 8#32
  let v573 : BitVec 32 := Scalar.subi arg0 c8_i32_128
  let c128_i32_129 : BitVec 32 := 128#32
  let v574 : BitVec 32 := Scalar.muli v573 c128_i32_129
  let v575 : BitVec 32 := Scalar.addi v574 c21_i32
  let v582 : Index := Scalar.indexCast v575
  ![v582.toNat]
def k1_mult23 (v604 : BitVec 32) : BitVec 32 :=
  v604

def k1_off47 (v604 : BitVec 32) : Fin 2 → Nat :=
  let v605 : BitVec 32 := v604
  let v606 : Index := Scalar.indexCast v605
  let c0_136 : Index := 0#32
  ![v606.toNat, 0]

def k1_chk23 (i : grid1.Coords) (v604 : BitVec 32) : Prop :=
  (∀ (k1_h2 : k1_cond2 i = 1#1), 8 ∣ (k1_mult23 v604).toNat) ∧
  (∀ (k1_h2 : k1_cond2 i = 1#1), ∀ a, (k1_off47 v604) a + S40x256.size a ≤ S32768x256.size a)
theorem k1_mult23_dvd : ∀ (i : grid1.Coords) (v604 : BitVec 32) (k1_hw23 : k1_chk23 i v604), ∀ (k1_h2 : k1_cond2 i = 1#1), 8 ∣ (k1_mult23 v604).toNat := fun i v604 k1_hw23 k1_h2 => k1_hw23.1 k1_h2
theorem k1_off47_inb : ∀ (i : grid1.Coords) (v604 : BitVec 32) (k1_hw23 : k1_chk23 i v604), ∀ (k1_h2 : k1_cond2 i = 1#1), ∀ a, (k1_off47 v604) a + S40x256.size a ≤ S32768x256.size a := fun i v604 k1_hw23 k1_h2 => k1_hw23.2 k1_h2

def k1_off48 (i : grid1.Coords) (c22_i32 : BitVec 32) : Fin 1 → Nat :=
  let arg0 : BitVec 32 := BitVec.ofNat 32 (i 0).val
  let c8_i32_134 : BitVec 32 := 8#32
  let v600 : BitVec 32 := Scalar.subi arg0 c8_i32_134
  let c128_i32_135 : BitVec 32 := 128#32
  let v601 : BitVec 32 := Scalar.muli v600 c128_i32_135
  let v602 : BitVec 32 := Scalar.addi v601 c22_i32
  let v609 : Index := Scalar.indexCast v602
  ![v609.toNat]
def k1_mult24 (v631 : BitVec 32) : BitVec 32 :=
  v631

def k1_off49 (v631 : BitVec 32) : Fin 2 → Nat :=
  let v632 : BitVec 32 := v631
  let v633 : Index := Scalar.indexCast v632
  let c0_142 : Index := 0#32
  ![v633.toNat, 0]

def k1_chk24 (i : grid1.Coords) (v631 : BitVec 32) : Prop :=
  (∀ (k1_h2 : k1_cond2 i = 1#1), 8 ∣ (k1_mult24 v631).toNat) ∧
  (∀ (k1_h2 : k1_cond2 i = 1#1), ∀ a, (k1_off49 v631) a + S40x256.size a ≤ S32768x256.size a)
theorem k1_mult24_dvd : ∀ (i : grid1.Coords) (v631 : BitVec 32) (k1_hw24 : k1_chk24 i v631), ∀ (k1_h2 : k1_cond2 i = 1#1), 8 ∣ (k1_mult24 v631).toNat := fun i v631 k1_hw24 k1_h2 => k1_hw24.1 k1_h2
theorem k1_off49_inb : ∀ (i : grid1.Coords) (v631 : BitVec 32) (k1_hw24 : k1_chk24 i v631), ∀ (k1_h2 : k1_cond2 i = 1#1), ∀ a, (k1_off49 v631) a + S40x256.size a ≤ S32768x256.size a := fun i v631 k1_hw24 k1_h2 => k1_hw24.2 k1_h2

def k1_off50 (i : grid1.Coords) (c23_i32 : BitVec 32) : Fin 1 → Nat :=
  let arg0 : BitVec 32 := BitVec.ofNat 32 (i 0).val
  let c8_i32_140 : BitVec 32 := 8#32
  let v627 : BitVec 32 := Scalar.subi arg0 c8_i32_140
  let c128_i32_141 : BitVec 32 := 128#32
  let v628 : BitVec 32 := Scalar.muli v627 c128_i32_141
  let v629 : BitVec 32 := Scalar.addi v628 c23_i32
  let v636 : Index := Scalar.indexCast v629
  ![v636.toNat]
def k1_mult25 (v658 : BitVec 32) : BitVec 32 :=
  v658

def k1_off51 (v658 : BitVec 32) : Fin 2 → Nat :=
  let v659 : BitVec 32 := v658
  let v660 : Index := Scalar.indexCast v659
  let c0_148 : Index := 0#32
  ![v660.toNat, 0]

def k1_chk25 (i : grid1.Coords) (v658 : BitVec 32) : Prop :=
  (∀ (k1_h2 : k1_cond2 i = 1#1), 8 ∣ (k1_mult25 v658).toNat) ∧
  (∀ (k1_h2 : k1_cond2 i = 1#1), ∀ a, (k1_off51 v658) a + S40x256.size a ≤ S32768x256.size a)
theorem k1_mult25_dvd : ∀ (i : grid1.Coords) (v658 : BitVec 32) (k1_hw25 : k1_chk25 i v658), ∀ (k1_h2 : k1_cond2 i = 1#1), 8 ∣ (k1_mult25 v658).toNat := fun i v658 k1_hw25 k1_h2 => k1_hw25.1 k1_h2
theorem k1_off51_inb : ∀ (i : grid1.Coords) (v658 : BitVec 32) (k1_hw25 : k1_chk25 i v658), ∀ (k1_h2 : k1_cond2 i = 1#1), ∀ a, (k1_off51 v658) a + S40x256.size a ≤ S32768x256.size a := fun i v658 k1_hw25 k1_h2 => k1_hw25.2 k1_h2

def k1_off52 (i : grid1.Coords) (c24_i32 : BitVec 32) : Fin 1 → Nat :=
  let arg0 : BitVec 32 := BitVec.ofNat 32 (i 0).val
  let c8_i32_146 : BitVec 32 := 8#32
  let v654 : BitVec 32 := Scalar.subi arg0 c8_i32_146
  let c128_i32_147 : BitVec 32 := 128#32
  let v655 : BitVec 32 := Scalar.muli v654 c128_i32_147
  let v656 : BitVec 32 := Scalar.addi v655 c24_i32
  let v663 : Index := Scalar.indexCast v656
  ![v663.toNat]
def k1_mult26 (v685 : BitVec 32) : BitVec 32 :=
  v685

def k1_off53 (v685 : BitVec 32) : Fin 2 → Nat :=
  let v686 : BitVec 32 := v685
  let v687 : Index := Scalar.indexCast v686
  let c0_154 : Index := 0#32
  ![v687.toNat, 0]

def k1_chk26 (i : grid1.Coords) (v685 : BitVec 32) : Prop :=
  (∀ (k1_h2 : k1_cond2 i = 1#1), 8 ∣ (k1_mult26 v685).toNat) ∧
  (∀ (k1_h2 : k1_cond2 i = 1#1), ∀ a, (k1_off53 v685) a + S40x256.size a ≤ S32768x256.size a)
theorem k1_mult26_dvd : ∀ (i : grid1.Coords) (v685 : BitVec 32) (k1_hw26 : k1_chk26 i v685), ∀ (k1_h2 : k1_cond2 i = 1#1), 8 ∣ (k1_mult26 v685).toNat := fun i v685 k1_hw26 k1_h2 => k1_hw26.1 k1_h2
theorem k1_off53_inb : ∀ (i : grid1.Coords) (v685 : BitVec 32) (k1_hw26 : k1_chk26 i v685), ∀ (k1_h2 : k1_cond2 i = 1#1), ∀ a, (k1_off53 v685) a + S40x256.size a ≤ S32768x256.size a := fun i v685 k1_hw26 k1_h2 => k1_hw26.2 k1_h2

def k1_off54 (i : grid1.Coords) (c25_i32 : BitVec 32) : Fin 1 → Nat :=
  let arg0 : BitVec 32 := BitVec.ofNat 32 (i 0).val
  let c8_i32_152 : BitVec 32 := 8#32
  let v681 : BitVec 32 := Scalar.subi arg0 c8_i32_152
  let c128_i32_153 : BitVec 32 := 128#32
  let v682 : BitVec 32 := Scalar.muli v681 c128_i32_153
  let v683 : BitVec 32 := Scalar.addi v682 c25_i32
  let v690 : Index := Scalar.indexCast v683
  ![v690.toNat]
def k1_mult27 (v712 : BitVec 32) : BitVec 32 :=
  v712

def k1_off55 (v712 : BitVec 32) : Fin 2 → Nat :=
  let v713 : BitVec 32 := v712
  let v714 : Index := Scalar.indexCast v713
  let c0_160 : Index := 0#32
  ![v714.toNat, 0]

def k1_chk27 (i : grid1.Coords) (v712 : BitVec 32) : Prop :=
  (∀ (k1_h2 : k1_cond2 i = 1#1), 8 ∣ (k1_mult27 v712).toNat) ∧
  (∀ (k1_h2 : k1_cond2 i = 1#1), ∀ a, (k1_off55 v712) a + S40x256.size a ≤ S32768x256.size a)
theorem k1_mult27_dvd : ∀ (i : grid1.Coords) (v712 : BitVec 32) (k1_hw27 : k1_chk27 i v712), ∀ (k1_h2 : k1_cond2 i = 1#1), 8 ∣ (k1_mult27 v712).toNat := fun i v712 k1_hw27 k1_h2 => k1_hw27.1 k1_h2
theorem k1_off55_inb : ∀ (i : grid1.Coords) (v712 : BitVec 32) (k1_hw27 : k1_chk27 i v712), ∀ (k1_h2 : k1_cond2 i = 1#1), ∀ a, (k1_off55 v712) a + S40x256.size a ≤ S32768x256.size a := fun i v712 k1_hw27 k1_h2 => k1_hw27.2 k1_h2

def k1_off56 (i : grid1.Coords) (c26_i32 : BitVec 32) : Fin 1 → Nat :=
  let arg0 : BitVec 32 := BitVec.ofNat 32 (i 0).val
  let c8_i32_158 : BitVec 32 := 8#32
  let v708 : BitVec 32 := Scalar.subi arg0 c8_i32_158
  let c128_i32_159 : BitVec 32 := 128#32
  let v709 : BitVec 32 := Scalar.muli v708 c128_i32_159
  let v710 : BitVec 32 := Scalar.addi v709 c26_i32
  let v717 : Index := Scalar.indexCast v710
  ![v717.toNat]
def k1_mult28 (v739 : BitVec 32) : BitVec 32 :=
  v739

def k1_off57 (v739 : BitVec 32) : Fin 2 → Nat :=
  let v740 : BitVec 32 := v739
  let v741 : Index := Scalar.indexCast v740
  let c0_166 : Index := 0#32
  ![v741.toNat, 0]

def k1_chk28 (i : grid1.Coords) (v739 : BitVec 32) : Prop :=
  (∀ (k1_h2 : k1_cond2 i = 1#1), 8 ∣ (k1_mult28 v739).toNat) ∧
  (∀ (k1_h2 : k1_cond2 i = 1#1), ∀ a, (k1_off57 v739) a + S40x256.size a ≤ S32768x256.size a)
theorem k1_mult28_dvd : ∀ (i : grid1.Coords) (v739 : BitVec 32) (k1_hw28 : k1_chk28 i v739), ∀ (k1_h2 : k1_cond2 i = 1#1), 8 ∣ (k1_mult28 v739).toNat := fun i v739 k1_hw28 k1_h2 => k1_hw28.1 k1_h2
theorem k1_off57_inb : ∀ (i : grid1.Coords) (v739 : BitVec 32) (k1_hw28 : k1_chk28 i v739), ∀ (k1_h2 : k1_cond2 i = 1#1), ∀ a, (k1_off57 v739) a + S40x256.size a ≤ S32768x256.size a := fun i v739 k1_hw28 k1_h2 => k1_hw28.2 k1_h2

def k1_off58 (i : grid1.Coords) (c27_i32 : BitVec 32) : Fin 1 → Nat :=
  let arg0 : BitVec 32 := BitVec.ofNat 32 (i 0).val
  let c8_i32_164 : BitVec 32 := 8#32
  let v735 : BitVec 32 := Scalar.subi arg0 c8_i32_164
  let c128_i32_165 : BitVec 32 := 128#32
  let v736 : BitVec 32 := Scalar.muli v735 c128_i32_165
  let v737 : BitVec 32 := Scalar.addi v736 c27_i32
  let v744 : Index := Scalar.indexCast v737
  ![v744.toNat]
def k1_mult29 (v766 : BitVec 32) : BitVec 32 :=
  v766

def k1_off59 (v766 : BitVec 32) : Fin 2 → Nat :=
  let v767 : BitVec 32 := v766
  let v768 : Index := Scalar.indexCast v767
  let c0_172 : Index := 0#32
  ![v768.toNat, 0]

def k1_chk29 (i : grid1.Coords) (v766 : BitVec 32) : Prop :=
  (∀ (k1_h2 : k1_cond2 i = 1#1), 8 ∣ (k1_mult29 v766).toNat) ∧
  (∀ (k1_h2 : k1_cond2 i = 1#1), ∀ a, (k1_off59 v766) a + S40x256.size a ≤ S32768x256.size a)
theorem k1_mult29_dvd : ∀ (i : grid1.Coords) (v766 : BitVec 32) (k1_hw29 : k1_chk29 i v766), ∀ (k1_h2 : k1_cond2 i = 1#1), 8 ∣ (k1_mult29 v766).toNat := fun i v766 k1_hw29 k1_h2 => k1_hw29.1 k1_h2
theorem k1_off59_inb : ∀ (i : grid1.Coords) (v766 : BitVec 32) (k1_hw29 : k1_chk29 i v766), ∀ (k1_h2 : k1_cond2 i = 1#1), ∀ a, (k1_off59 v766) a + S40x256.size a ≤ S32768x256.size a := fun i v766 k1_hw29 k1_h2 => k1_hw29.2 k1_h2

def k1_off60 (i : grid1.Coords) (c28_i32 : BitVec 32) : Fin 1 → Nat :=
  let arg0 : BitVec 32 := BitVec.ofNat 32 (i 0).val
  let c8_i32_170 : BitVec 32 := 8#32
  let v762 : BitVec 32 := Scalar.subi arg0 c8_i32_170
  let c128_i32_171 : BitVec 32 := 128#32
  let v763 : BitVec 32 := Scalar.muli v762 c128_i32_171
  let v764 : BitVec 32 := Scalar.addi v763 c28_i32
  let v771 : Index := Scalar.indexCast v764
  ![v771.toNat]
def k1_mult30 (v793 : BitVec 32) : BitVec 32 :=
  v793

def k1_off61 (v793 : BitVec 32) : Fin 2 → Nat :=
  let v794 : BitVec 32 := v793
  let v795 : Index := Scalar.indexCast v794
  let c0_178 : Index := 0#32
  ![v795.toNat, 0]

def k1_chk30 (i : grid1.Coords) (v793 : BitVec 32) : Prop :=
  (∀ (k1_h2 : k1_cond2 i = 1#1), 8 ∣ (k1_mult30 v793).toNat) ∧
  (∀ (k1_h2 : k1_cond2 i = 1#1), ∀ a, (k1_off61 v793) a + S40x256.size a ≤ S32768x256.size a)
theorem k1_mult30_dvd : ∀ (i : grid1.Coords) (v793 : BitVec 32) (k1_hw30 : k1_chk30 i v793), ∀ (k1_h2 : k1_cond2 i = 1#1), 8 ∣ (k1_mult30 v793).toNat := fun i v793 k1_hw30 k1_h2 => k1_hw30.1 k1_h2
theorem k1_off61_inb : ∀ (i : grid1.Coords) (v793 : BitVec 32) (k1_hw30 : k1_chk30 i v793), ∀ (k1_h2 : k1_cond2 i = 1#1), ∀ a, (k1_off61 v793) a + S40x256.size a ≤ S32768x256.size a := fun i v793 k1_hw30 k1_h2 => k1_hw30.2 k1_h2

def k1_off62 (i : grid1.Coords) (c29_i32 : BitVec 32) : Fin 1 → Nat :=
  let arg0 : BitVec 32 := BitVec.ofNat 32 (i 0).val
  let c8_i32_176 : BitVec 32 := 8#32
  let v789 : BitVec 32 := Scalar.subi arg0 c8_i32_176
  let c128_i32_177 : BitVec 32 := 128#32
  let v790 : BitVec 32 := Scalar.muli v789 c128_i32_177
  let v791 : BitVec 32 := Scalar.addi v790 c29_i32
  let v798 : Index := Scalar.indexCast v791
  ![v798.toNat]
def k1_mult31 (v820 : BitVec 32) : BitVec 32 :=
  v820

def k1_off63 (v820 : BitVec 32) : Fin 2 → Nat :=
  let v821 : BitVec 32 := v820
  let v822 : Index := Scalar.indexCast v821
  let c0_184 : Index := 0#32
  ![v822.toNat, 0]

def k1_chk31 (i : grid1.Coords) (v820 : BitVec 32) : Prop :=
  (∀ (k1_h2 : k1_cond2 i = 1#1), 8 ∣ (k1_mult31 v820).toNat) ∧
  (∀ (k1_h2 : k1_cond2 i = 1#1), ∀ a, (k1_off63 v820) a + S40x256.size a ≤ S32768x256.size a)
theorem k1_mult31_dvd : ∀ (i : grid1.Coords) (v820 : BitVec 32) (k1_hw31 : k1_chk31 i v820), ∀ (k1_h2 : k1_cond2 i = 1#1), 8 ∣ (k1_mult31 v820).toNat := fun i v820 k1_hw31 k1_h2 => k1_hw31.1 k1_h2
theorem k1_off63_inb : ∀ (i : grid1.Coords) (v820 : BitVec 32) (k1_hw31 : k1_chk31 i v820), ∀ (k1_h2 : k1_cond2 i = 1#1), ∀ a, (k1_off63 v820) a + S40x256.size a ≤ S32768x256.size a := fun i v820 k1_hw31 k1_h2 => k1_hw31.2 k1_h2

def k1_off64 (i : grid1.Coords) (c30_i32 : BitVec 32) : Fin 1 → Nat :=
  let arg0 : BitVec 32 := BitVec.ofNat 32 (i 0).val
  let c8_i32_182 : BitVec 32 := 8#32
  let v816 : BitVec 32 := Scalar.subi arg0 c8_i32_182
  let c128_i32_183 : BitVec 32 := 128#32
  let v817 : BitVec 32 := Scalar.muli v816 c128_i32_183
  let v818 : BitVec 32 := Scalar.addi v817 c30_i32
  let v825 : Index := Scalar.indexCast v818
  ![v825.toNat]
def k1_mult32 (v847 : BitVec 32) : BitVec 32 :=
  v847

def k1_off65 (v847 : BitVec 32) : Fin 2 → Nat :=
  let v848 : BitVec 32 := v847
  let v849 : Index := Scalar.indexCast v848
  let c0_190 : Index := 0#32
  ![v849.toNat, 0]

def k1_chk32 (i : grid1.Coords) (v847 : BitVec 32) : Prop :=
  (∀ (k1_h2 : k1_cond2 i = 1#1), 8 ∣ (k1_mult32 v847).toNat) ∧
  (∀ (k1_h2 : k1_cond2 i = 1#1), ∀ a, (k1_off65 v847) a + S40x256.size a ≤ S32768x256.size a)
theorem k1_mult32_dvd : ∀ (i : grid1.Coords) (v847 : BitVec 32) (k1_hw32 : k1_chk32 i v847), ∀ (k1_h2 : k1_cond2 i = 1#1), 8 ∣ (k1_mult32 v847).toNat := fun i v847 k1_hw32 k1_h2 => k1_hw32.1 k1_h2
theorem k1_off65_inb : ∀ (i : grid1.Coords) (v847 : BitVec 32) (k1_hw32 : k1_chk32 i v847), ∀ (k1_h2 : k1_cond2 i = 1#1), ∀ a, (k1_off65 v847) a + S40x256.size a ≤ S32768x256.size a := fun i v847 k1_hw32 k1_h2 => k1_hw32.2 k1_h2

def k1_off66 (i : grid1.Coords) (c31_i32 : BitVec 32) : Fin 1 → Nat :=
  let arg0 : BitVec 32 := BitVec.ofNat 32 (i 0).val
  let c8_i32_188 : BitVec 32 := 8#32
  let v843 : BitVec 32 := Scalar.subi arg0 c8_i32_188
  let c128_i32_189 : BitVec 32 := 128#32
  let v844 : BitVec 32 := Scalar.muli v843 c128_i32_189
  let v845 : BitVec 32 := Scalar.addi v844 c31_i32
  let v852 : Index := Scalar.indexCast v845
  ![v852.toNat]
def k1_mult33 (v874 : BitVec 32) : BitVec 32 :=
  v874

def k1_off67 (v874 : BitVec 32) : Fin 2 → Nat :=
  let v875 : BitVec 32 := v874
  let v876 : Index := Scalar.indexCast v875
  let c0_196 : Index := 0#32
  ![v876.toNat, 0]

def k1_chk33 (i : grid1.Coords) (v874 : BitVec 32) : Prop :=
  (∀ (k1_h2 : k1_cond2 i = 1#1), 8 ∣ (k1_mult33 v874).toNat) ∧
  (∀ (k1_h2 : k1_cond2 i = 1#1), ∀ a, (k1_off67 v874) a + S40x256.size a ≤ S32768x256.size a)
theorem k1_mult33_dvd : ∀ (i : grid1.Coords) (v874 : BitVec 32) (k1_hw33 : k1_chk33 i v874), ∀ (k1_h2 : k1_cond2 i = 1#1), 8 ∣ (k1_mult33 v874).toNat := fun i v874 k1_hw33 k1_h2 => k1_hw33.1 k1_h2
theorem k1_off67_inb : ∀ (i : grid1.Coords) (v874 : BitVec 32) (k1_hw33 : k1_chk33 i v874), ∀ (k1_h2 : k1_cond2 i = 1#1), ∀ a, (k1_off67 v874) a + S40x256.size a ≤ S32768x256.size a := fun i v874 k1_hw33 k1_h2 => k1_hw33.2 k1_h2

def k1_off68 (i : grid1.Coords) (c32_i32 : BitVec 32) : Fin 1 → Nat :=
  let arg0 : BitVec 32 := BitVec.ofNat 32 (i 0).val
  let c8_i32_194 : BitVec 32 := 8#32
  let v870 : BitVec 32 := Scalar.subi arg0 c8_i32_194
  let c128_i32_195 : BitVec 32 := 128#32
  let v871 : BitVec 32 := Scalar.muli v870 c128_i32_195
  let v872 : BitVec 32 := Scalar.addi v871 c32_i32
  let v879 : Index := Scalar.indexCast v872
  ![v879.toNat]
def k1_mult34 (v901 : BitVec 32) : BitVec 32 :=
  v901

def k1_off69 (v901 : BitVec 32) : Fin 2 → Nat :=
  let v902 : BitVec 32 := v901
  let v903 : Index := Scalar.indexCast v902
  let c0_202 : Index := 0#32
  ![v903.toNat, 0]

def k1_chk34 (i : grid1.Coords) (v901 : BitVec 32) : Prop :=
  (∀ (k1_h2 : k1_cond2 i = 1#1), 8 ∣ (k1_mult34 v901).toNat) ∧
  (∀ (k1_h2 : k1_cond2 i = 1#1), ∀ a, (k1_off69 v901) a + S40x256.size a ≤ S32768x256.size a)
theorem k1_mult34_dvd : ∀ (i : grid1.Coords) (v901 : BitVec 32) (k1_hw34 : k1_chk34 i v901), ∀ (k1_h2 : k1_cond2 i = 1#1), 8 ∣ (k1_mult34 v901).toNat := fun i v901 k1_hw34 k1_h2 => k1_hw34.1 k1_h2
theorem k1_off69_inb : ∀ (i : grid1.Coords) (v901 : BitVec 32) (k1_hw34 : k1_chk34 i v901), ∀ (k1_h2 : k1_cond2 i = 1#1), ∀ a, (k1_off69 v901) a + S40x256.size a ≤ S32768x256.size a := fun i v901 k1_hw34 k1_h2 => k1_hw34.2 k1_h2

def k1_off70 (i : grid1.Coords) (c33_i32 : BitVec 32) : Fin 1 → Nat :=
  let arg0 : BitVec 32 := BitVec.ofNat 32 (i 0).val
  let c8_i32_200 : BitVec 32 := 8#32
  let v897 : BitVec 32 := Scalar.subi arg0 c8_i32_200
  let c128_i32_201 : BitVec 32 := 128#32
  let v898 : BitVec 32 := Scalar.muli v897 c128_i32_201
  let v899 : BitVec 32 := Scalar.addi v898 c33_i32
  let v906 : Index := Scalar.indexCast v899
  ![v906.toNat]
def k1_mult35 (v928 : BitVec 32) : BitVec 32 :=
  v928

def k1_off71 (v928 : BitVec 32) : Fin 2 → Nat :=
  let v929 : BitVec 32 := v928
  let v930 : Index := Scalar.indexCast v929
  let c0_208 : Index := 0#32
  ![v930.toNat, 0]

def k1_chk35 (i : grid1.Coords) (v928 : BitVec 32) : Prop :=
  (∀ (k1_h2 : k1_cond2 i = 1#1), 8 ∣ (k1_mult35 v928).toNat) ∧
  (∀ (k1_h2 : k1_cond2 i = 1#1), ∀ a, (k1_off71 v928) a + S40x256.size a ≤ S32768x256.size a)
theorem k1_mult35_dvd : ∀ (i : grid1.Coords) (v928 : BitVec 32) (k1_hw35 : k1_chk35 i v928), ∀ (k1_h2 : k1_cond2 i = 1#1), 8 ∣ (k1_mult35 v928).toNat := fun i v928 k1_hw35 k1_h2 => k1_hw35.1 k1_h2
theorem k1_off71_inb : ∀ (i : grid1.Coords) (v928 : BitVec 32) (k1_hw35 : k1_chk35 i v928), ∀ (k1_h2 : k1_cond2 i = 1#1), ∀ a, (k1_off71 v928) a + S40x256.size a ≤ S32768x256.size a := fun i v928 k1_hw35 k1_h2 => k1_hw35.2 k1_h2

def k1_off72 (i : grid1.Coords) (c34_i32 : BitVec 32) : Fin 1 → Nat :=
  let arg0 : BitVec 32 := BitVec.ofNat 32 (i 0).val
  let c8_i32_206 : BitVec 32 := 8#32
  let v924 : BitVec 32 := Scalar.subi arg0 c8_i32_206
  let c128_i32_207 : BitVec 32 := 128#32
  let v925 : BitVec 32 := Scalar.muli v924 c128_i32_207
  let v926 : BitVec 32 := Scalar.addi v925 c34_i32
  let v933 : Index := Scalar.indexCast v926
  ![v933.toNat]
def k1_mult36 (v955 : BitVec 32) : BitVec 32 :=
  v955

def k1_off73 (v955 : BitVec 32) : Fin 2 → Nat :=
  let v956 : BitVec 32 := v955
  let v957 : Index := Scalar.indexCast v956
  let c0_214 : Index := 0#32
  ![v957.toNat, 0]

def k1_chk36 (i : grid1.Coords) (v955 : BitVec 32) : Prop :=
  (∀ (k1_h2 : k1_cond2 i = 1#1), 8 ∣ (k1_mult36 v955).toNat) ∧
  (∀ (k1_h2 : k1_cond2 i = 1#1), ∀ a, (k1_off73 v955) a + S40x256.size a ≤ S32768x256.size a)
theorem k1_mult36_dvd : ∀ (i : grid1.Coords) (v955 : BitVec 32) (k1_hw36 : k1_chk36 i v955), ∀ (k1_h2 : k1_cond2 i = 1#1), 8 ∣ (k1_mult36 v955).toNat := fun i v955 k1_hw36 k1_h2 => k1_hw36.1 k1_h2
theorem k1_off73_inb : ∀ (i : grid1.Coords) (v955 : BitVec 32) (k1_hw36 : k1_chk36 i v955), ∀ (k1_h2 : k1_cond2 i = 1#1), ∀ a, (k1_off73 v955) a + S40x256.size a ≤ S32768x256.size a := fun i v955 k1_hw36 k1_h2 => k1_hw36.2 k1_h2

def k1_off74 (i : grid1.Coords) (c35_i32 : BitVec 32) : Fin 1 → Nat :=
  let arg0 : BitVec 32 := BitVec.ofNat 32 (i 0).val
  let c8_i32_212 : BitVec 32 := 8#32
  let v951 : BitVec 32 := Scalar.subi arg0 c8_i32_212
  let c128_i32_213 : BitVec 32 := 128#32
  let v952 : BitVec 32 := Scalar.muli v951 c128_i32_213
  let v953 : BitVec 32 := Scalar.addi v952 c35_i32
  let v960 : Index := Scalar.indexCast v953
  ![v960.toNat]
def k1_mult37 (v982 : BitVec 32) : BitVec 32 :=
  v982

def k1_off75 (v982 : BitVec 32) : Fin 2 → Nat :=
  let v983 : BitVec 32 := v982
  let v984 : Index := Scalar.indexCast v983
  let c0_220 : Index := 0#32
  ![v984.toNat, 0]

def k1_chk37 (i : grid1.Coords) (v982 : BitVec 32) : Prop :=
  (∀ (k1_h2 : k1_cond2 i = 1#1), 8 ∣ (k1_mult37 v982).toNat) ∧
  (∀ (k1_h2 : k1_cond2 i = 1#1), ∀ a, (k1_off75 v982) a + S40x256.size a ≤ S32768x256.size a)
theorem k1_mult37_dvd : ∀ (i : grid1.Coords) (v982 : BitVec 32) (k1_hw37 : k1_chk37 i v982), ∀ (k1_h2 : k1_cond2 i = 1#1), 8 ∣ (k1_mult37 v982).toNat := fun i v982 k1_hw37 k1_h2 => k1_hw37.1 k1_h2
theorem k1_off75_inb : ∀ (i : grid1.Coords) (v982 : BitVec 32) (k1_hw37 : k1_chk37 i v982), ∀ (k1_h2 : k1_cond2 i = 1#1), ∀ a, (k1_off75 v982) a + S40x256.size a ≤ S32768x256.size a := fun i v982 k1_hw37 k1_h2 => k1_hw37.2 k1_h2

def k1_off76 (i : grid1.Coords) (c36_i32 : BitVec 32) : Fin 1 → Nat :=
  let arg0 : BitVec 32 := BitVec.ofNat 32 (i 0).val
  let c8_i32_218 : BitVec 32 := 8#32
  let v978 : BitVec 32 := Scalar.subi arg0 c8_i32_218
  let c128_i32_219 : BitVec 32 := 128#32
  let v979 : BitVec 32 := Scalar.muli v978 c128_i32_219
  let v980 : BitVec 32 := Scalar.addi v979 c36_i32
  let v987 : Index := Scalar.indexCast v980
  ![v987.toNat]
def k1_mult38 (v1009 : BitVec 32) : BitVec 32 :=
  v1009

def k1_off77 (v1009 : BitVec 32) : Fin 2 → Nat :=
  let v1010 : BitVec 32 := v1009
  let v1011 : Index := Scalar.indexCast v1010
  let c0_226 : Index := 0#32
  ![v1011.toNat, 0]

def k1_chk38 (i : grid1.Coords) (v1009 : BitVec 32) : Prop :=
  (∀ (k1_h2 : k1_cond2 i = 1#1), 8 ∣ (k1_mult38 v1009).toNat) ∧
  (∀ (k1_h2 : k1_cond2 i = 1#1), ∀ a, (k1_off77 v1009) a + S40x256.size a ≤ S32768x256.size a)
theorem k1_mult38_dvd : ∀ (i : grid1.Coords) (v1009 : BitVec 32) (k1_hw38 : k1_chk38 i v1009), ∀ (k1_h2 : k1_cond2 i = 1#1), 8 ∣ (k1_mult38 v1009).toNat := fun i v1009 k1_hw38 k1_h2 => k1_hw38.1 k1_h2
theorem k1_off77_inb : ∀ (i : grid1.Coords) (v1009 : BitVec 32) (k1_hw38 : k1_chk38 i v1009), ∀ (k1_h2 : k1_cond2 i = 1#1), ∀ a, (k1_off77 v1009) a + S40x256.size a ≤ S32768x256.size a := fun i v1009 k1_hw38 k1_h2 => k1_hw38.2 k1_h2

def k1_off78 (i : grid1.Coords) (c37_i32 : BitVec 32) : Fin 1 → Nat :=
  let arg0 : BitVec 32 := BitVec.ofNat 32 (i 0).val
  let c8_i32_224 : BitVec 32 := 8#32
  let v1005 : BitVec 32 := Scalar.subi arg0 c8_i32_224
  let c128_i32_225 : BitVec 32 := 128#32
  let v1006 : BitVec 32 := Scalar.muli v1005 c128_i32_225
  let v1007 : BitVec 32 := Scalar.addi v1006 c37_i32
  let v1014 : Index := Scalar.indexCast v1007
  ![v1014.toNat]
def k1_mult39 (v1036 : BitVec 32) : BitVec 32 :=
  v1036

def k1_off79 (v1036 : BitVec 32) : Fin 2 → Nat :=
  let v1037 : BitVec 32 := v1036
  let v1038 : Index := Scalar.indexCast v1037
  let c0_232 : Index := 0#32
  ![v1038.toNat, 0]

def k1_chk39 (i : grid1.Coords) (v1036 : BitVec 32) : Prop :=
  (∀ (k1_h2 : k1_cond2 i = 1#1), 8 ∣ (k1_mult39 v1036).toNat) ∧
  (∀ (k1_h2 : k1_cond2 i = 1#1), ∀ a, (k1_off79 v1036) a + S40x256.size a ≤ S32768x256.size a)
theorem k1_mult39_dvd : ∀ (i : grid1.Coords) (v1036 : BitVec 32) (k1_hw39 : k1_chk39 i v1036), ∀ (k1_h2 : k1_cond2 i = 1#1), 8 ∣ (k1_mult39 v1036).toNat := fun i v1036 k1_hw39 k1_h2 => k1_hw39.1 k1_h2
theorem k1_off79_inb : ∀ (i : grid1.Coords) (v1036 : BitVec 32) (k1_hw39 : k1_chk39 i v1036), ∀ (k1_h2 : k1_cond2 i = 1#1), ∀ a, (k1_off79 v1036) a + S40x256.size a ≤ S32768x256.size a := fun i v1036 k1_hw39 k1_h2 => k1_hw39.2 k1_h2

def k1_off80 (i : grid1.Coords) (c38_i32 : BitVec 32) : Fin 1 → Nat :=
  let arg0 : BitVec 32 := BitVec.ofNat 32 (i 0).val
  let c8_i32_230 : BitVec 32 := 8#32
  let v1032 : BitVec 32 := Scalar.subi arg0 c8_i32_230
  let c128_i32_231 : BitVec 32 := 128#32
  let v1033 : BitVec 32 := Scalar.muli v1032 c128_i32_231
  let v1034 : BitVec 32 := Scalar.addi v1033 c38_i32
  let v1041 : Index := Scalar.indexCast v1034
  ![v1041.toNat]
def k1_mult40 (v1063 : BitVec 32) : BitVec 32 :=
  v1063

def k1_off81 (v1063 : BitVec 32) : Fin 2 → Nat :=
  let v1064 : BitVec 32 := v1063
  let v1065 : Index := Scalar.indexCast v1064
  let c0_238 : Index := 0#32
  ![v1065.toNat, 0]

def k1_chk40 (i : grid1.Coords) (v1063 : BitVec 32) : Prop :=
  (∀ (k1_h2 : k1_cond2 i = 1#1), 8 ∣ (k1_mult40 v1063).toNat) ∧
  (∀ (k1_h2 : k1_cond2 i = 1#1), ∀ a, (k1_off81 v1063) a + S40x256.size a ≤ S32768x256.size a)
theorem k1_mult40_dvd : ∀ (i : grid1.Coords) (v1063 : BitVec 32) (k1_hw40 : k1_chk40 i v1063), ∀ (k1_h2 : k1_cond2 i = 1#1), 8 ∣ (k1_mult40 v1063).toNat := fun i v1063 k1_hw40 k1_h2 => k1_hw40.1 k1_h2
theorem k1_off81_inb : ∀ (i : grid1.Coords) (v1063 : BitVec 32) (k1_hw40 : k1_chk40 i v1063), ∀ (k1_h2 : k1_cond2 i = 1#1), ∀ a, (k1_off81 v1063) a + S40x256.size a ≤ S32768x256.size a := fun i v1063 k1_hw40 k1_h2 => k1_hw40.2 k1_h2

def k1_off82 (i : grid1.Coords) (c39_i32 : BitVec 32) : Fin 1 → Nat :=
  let arg0 : BitVec 32 := BitVec.ofNat 32 (i 0).val
  let c8_i32_236 : BitVec 32 := 8#32
  let v1059 : BitVec 32 := Scalar.subi arg0 c8_i32_236
  let c128_i32_237 : BitVec 32 := 128#32
  let v1060 : BitVec 32 := Scalar.muli v1059 c128_i32_237
  let v1061 : BitVec 32 := Scalar.addi v1060 c39_i32
  let v1068 : Index := Scalar.indexCast v1061
  ![v1068.toNat]
def k1_mult41 (v1090 : BitVec 32) : BitVec 32 :=
  v1090

def k1_off83 (v1090 : BitVec 32) : Fin 2 → Nat :=
  let v1091 : BitVec 32 := v1090
  let v1092 : Index := Scalar.indexCast v1091
  let c0_244 : Index := 0#32
  ![v1092.toNat, 0]

def k1_chk41 (i : grid1.Coords) (v1090 : BitVec 32) : Prop :=
  (∀ (k1_h2 : k1_cond2 i = 1#1), 8 ∣ (k1_mult41 v1090).toNat) ∧
  (∀ (k1_h2 : k1_cond2 i = 1#1), ∀ a, (k1_off83 v1090) a + S40x256.size a ≤ S32768x256.size a)
theorem k1_mult41_dvd : ∀ (i : grid1.Coords) (v1090 : BitVec 32) (k1_hw41 : k1_chk41 i v1090), ∀ (k1_h2 : k1_cond2 i = 1#1), 8 ∣ (k1_mult41 v1090).toNat := fun i v1090 k1_hw41 k1_h2 => k1_hw41.1 k1_h2
theorem k1_off83_inb : ∀ (i : grid1.Coords) (v1090 : BitVec 32) (k1_hw41 : k1_chk41 i v1090), ∀ (k1_h2 : k1_cond2 i = 1#1), ∀ a, (k1_off83 v1090) a + S40x256.size a ≤ S32768x256.size a := fun i v1090 k1_hw41 k1_h2 => k1_hw41.2 k1_h2

def k1_off84 (i : grid1.Coords) (c40_i32 : BitVec 32) : Fin 1 → Nat :=
  let arg0 : BitVec 32 := BitVec.ofNat 32 (i 0).val
  let c8_i32_242 : BitVec 32 := 8#32
  let v1086 : BitVec 32 := Scalar.subi arg0 c8_i32_242
  let c128_i32_243 : BitVec 32 := 128#32
  let v1087 : BitVec 32 := Scalar.muli v1086 c128_i32_243
  let v1088 : BitVec 32 := Scalar.addi v1087 c40_i32
  let v1095 : Index := Scalar.indexCast v1088
  ![v1095.toNat]
def k1_mult42 (v1117 : BitVec 32) : BitVec 32 :=
  v1117

def k1_off85 (v1117 : BitVec 32) : Fin 2 → Nat :=
  let v1118 : BitVec 32 := v1117
  let v1119 : Index := Scalar.indexCast v1118
  let c0_250 : Index := 0#32
  ![v1119.toNat, 0]

def k1_chk42 (i : grid1.Coords) (v1117 : BitVec 32) : Prop :=
  (∀ (k1_h2 : k1_cond2 i = 1#1), 8 ∣ (k1_mult42 v1117).toNat) ∧
  (∀ (k1_h2 : k1_cond2 i = 1#1), ∀ a, (k1_off85 v1117) a + S40x256.size a ≤ S32768x256.size a)
theorem k1_mult42_dvd : ∀ (i : grid1.Coords) (v1117 : BitVec 32) (k1_hw42 : k1_chk42 i v1117), ∀ (k1_h2 : k1_cond2 i = 1#1), 8 ∣ (k1_mult42 v1117).toNat := fun i v1117 k1_hw42 k1_h2 => k1_hw42.1 k1_h2
theorem k1_off85_inb : ∀ (i : grid1.Coords) (v1117 : BitVec 32) (k1_hw42 : k1_chk42 i v1117), ∀ (k1_h2 : k1_cond2 i = 1#1), ∀ a, (k1_off85 v1117) a + S40x256.size a ≤ S32768x256.size a := fun i v1117 k1_hw42 k1_h2 => k1_hw42.2 k1_h2

def k1_off86 (i : grid1.Coords) (c41_i32 : BitVec 32) : Fin 1 → Nat :=
  let arg0 : BitVec 32 := BitVec.ofNat 32 (i 0).val
  let c8_i32_248 : BitVec 32 := 8#32
  let v1113 : BitVec 32 := Scalar.subi arg0 c8_i32_248
  let c128_i32_249 : BitVec 32 := 128#32
  let v1114 : BitVec 32 := Scalar.muli v1113 c128_i32_249
  let v1115 : BitVec 32 := Scalar.addi v1114 c41_i32
  let v1122 : Index := Scalar.indexCast v1115
  ![v1122.toNat]
def k1_mult43 (v1144 : BitVec 32) : BitVec 32 :=
  v1144

def k1_off87 (v1144 : BitVec 32) : Fin 2 → Nat :=
  let v1145 : BitVec 32 := v1144
  let v1146 : Index := Scalar.indexCast v1145
  let c0_256 : Index := 0#32
  ![v1146.toNat, 0]

def k1_chk43 (i : grid1.Coords) (v1144 : BitVec 32) : Prop :=
  (∀ (k1_h2 : k1_cond2 i = 1#1), 8 ∣ (k1_mult43 v1144).toNat) ∧
  (∀ (k1_h2 : k1_cond2 i = 1#1), ∀ a, (k1_off87 v1144) a + S40x256.size a ≤ S32768x256.size a)
theorem k1_mult43_dvd : ∀ (i : grid1.Coords) (v1144 : BitVec 32) (k1_hw43 : k1_chk43 i v1144), ∀ (k1_h2 : k1_cond2 i = 1#1), 8 ∣ (k1_mult43 v1144).toNat := fun i v1144 k1_hw43 k1_h2 => k1_hw43.1 k1_h2
theorem k1_off87_inb : ∀ (i : grid1.Coords) (v1144 : BitVec 32) (k1_hw43 : k1_chk43 i v1144), ∀ (k1_h2 : k1_cond2 i = 1#1), ∀ a, (k1_off87 v1144) a + S40x256.size a ≤ S32768x256.size a := fun i v1144 k1_hw43 k1_h2 => k1_hw43.2 k1_h2

def k1_off88 (i : grid1.Coords) (c42_i32 : BitVec 32) : Fin 1 → Nat :=
  let arg0 : BitVec 32 := BitVec.ofNat 32 (i 0).val
  let c8_i32_254 : BitVec 32 := 8#32
  let v1140 : BitVec 32 := Scalar.subi arg0 c8_i32_254
  let c128_i32_255 : BitVec 32 := 128#32
  let v1141 : BitVec 32 := Scalar.muli v1140 c128_i32_255
  let v1142 : BitVec 32 := Scalar.addi v1141 c42_i32
  let v1149 : Index := Scalar.indexCast v1142
  ![v1149.toNat]
def k1_mult44 (v1171 : BitVec 32) : BitVec 32 :=
  v1171

def k1_off89 (v1171 : BitVec 32) : Fin 2 → Nat :=
  let v1172 : BitVec 32 := v1171
  let v1173 : Index := Scalar.indexCast v1172
  let c0_262 : Index := 0#32
  ![v1173.toNat, 0]

def k1_chk44 (i : grid1.Coords) (v1171 : BitVec 32) : Prop :=
  (∀ (k1_h2 : k1_cond2 i = 1#1), 8 ∣ (k1_mult44 v1171).toNat) ∧
  (∀ (k1_h2 : k1_cond2 i = 1#1), ∀ a, (k1_off89 v1171) a + S40x256.size a ≤ S32768x256.size a)
theorem k1_mult44_dvd : ∀ (i : grid1.Coords) (v1171 : BitVec 32) (k1_hw44 : k1_chk44 i v1171), ∀ (k1_h2 : k1_cond2 i = 1#1), 8 ∣ (k1_mult44 v1171).toNat := fun i v1171 k1_hw44 k1_h2 => k1_hw44.1 k1_h2
theorem k1_off89_inb : ∀ (i : grid1.Coords) (v1171 : BitVec 32) (k1_hw44 : k1_chk44 i v1171), ∀ (k1_h2 : k1_cond2 i = 1#1), ∀ a, (k1_off89 v1171) a + S40x256.size a ≤ S32768x256.size a := fun i v1171 k1_hw44 k1_h2 => k1_hw44.2 k1_h2

def k1_off90 (i : grid1.Coords) (c43_i32 : BitVec 32) : Fin 1 → Nat :=
  let arg0 : BitVec 32 := BitVec.ofNat 32 (i 0).val
  let c8_i32_260 : BitVec 32 := 8#32
  let v1167 : BitVec 32 := Scalar.subi arg0 c8_i32_260
  let c128_i32_261 : BitVec 32 := 128#32
  let v1168 : BitVec 32 := Scalar.muli v1167 c128_i32_261
  let v1169 : BitVec 32 := Scalar.addi v1168 c43_i32
  let v1176 : Index := Scalar.indexCast v1169
  ![v1176.toNat]
def k1_mult45 (v1198 : BitVec 32) : BitVec 32 :=
  v1198

def k1_off91 (v1198 : BitVec 32) : Fin 2 → Nat :=
  let v1199 : BitVec 32 := v1198
  let v1200 : Index := Scalar.indexCast v1199
  let c0_268 : Index := 0#32
  ![v1200.toNat, 0]

def k1_chk45 (i : grid1.Coords) (v1198 : BitVec 32) : Prop :=
  (∀ (k1_h2 : k1_cond2 i = 1#1), 8 ∣ (k1_mult45 v1198).toNat) ∧
  (∀ (k1_h2 : k1_cond2 i = 1#1), ∀ a, (k1_off91 v1198) a + S40x256.size a ≤ S32768x256.size a)
theorem k1_mult45_dvd : ∀ (i : grid1.Coords) (v1198 : BitVec 32) (k1_hw45 : k1_chk45 i v1198), ∀ (k1_h2 : k1_cond2 i = 1#1), 8 ∣ (k1_mult45 v1198).toNat := fun i v1198 k1_hw45 k1_h2 => k1_hw45.1 k1_h2
theorem k1_off91_inb : ∀ (i : grid1.Coords) (v1198 : BitVec 32) (k1_hw45 : k1_chk45 i v1198), ∀ (k1_h2 : k1_cond2 i = 1#1), ∀ a, (k1_off91 v1198) a + S40x256.size a ≤ S32768x256.size a := fun i v1198 k1_hw45 k1_h2 => k1_hw45.2 k1_h2

def k1_off92 (i : grid1.Coords) (c44_i32 : BitVec 32) : Fin 1 → Nat :=
  let arg0 : BitVec 32 := BitVec.ofNat 32 (i 0).val
  let c8_i32_266 : BitVec 32 := 8#32
  let v1194 : BitVec 32 := Scalar.subi arg0 c8_i32_266
  let c128_i32_267 : BitVec 32 := 128#32
  let v1195 : BitVec 32 := Scalar.muli v1194 c128_i32_267
  let v1196 : BitVec 32 := Scalar.addi v1195 c44_i32
  let v1203 : Index := Scalar.indexCast v1196
  ![v1203.toNat]
def k1_mult46 (v1225 : BitVec 32) : BitVec 32 :=
  v1225

def k1_off93 (v1225 : BitVec 32) : Fin 2 → Nat :=
  let v1226 : BitVec 32 := v1225
  let v1227 : Index := Scalar.indexCast v1226
  let c0_274 : Index := 0#32
  ![v1227.toNat, 0]

def k1_chk46 (i : grid1.Coords) (v1225 : BitVec 32) : Prop :=
  (∀ (k1_h2 : k1_cond2 i = 1#1), 8 ∣ (k1_mult46 v1225).toNat) ∧
  (∀ (k1_h2 : k1_cond2 i = 1#1), ∀ a, (k1_off93 v1225) a + S40x256.size a ≤ S32768x256.size a)
theorem k1_mult46_dvd : ∀ (i : grid1.Coords) (v1225 : BitVec 32) (k1_hw46 : k1_chk46 i v1225), ∀ (k1_h2 : k1_cond2 i = 1#1), 8 ∣ (k1_mult46 v1225).toNat := fun i v1225 k1_hw46 k1_h2 => k1_hw46.1 k1_h2
theorem k1_off93_inb : ∀ (i : grid1.Coords) (v1225 : BitVec 32) (k1_hw46 : k1_chk46 i v1225), ∀ (k1_h2 : k1_cond2 i = 1#1), ∀ a, (k1_off93 v1225) a + S40x256.size a ≤ S32768x256.size a := fun i v1225 k1_hw46 k1_h2 => k1_hw46.2 k1_h2

def k1_off94 (i : grid1.Coords) (c45_i32 : BitVec 32) : Fin 1 → Nat :=
  let arg0 : BitVec 32 := BitVec.ofNat 32 (i 0).val
  let c8_i32_272 : BitVec 32 := 8#32
  let v1221 : BitVec 32 := Scalar.subi arg0 c8_i32_272
  let c128_i32_273 : BitVec 32 := 128#32
  let v1222 : BitVec 32 := Scalar.muli v1221 c128_i32_273
  let v1223 : BitVec 32 := Scalar.addi v1222 c45_i32
  let v1230 : Index := Scalar.indexCast v1223
  ![v1230.toNat]
def k1_mult47 (v1252 : BitVec 32) : BitVec 32 :=
  v1252

def k1_off95 (v1252 : BitVec 32) : Fin 2 → Nat :=
  let v1253 : BitVec 32 := v1252
  let v1254 : Index := Scalar.indexCast v1253
  let c0_280 : Index := 0#32
  ![v1254.toNat, 0]

def k1_chk47 (i : grid1.Coords) (v1252 : BitVec 32) : Prop :=
  (∀ (k1_h2 : k1_cond2 i = 1#1), 8 ∣ (k1_mult47 v1252).toNat) ∧
  (∀ (k1_h2 : k1_cond2 i = 1#1), ∀ a, (k1_off95 v1252) a + S40x256.size a ≤ S32768x256.size a)
theorem k1_mult47_dvd : ∀ (i : grid1.Coords) (v1252 : BitVec 32) (k1_hw47 : k1_chk47 i v1252), ∀ (k1_h2 : k1_cond2 i = 1#1), 8 ∣ (k1_mult47 v1252).toNat := fun i v1252 k1_hw47 k1_h2 => k1_hw47.1 k1_h2
theorem k1_off95_inb : ∀ (i : grid1.Coords) (v1252 : BitVec 32) (k1_hw47 : k1_chk47 i v1252), ∀ (k1_h2 : k1_cond2 i = 1#1), ∀ a, (k1_off95 v1252) a + S40x256.size a ≤ S32768x256.size a := fun i v1252 k1_hw47 k1_h2 => k1_hw47.2 k1_h2

def k1_off96 (i : grid1.Coords) (c46_i32 : BitVec 32) : Fin 1 → Nat :=
  let arg0 : BitVec 32 := BitVec.ofNat 32 (i 0).val
  let c8_i32_278 : BitVec 32 := 8#32
  let v1248 : BitVec 32 := Scalar.subi arg0 c8_i32_278
  let c128_i32_279 : BitVec 32 := 128#32
  let v1249 : BitVec 32 := Scalar.muli v1248 c128_i32_279
  let v1250 : BitVec 32 := Scalar.addi v1249 c46_i32
  let v1257 : Index := Scalar.indexCast v1250
  ![v1257.toNat]
def k1_mult48 (v1279 : BitVec 32) : BitVec 32 :=
  v1279

def k1_off97 (v1279 : BitVec 32) : Fin 2 → Nat :=
  let v1280 : BitVec 32 := v1279
  let v1281 : Index := Scalar.indexCast v1280
  let c0_286 : Index := 0#32
  ![v1281.toNat, 0]

def k1_chk48 (i : grid1.Coords) (v1279 : BitVec 32) : Prop :=
  (∀ (k1_h2 : k1_cond2 i = 1#1), 8 ∣ (k1_mult48 v1279).toNat) ∧
  (∀ (k1_h2 : k1_cond2 i = 1#1), ∀ a, (k1_off97 v1279) a + S40x256.size a ≤ S32768x256.size a)
theorem k1_mult48_dvd : ∀ (i : grid1.Coords) (v1279 : BitVec 32) (k1_hw48 : k1_chk48 i v1279), ∀ (k1_h2 : k1_cond2 i = 1#1), 8 ∣ (k1_mult48 v1279).toNat := fun i v1279 k1_hw48 k1_h2 => k1_hw48.1 k1_h2
theorem k1_off97_inb : ∀ (i : grid1.Coords) (v1279 : BitVec 32) (k1_hw48 : k1_chk48 i v1279), ∀ (k1_h2 : k1_cond2 i = 1#1), ∀ a, (k1_off97 v1279) a + S40x256.size a ≤ S32768x256.size a := fun i v1279 k1_hw48 k1_h2 => k1_hw48.2 k1_h2

def k1_off98 (i : grid1.Coords) (c47_i32 : BitVec 32) : Fin 1 → Nat :=
  let arg0 : BitVec 32 := BitVec.ofNat 32 (i 0).val
  let c8_i32_284 : BitVec 32 := 8#32
  let v1275 : BitVec 32 := Scalar.subi arg0 c8_i32_284
  let c128_i32_285 : BitVec 32 := 128#32
  let v1276 : BitVec 32 := Scalar.muli v1275 c128_i32_285
  let v1277 : BitVec 32 := Scalar.addi v1276 c47_i32
  let v1284 : Index := Scalar.indexCast v1277
  ![v1284.toNat]
def k1_mult49 (v1306 : BitVec 32) : BitVec 32 :=
  v1306

def k1_off99 (v1306 : BitVec 32) : Fin 2 → Nat :=
  let v1307 : BitVec 32 := v1306
  let v1308 : Index := Scalar.indexCast v1307
  let c0_292 : Index := 0#32
  ![v1308.toNat, 0]

def k1_chk49 (i : grid1.Coords) (v1306 : BitVec 32) : Prop :=
  (∀ (k1_h2 : k1_cond2 i = 1#1), 8 ∣ (k1_mult49 v1306).toNat) ∧
  (∀ (k1_h2 : k1_cond2 i = 1#1), ∀ a, (k1_off99 v1306) a + S40x256.size a ≤ S32768x256.size a)
theorem k1_mult49_dvd : ∀ (i : grid1.Coords) (v1306 : BitVec 32) (k1_hw49 : k1_chk49 i v1306), ∀ (k1_h2 : k1_cond2 i = 1#1), 8 ∣ (k1_mult49 v1306).toNat := fun i v1306 k1_hw49 k1_h2 => k1_hw49.1 k1_h2
theorem k1_off99_inb : ∀ (i : grid1.Coords) (v1306 : BitVec 32) (k1_hw49 : k1_chk49 i v1306), ∀ (k1_h2 : k1_cond2 i = 1#1), ∀ a, (k1_off99 v1306) a + S40x256.size a ≤ S32768x256.size a := fun i v1306 k1_hw49 k1_h2 => k1_hw49.2 k1_h2

def k1_off100 (i : grid1.Coords) (c48_i32 : BitVec 32) : Fin 1 → Nat :=
  let arg0 : BitVec 32 := BitVec.ofNat 32 (i 0).val
  let c8_i32_290 : BitVec 32 := 8#32
  let v1302 : BitVec 32 := Scalar.subi arg0 c8_i32_290
  let c128_i32_291 : BitVec 32 := 128#32
  let v1303 : BitVec 32 := Scalar.muli v1302 c128_i32_291
  let v1304 : BitVec 32 := Scalar.addi v1303 c48_i32
  let v1311 : Index := Scalar.indexCast v1304
  ![v1311.toNat]
def k1_mult50 (v1333 : BitVec 32) : BitVec 32 :=
  v1333

def k1_off101 (v1333 : BitVec 32) : Fin 2 → Nat :=
  let v1334 : BitVec 32 := v1333
  let v1335 : Index := Scalar.indexCast v1334
  let c0_298 : Index := 0#32
  ![v1335.toNat, 0]

def k1_chk50 (i : grid1.Coords) (v1333 : BitVec 32) : Prop :=
  (∀ (k1_h2 : k1_cond2 i = 1#1), 8 ∣ (k1_mult50 v1333).toNat) ∧
  (∀ (k1_h2 : k1_cond2 i = 1#1), ∀ a, (k1_off101 v1333) a + S40x256.size a ≤ S32768x256.size a)
theorem k1_mult50_dvd : ∀ (i : grid1.Coords) (v1333 : BitVec 32) (k1_hw50 : k1_chk50 i v1333), ∀ (k1_h2 : k1_cond2 i = 1#1), 8 ∣ (k1_mult50 v1333).toNat := fun i v1333 k1_hw50 k1_h2 => k1_hw50.1 k1_h2
theorem k1_off101_inb : ∀ (i : grid1.Coords) (v1333 : BitVec 32) (k1_hw50 : k1_chk50 i v1333), ∀ (k1_h2 : k1_cond2 i = 1#1), ∀ a, (k1_off101 v1333) a + S40x256.size a ≤ S32768x256.size a := fun i v1333 k1_hw50 k1_h2 => k1_hw50.2 k1_h2

def k1_off102 (i : grid1.Coords) (c49_i32 : BitVec 32) : Fin 1 → Nat :=
  let arg0 : BitVec 32 := BitVec.ofNat 32 (i 0).val
  let c8_i32_296 : BitVec 32 := 8#32
  let v1329 : BitVec 32 := Scalar.subi arg0 c8_i32_296
  let c128_i32_297 : BitVec 32 := 128#32
  let v1330 : BitVec 32 := Scalar.muli v1329 c128_i32_297
  let v1331 : BitVec 32 := Scalar.addi v1330 c49_i32
  let v1338 : Index := Scalar.indexCast v1331
  ![v1338.toNat]
def k1_mult51 (v1360 : BitVec 32) : BitVec 32 :=
  v1360

def k1_off103 (v1360 : BitVec 32) : Fin 2 → Nat :=
  let v1361 : BitVec 32 := v1360
  let v1362 : Index := Scalar.indexCast v1361
  let c0_304 : Index := 0#32
  ![v1362.toNat, 0]

def k1_chk51 (i : grid1.Coords) (v1360 : BitVec 32) : Prop :=
  (∀ (k1_h2 : k1_cond2 i = 1#1), 8 ∣ (k1_mult51 v1360).toNat) ∧
  (∀ (k1_h2 : k1_cond2 i = 1#1), ∀ a, (k1_off103 v1360) a + S40x256.size a ≤ S32768x256.size a)
theorem k1_mult51_dvd : ∀ (i : grid1.Coords) (v1360 : BitVec 32) (k1_hw51 : k1_chk51 i v1360), ∀ (k1_h2 : k1_cond2 i = 1#1), 8 ∣ (k1_mult51 v1360).toNat := fun i v1360 k1_hw51 k1_h2 => k1_hw51.1 k1_h2
theorem k1_off103_inb : ∀ (i : grid1.Coords) (v1360 : BitVec 32) (k1_hw51 : k1_chk51 i v1360), ∀ (k1_h2 : k1_cond2 i = 1#1), ∀ a, (k1_off103 v1360) a + S40x256.size a ≤ S32768x256.size a := fun i v1360 k1_hw51 k1_h2 => k1_hw51.2 k1_h2

def k1_off104 (i : grid1.Coords) (c50_i32 : BitVec 32) : Fin 1 → Nat :=
  let arg0 : BitVec 32 := BitVec.ofNat 32 (i 0).val
  let c8_i32_302 : BitVec 32 := 8#32
  let v1356 : BitVec 32 := Scalar.subi arg0 c8_i32_302
  let c128_i32_303 : BitVec 32 := 128#32
  let v1357 : BitVec 32 := Scalar.muli v1356 c128_i32_303
  let v1358 : BitVec 32 := Scalar.addi v1357 c50_i32
  let v1365 : Index := Scalar.indexCast v1358
  ![v1365.toNat]
def k1_mult52 (v1387 : BitVec 32) : BitVec 32 :=
  v1387

def k1_off105 (v1387 : BitVec 32) : Fin 2 → Nat :=
  let v1388 : BitVec 32 := v1387
  let v1389 : Index := Scalar.indexCast v1388
  let c0_310 : Index := 0#32
  ![v1389.toNat, 0]

def k1_chk52 (i : grid1.Coords) (v1387 : BitVec 32) : Prop :=
  (∀ (k1_h2 : k1_cond2 i = 1#1), 8 ∣ (k1_mult52 v1387).toNat) ∧
  (∀ (k1_h2 : k1_cond2 i = 1#1), ∀ a, (k1_off105 v1387) a + S40x256.size a ≤ S32768x256.size a)
theorem k1_mult52_dvd : ∀ (i : grid1.Coords) (v1387 : BitVec 32) (k1_hw52 : k1_chk52 i v1387), ∀ (k1_h2 : k1_cond2 i = 1#1), 8 ∣ (k1_mult52 v1387).toNat := fun i v1387 k1_hw52 k1_h2 => k1_hw52.1 k1_h2
theorem k1_off105_inb : ∀ (i : grid1.Coords) (v1387 : BitVec 32) (k1_hw52 : k1_chk52 i v1387), ∀ (k1_h2 : k1_cond2 i = 1#1), ∀ a, (k1_off105 v1387) a + S40x256.size a ≤ S32768x256.size a := fun i v1387 k1_hw52 k1_h2 => k1_hw52.2 k1_h2

def k1_off106 (i : grid1.Coords) (c51_i32 : BitVec 32) : Fin 1 → Nat :=
  let arg0 : BitVec 32 := BitVec.ofNat 32 (i 0).val
  let c8_i32_308 : BitVec 32 := 8#32
  let v1383 : BitVec 32 := Scalar.subi arg0 c8_i32_308
  let c128_i32_309 : BitVec 32 := 128#32
  let v1384 : BitVec 32 := Scalar.muli v1383 c128_i32_309
  let v1385 : BitVec 32 := Scalar.addi v1384 c51_i32
  let v1392 : Index := Scalar.indexCast v1385
  ![v1392.toNat]
def k1_mult53 (v1414 : BitVec 32) : BitVec 32 :=
  v1414

def k1_off107 (v1414 : BitVec 32) : Fin 2 → Nat :=
  let v1415 : BitVec 32 := v1414
  let v1416 : Index := Scalar.indexCast v1415
  let c0_316 : Index := 0#32
  ![v1416.toNat, 0]

def k1_chk53 (i : grid1.Coords) (v1414 : BitVec 32) : Prop :=
  (∀ (k1_h2 : k1_cond2 i = 1#1), 8 ∣ (k1_mult53 v1414).toNat) ∧
  (∀ (k1_h2 : k1_cond2 i = 1#1), ∀ a, (k1_off107 v1414) a + S40x256.size a ≤ S32768x256.size a)
theorem k1_mult53_dvd : ∀ (i : grid1.Coords) (v1414 : BitVec 32) (k1_hw53 : k1_chk53 i v1414), ∀ (k1_h2 : k1_cond2 i = 1#1), 8 ∣ (k1_mult53 v1414).toNat := fun i v1414 k1_hw53 k1_h2 => k1_hw53.1 k1_h2
theorem k1_off107_inb : ∀ (i : grid1.Coords) (v1414 : BitVec 32) (k1_hw53 : k1_chk53 i v1414), ∀ (k1_h2 : k1_cond2 i = 1#1), ∀ a, (k1_off107 v1414) a + S40x256.size a ≤ S32768x256.size a := fun i v1414 k1_hw53 k1_h2 => k1_hw53.2 k1_h2

def k1_off108 (i : grid1.Coords) (c52_i32 : BitVec 32) : Fin 1 → Nat :=
  let arg0 : BitVec 32 := BitVec.ofNat 32 (i 0).val
  let c8_i32_314 : BitVec 32 := 8#32
  let v1410 : BitVec 32 := Scalar.subi arg0 c8_i32_314
  let c128_i32_315 : BitVec 32 := 128#32
  let v1411 : BitVec 32 := Scalar.muli v1410 c128_i32_315
  let v1412 : BitVec 32 := Scalar.addi v1411 c52_i32
  let v1419 : Index := Scalar.indexCast v1412
  ![v1419.toNat]
def k1_mult54 (v1441 : BitVec 32) : BitVec 32 :=
  v1441

def k1_off109 (v1441 : BitVec 32) : Fin 2 → Nat :=
  let v1442 : BitVec 32 := v1441
  let v1443 : Index := Scalar.indexCast v1442
  let c0_322 : Index := 0#32
  ![v1443.toNat, 0]

def k1_chk54 (i : grid1.Coords) (v1441 : BitVec 32) : Prop :=
  (∀ (k1_h2 : k1_cond2 i = 1#1), 8 ∣ (k1_mult54 v1441).toNat) ∧
  (∀ (k1_h2 : k1_cond2 i = 1#1), ∀ a, (k1_off109 v1441) a + S40x256.size a ≤ S32768x256.size a)
theorem k1_mult54_dvd : ∀ (i : grid1.Coords) (v1441 : BitVec 32) (k1_hw54 : k1_chk54 i v1441), ∀ (k1_h2 : k1_cond2 i = 1#1), 8 ∣ (k1_mult54 v1441).toNat := fun i v1441 k1_hw54 k1_h2 => k1_hw54.1 k1_h2
theorem k1_off109_inb : ∀ (i : grid1.Coords) (v1441 : BitVec 32) (k1_hw54 : k1_chk54 i v1441), ∀ (k1_h2 : k1_cond2 i = 1#1), ∀ a, (k1_off109 v1441) a + S40x256.size a ≤ S32768x256.size a := fun i v1441 k1_hw54 k1_h2 => k1_hw54.2 k1_h2

def k1_off110 (i : grid1.Coords) (c53_i32 : BitVec 32) : Fin 1 → Nat :=
  let arg0 : BitVec 32 := BitVec.ofNat 32 (i 0).val
  let c8_i32_320 : BitVec 32 := 8#32
  let v1437 : BitVec 32 := Scalar.subi arg0 c8_i32_320
  let c128_i32_321 : BitVec 32 := 128#32
  let v1438 : BitVec 32 := Scalar.muli v1437 c128_i32_321
  let v1439 : BitVec 32 := Scalar.addi v1438 c53_i32
  let v1446 : Index := Scalar.indexCast v1439
  ![v1446.toNat]
def k1_mult55 (v1468 : BitVec 32) : BitVec 32 :=
  v1468

def k1_off111 (v1468 : BitVec 32) : Fin 2 → Nat :=
  let v1469 : BitVec 32 := v1468
  let v1470 : Index := Scalar.indexCast v1469
  let c0_328 : Index := 0#32
  ![v1470.toNat, 0]

def k1_chk55 (i : grid1.Coords) (v1468 : BitVec 32) : Prop :=
  (∀ (k1_h2 : k1_cond2 i = 1#1), 8 ∣ (k1_mult55 v1468).toNat) ∧
  (∀ (k1_h2 : k1_cond2 i = 1#1), ∀ a, (k1_off111 v1468) a + S40x256.size a ≤ S32768x256.size a)
theorem k1_mult55_dvd : ∀ (i : grid1.Coords) (v1468 : BitVec 32) (k1_hw55 : k1_chk55 i v1468), ∀ (k1_h2 : k1_cond2 i = 1#1), 8 ∣ (k1_mult55 v1468).toNat := fun i v1468 k1_hw55 k1_h2 => k1_hw55.1 k1_h2
theorem k1_off111_inb : ∀ (i : grid1.Coords) (v1468 : BitVec 32) (k1_hw55 : k1_chk55 i v1468), ∀ (k1_h2 : k1_cond2 i = 1#1), ∀ a, (k1_off111 v1468) a + S40x256.size a ≤ S32768x256.size a := fun i v1468 k1_hw55 k1_h2 => k1_hw55.2 k1_h2

def k1_off112 (i : grid1.Coords) (c54_i32 : BitVec 32) : Fin 1 → Nat :=
  let arg0 : BitVec 32 := BitVec.ofNat 32 (i 0).val
  let c8_i32_326 : BitVec 32 := 8#32
  let v1464 : BitVec 32 := Scalar.subi arg0 c8_i32_326
  let c128_i32_327 : BitVec 32 := 128#32
  let v1465 : BitVec 32 := Scalar.muli v1464 c128_i32_327
  let v1466 : BitVec 32 := Scalar.addi v1465 c54_i32
  let v1473 : Index := Scalar.indexCast v1466
  ![v1473.toNat]
def k1_mult56 (v1495 : BitVec 32) : BitVec 32 :=
  v1495

def k1_off113 (v1495 : BitVec 32) : Fin 2 → Nat :=
  let v1496 : BitVec 32 := v1495
  let v1497 : Index := Scalar.indexCast v1496
  let c0_334 : Index := 0#32
  ![v1497.toNat, 0]

def k1_chk56 (i : grid1.Coords) (v1495 : BitVec 32) : Prop :=
  (∀ (k1_h2 : k1_cond2 i = 1#1), 8 ∣ (k1_mult56 v1495).toNat) ∧
  (∀ (k1_h2 : k1_cond2 i = 1#1), ∀ a, (k1_off113 v1495) a + S40x256.size a ≤ S32768x256.size a)
theorem k1_mult56_dvd : ∀ (i : grid1.Coords) (v1495 : BitVec 32) (k1_hw56 : k1_chk56 i v1495), ∀ (k1_h2 : k1_cond2 i = 1#1), 8 ∣ (k1_mult56 v1495).toNat := fun i v1495 k1_hw56 k1_h2 => k1_hw56.1 k1_h2
theorem k1_off113_inb : ∀ (i : grid1.Coords) (v1495 : BitVec 32) (k1_hw56 : k1_chk56 i v1495), ∀ (k1_h2 : k1_cond2 i = 1#1), ∀ a, (k1_off113 v1495) a + S40x256.size a ≤ S32768x256.size a := fun i v1495 k1_hw56 k1_h2 => k1_hw56.2 k1_h2

def k1_off114 (i : grid1.Coords) (c55_i32 : BitVec 32) : Fin 1 → Nat :=
  let arg0 : BitVec 32 := BitVec.ofNat 32 (i 0).val
  let c8_i32_332 : BitVec 32 := 8#32
  let v1491 : BitVec 32 := Scalar.subi arg0 c8_i32_332
  let c128_i32_333 : BitVec 32 := 128#32
  let v1492 : BitVec 32 := Scalar.muli v1491 c128_i32_333
  let v1493 : BitVec 32 := Scalar.addi v1492 c55_i32
  let v1500 : Index := Scalar.indexCast v1493
  ![v1500.toNat]
def k1_mult57 (v1522 : BitVec 32) : BitVec 32 :=
  v1522

def k1_off115 (v1522 : BitVec 32) : Fin 2 → Nat :=
  let v1523 : BitVec 32 := v1522
  let v1524 : Index := Scalar.indexCast v1523
  let c0_340 : Index := 0#32
  ![v1524.toNat, 0]

def k1_chk57 (i : grid1.Coords) (v1522 : BitVec 32) : Prop :=
  (∀ (k1_h2 : k1_cond2 i = 1#1), 8 ∣ (k1_mult57 v1522).toNat) ∧
  (∀ (k1_h2 : k1_cond2 i = 1#1), ∀ a, (k1_off115 v1522) a + S40x256.size a ≤ S32768x256.size a)
theorem k1_mult57_dvd : ∀ (i : grid1.Coords) (v1522 : BitVec 32) (k1_hw57 : k1_chk57 i v1522), ∀ (k1_h2 : k1_cond2 i = 1#1), 8 ∣ (k1_mult57 v1522).toNat := fun i v1522 k1_hw57 k1_h2 => k1_hw57.1 k1_h2
theorem k1_off115_inb : ∀ (i : grid1.Coords) (v1522 : BitVec 32) (k1_hw57 : k1_chk57 i v1522), ∀ (k1_h2 : k1_cond2 i = 1#1), ∀ a, (k1_off115 v1522) a + S40x256.size a ≤ S32768x256.size a := fun i v1522 k1_hw57 k1_h2 => k1_hw57.2 k1_h2

def k1_off116 (i : grid1.Coords) (c56_i32 : BitVec 32) : Fin 1 → Nat :=
  let arg0 : BitVec 32 := BitVec.ofNat 32 (i 0).val
  let c8_i32_338 : BitVec 32 := 8#32
  let v1518 : BitVec 32 := Scalar.subi arg0 c8_i32_338
  let c128_i32_339 : BitVec 32 := 128#32
  let v1519 : BitVec 32 := Scalar.muli v1518 c128_i32_339
  let v1520 : BitVec 32 := Scalar.addi v1519 c56_i32
  let v1527 : Index := Scalar.indexCast v1520
  ![v1527.toNat]
def k1_mult58 (v1549 : BitVec 32) : BitVec 32 :=
  v1549

def k1_off117 (v1549 : BitVec 32) : Fin 2 → Nat :=
  let v1550 : BitVec 32 := v1549
  let v1551 : Index := Scalar.indexCast v1550
  let c0_346 : Index := 0#32
  ![v1551.toNat, 0]

def k1_chk58 (i : grid1.Coords) (v1549 : BitVec 32) : Prop :=
  (∀ (k1_h2 : k1_cond2 i = 1#1), 8 ∣ (k1_mult58 v1549).toNat) ∧
  (∀ (k1_h2 : k1_cond2 i = 1#1), ∀ a, (k1_off117 v1549) a + S40x256.size a ≤ S32768x256.size a)
theorem k1_mult58_dvd : ∀ (i : grid1.Coords) (v1549 : BitVec 32) (k1_hw58 : k1_chk58 i v1549), ∀ (k1_h2 : k1_cond2 i = 1#1), 8 ∣ (k1_mult58 v1549).toNat := fun i v1549 k1_hw58 k1_h2 => k1_hw58.1 k1_h2
theorem k1_off117_inb : ∀ (i : grid1.Coords) (v1549 : BitVec 32) (k1_hw58 : k1_chk58 i v1549), ∀ (k1_h2 : k1_cond2 i = 1#1), ∀ a, (k1_off117 v1549) a + S40x256.size a ≤ S32768x256.size a := fun i v1549 k1_hw58 k1_h2 => k1_hw58.2 k1_h2

def k1_off118 (i : grid1.Coords) (c57_i32 : BitVec 32) : Fin 1 → Nat :=
  let arg0 : BitVec 32 := BitVec.ofNat 32 (i 0).val
  let c8_i32_344 : BitVec 32 := 8#32
  let v1545 : BitVec 32 := Scalar.subi arg0 c8_i32_344
  let c128_i32_345 : BitVec 32 := 128#32
  let v1546 : BitVec 32 := Scalar.muli v1545 c128_i32_345
  let v1547 : BitVec 32 := Scalar.addi v1546 c57_i32
  let v1554 : Index := Scalar.indexCast v1547
  ![v1554.toNat]
def k1_mult59 (v1576 : BitVec 32) : BitVec 32 :=
  v1576

def k1_off119 (v1576 : BitVec 32) : Fin 2 → Nat :=
  let v1577 : BitVec 32 := v1576
  let v1578 : Index := Scalar.indexCast v1577
  let c0_352 : Index := 0#32
  ![v1578.toNat, 0]

def k1_chk59 (i : grid1.Coords) (v1576 : BitVec 32) : Prop :=
  (∀ (k1_h2 : k1_cond2 i = 1#1), 8 ∣ (k1_mult59 v1576).toNat) ∧
  (∀ (k1_h2 : k1_cond2 i = 1#1), ∀ a, (k1_off119 v1576) a + S40x256.size a ≤ S32768x256.size a)
theorem k1_mult59_dvd : ∀ (i : grid1.Coords) (v1576 : BitVec 32) (k1_hw59 : k1_chk59 i v1576), ∀ (k1_h2 : k1_cond2 i = 1#1), 8 ∣ (k1_mult59 v1576).toNat := fun i v1576 k1_hw59 k1_h2 => k1_hw59.1 k1_h2
theorem k1_off119_inb : ∀ (i : grid1.Coords) (v1576 : BitVec 32) (k1_hw59 : k1_chk59 i v1576), ∀ (k1_h2 : k1_cond2 i = 1#1), ∀ a, (k1_off119 v1576) a + S40x256.size a ≤ S32768x256.size a := fun i v1576 k1_hw59 k1_h2 => k1_hw59.2 k1_h2

def k1_off120 (i : grid1.Coords) (c58_i32 : BitVec 32) : Fin 1 → Nat :=
  let arg0 : BitVec 32 := BitVec.ofNat 32 (i 0).val
  let c8_i32_350 : BitVec 32 := 8#32
  let v1572 : BitVec 32 := Scalar.subi arg0 c8_i32_350
  let c128_i32_351 : BitVec 32 := 128#32
  let v1573 : BitVec 32 := Scalar.muli v1572 c128_i32_351
  let v1574 : BitVec 32 := Scalar.addi v1573 c58_i32
  let v1581 : Index := Scalar.indexCast v1574
  ![v1581.toNat]
def k1_mult60 (v1603 : BitVec 32) : BitVec 32 :=
  v1603

def k1_off121 (v1603 : BitVec 32) : Fin 2 → Nat :=
  let v1604 : BitVec 32 := v1603
  let v1605 : Index := Scalar.indexCast v1604
  let c0_358 : Index := 0#32
  ![v1605.toNat, 0]

def k1_chk60 (i : grid1.Coords) (v1603 : BitVec 32) : Prop :=
  (∀ (k1_h2 : k1_cond2 i = 1#1), 8 ∣ (k1_mult60 v1603).toNat) ∧
  (∀ (k1_h2 : k1_cond2 i = 1#1), ∀ a, (k1_off121 v1603) a + S40x256.size a ≤ S32768x256.size a)
theorem k1_mult60_dvd : ∀ (i : grid1.Coords) (v1603 : BitVec 32) (k1_hw60 : k1_chk60 i v1603), ∀ (k1_h2 : k1_cond2 i = 1#1), 8 ∣ (k1_mult60 v1603).toNat := fun i v1603 k1_hw60 k1_h2 => k1_hw60.1 k1_h2
theorem k1_off121_inb : ∀ (i : grid1.Coords) (v1603 : BitVec 32) (k1_hw60 : k1_chk60 i v1603), ∀ (k1_h2 : k1_cond2 i = 1#1), ∀ a, (k1_off121 v1603) a + S40x256.size a ≤ S32768x256.size a := fun i v1603 k1_hw60 k1_h2 => k1_hw60.2 k1_h2

def k1_off122 (i : grid1.Coords) (c59_i32 : BitVec 32) : Fin 1 → Nat :=
  let arg0 : BitVec 32 := BitVec.ofNat 32 (i 0).val
  let c8_i32_356 : BitVec 32 := 8#32
  let v1599 : BitVec 32 := Scalar.subi arg0 c8_i32_356
  let c128_i32_357 : BitVec 32 := 128#32
  let v1600 : BitVec 32 := Scalar.muli v1599 c128_i32_357
  let v1601 : BitVec 32 := Scalar.addi v1600 c59_i32
  let v1608 : Index := Scalar.indexCast v1601
  ![v1608.toNat]
def k1_mult61 (v1630 : BitVec 32) : BitVec 32 :=
  v1630

def k1_off123 (v1630 : BitVec 32) : Fin 2 → Nat :=
  let v1631 : BitVec 32 := v1630
  let v1632 : Index := Scalar.indexCast v1631
  let c0_364 : Index := 0#32
  ![v1632.toNat, 0]

def k1_chk61 (i : grid1.Coords) (v1630 : BitVec 32) : Prop :=
  (∀ (k1_h2 : k1_cond2 i = 1#1), 8 ∣ (k1_mult61 v1630).toNat) ∧
  (∀ (k1_h2 : k1_cond2 i = 1#1), ∀ a, (k1_off123 v1630) a + S40x256.size a ≤ S32768x256.size a)
theorem k1_mult61_dvd : ∀ (i : grid1.Coords) (v1630 : BitVec 32) (k1_hw61 : k1_chk61 i v1630), ∀ (k1_h2 : k1_cond2 i = 1#1), 8 ∣ (k1_mult61 v1630).toNat := fun i v1630 k1_hw61 k1_h2 => k1_hw61.1 k1_h2
theorem k1_off123_inb : ∀ (i : grid1.Coords) (v1630 : BitVec 32) (k1_hw61 : k1_chk61 i v1630), ∀ (k1_h2 : k1_cond2 i = 1#1), ∀ a, (k1_off123 v1630) a + S40x256.size a ≤ S32768x256.size a := fun i v1630 k1_hw61 k1_h2 => k1_hw61.2 k1_h2

def k1_off124 (i : grid1.Coords) (c60_i32 : BitVec 32) : Fin 1 → Nat :=
  let arg0 : BitVec 32 := BitVec.ofNat 32 (i 0).val
  let c8_i32_362 : BitVec 32 := 8#32
  let v1626 : BitVec 32 := Scalar.subi arg0 c8_i32_362
  let c128_i32_363 : BitVec 32 := 128#32
  let v1627 : BitVec 32 := Scalar.muli v1626 c128_i32_363
  let v1628 : BitVec 32 := Scalar.addi v1627 c60_i32
  let v1635 : Index := Scalar.indexCast v1628
  ![v1635.toNat]
def k1_mult62 (v1657 : BitVec 32) : BitVec 32 :=
  v1657

def k1_off125 (v1657 : BitVec 32) : Fin 2 → Nat :=
  let v1658 : BitVec 32 := v1657
  let v1659 : Index := Scalar.indexCast v1658
  let c0_370 : Index := 0#32
  ![v1659.toNat, 0]

def k1_chk62 (i : grid1.Coords) (v1657 : BitVec 32) : Prop :=
  (∀ (k1_h2 : k1_cond2 i = 1#1), 8 ∣ (k1_mult62 v1657).toNat) ∧
  (∀ (k1_h2 : k1_cond2 i = 1#1), ∀ a, (k1_off125 v1657) a + S40x256.size a ≤ S32768x256.size a)
theorem k1_mult62_dvd : ∀ (i : grid1.Coords) (v1657 : BitVec 32) (k1_hw62 : k1_chk62 i v1657), ∀ (k1_h2 : k1_cond2 i = 1#1), 8 ∣ (k1_mult62 v1657).toNat := fun i v1657 k1_hw62 k1_h2 => k1_hw62.1 k1_h2
theorem k1_off125_inb : ∀ (i : grid1.Coords) (v1657 : BitVec 32) (k1_hw62 : k1_chk62 i v1657), ∀ (k1_h2 : k1_cond2 i = 1#1), ∀ a, (k1_off125 v1657) a + S40x256.size a ≤ S32768x256.size a := fun i v1657 k1_hw62 k1_h2 => k1_hw62.2 k1_h2

def k1_off126 (i : grid1.Coords) (c61_i32 : BitVec 32) : Fin 1 → Nat :=
  let arg0 : BitVec 32 := BitVec.ofNat 32 (i 0).val
  let c8_i32_368 : BitVec 32 := 8#32
  let v1653 : BitVec 32 := Scalar.subi arg0 c8_i32_368
  let c128_i32_369 : BitVec 32 := 128#32
  let v1654 : BitVec 32 := Scalar.muli v1653 c128_i32_369
  let v1655 : BitVec 32 := Scalar.addi v1654 c61_i32
  let v1662 : Index := Scalar.indexCast v1655
  ![v1662.toNat]
def k1_mult63 (v1684 : BitVec 32) : BitVec 32 :=
  v1684

def k1_off127 (v1684 : BitVec 32) : Fin 2 → Nat :=
  let v1685 : BitVec 32 := v1684
  let v1686 : Index := Scalar.indexCast v1685
  let c0_376 : Index := 0#32
  ![v1686.toNat, 0]

def k1_chk63 (i : grid1.Coords) (v1684 : BitVec 32) : Prop :=
  (∀ (k1_h2 : k1_cond2 i = 1#1), 8 ∣ (k1_mult63 v1684).toNat) ∧
  (∀ (k1_h2 : k1_cond2 i = 1#1), ∀ a, (k1_off127 v1684) a + S40x256.size a ≤ S32768x256.size a)
theorem k1_mult63_dvd : ∀ (i : grid1.Coords) (v1684 : BitVec 32) (k1_hw63 : k1_chk63 i v1684), ∀ (k1_h2 : k1_cond2 i = 1#1), 8 ∣ (k1_mult63 v1684).toNat := fun i v1684 k1_hw63 k1_h2 => k1_hw63.1 k1_h2
theorem k1_off127_inb : ∀ (i : grid1.Coords) (v1684 : BitVec 32) (k1_hw63 : k1_chk63 i v1684), ∀ (k1_h2 : k1_cond2 i = 1#1), ∀ a, (k1_off127 v1684) a + S40x256.size a ≤ S32768x256.size a := fun i v1684 k1_hw63 k1_h2 => k1_hw63.2 k1_h2

def k1_off128 (i : grid1.Coords) (c62_i32 : BitVec 32) : Fin 1 → Nat :=
  let arg0 : BitVec 32 := BitVec.ofNat 32 (i 0).val
  let c8_i32_374 : BitVec 32 := 8#32
  let v1680 : BitVec 32 := Scalar.subi arg0 c8_i32_374
  let c128_i32_375 : BitVec 32 := 128#32
  let v1681 : BitVec 32 := Scalar.muli v1680 c128_i32_375
  let v1682 : BitVec 32 := Scalar.addi v1681 c62_i32
  let v1689 : Index := Scalar.indexCast v1682
  ![v1689.toNat]
def k1_mult64 (v1711 : BitVec 32) : BitVec 32 :=
  v1711

def k1_off129 (v1711 : BitVec 32) : Fin 2 → Nat :=
  let v1712 : BitVec 32 := v1711
  let v1713 : Index := Scalar.indexCast v1712
  let c0_382 : Index := 0#32
  ![v1713.toNat, 0]

def k1_chk64 (i : grid1.Coords) (v1711 : BitVec 32) : Prop :=
  (∀ (k1_h2 : k1_cond2 i = 1#1), 8 ∣ (k1_mult64 v1711).toNat) ∧
  (∀ (k1_h2 : k1_cond2 i = 1#1), ∀ a, (k1_off129 v1711) a + S40x256.size a ≤ S32768x256.size a)
theorem k1_mult64_dvd : ∀ (i : grid1.Coords) (v1711 : BitVec 32) (k1_hw64 : k1_chk64 i v1711), ∀ (k1_h2 : k1_cond2 i = 1#1), 8 ∣ (k1_mult64 v1711).toNat := fun i v1711 k1_hw64 k1_h2 => k1_hw64.1 k1_h2
theorem k1_off129_inb : ∀ (i : grid1.Coords) (v1711 : BitVec 32) (k1_hw64 : k1_chk64 i v1711), ∀ (k1_h2 : k1_cond2 i = 1#1), ∀ a, (k1_off129 v1711) a + S40x256.size a ≤ S32768x256.size a := fun i v1711 k1_hw64 k1_h2 => k1_hw64.2 k1_h2

def k1_off130 (i : grid1.Coords) (c63_i32 : BitVec 32) : Fin 1 → Nat :=
  let arg0 : BitVec 32 := BitVec.ofNat 32 (i 0).val
  let c8_i32_380 : BitVec 32 := 8#32
  let v1707 : BitVec 32 := Scalar.subi arg0 c8_i32_380
  let c128_i32_381 : BitVec 32 := 128#32
  let v1708 : BitVec 32 := Scalar.muli v1707 c128_i32_381
  let v1709 : BitVec 32 := Scalar.addi v1708 c63_i32
  let v1716 : Index := Scalar.indexCast v1709
  ![v1716.toNat]
def k1_mult65 (v1738 : BitVec 32) : BitVec 32 :=
  v1738

def k1_off131 (v1738 : BitVec 32) : Fin 2 → Nat :=
  let v1739 : BitVec 32 := v1738
  let v1740 : Index := Scalar.indexCast v1739
  let c0_388 : Index := 0#32
  ![v1740.toNat, 0]

def k1_chk65 (i : grid1.Coords) (v1738 : BitVec 32) : Prop :=
  (∀ (k1_h2 : k1_cond2 i = 1#1), 8 ∣ (k1_mult65 v1738).toNat) ∧
  (∀ (k1_h2 : k1_cond2 i = 1#1), ∀ a, (k1_off131 v1738) a + S40x256.size a ≤ S32768x256.size a)
theorem k1_mult65_dvd : ∀ (i : grid1.Coords) (v1738 : BitVec 32) (k1_hw65 : k1_chk65 i v1738), ∀ (k1_h2 : k1_cond2 i = 1#1), 8 ∣ (k1_mult65 v1738).toNat := fun i v1738 k1_hw65 k1_h2 => k1_hw65.1 k1_h2
theorem k1_off131_inb : ∀ (i : grid1.Coords) (v1738 : BitVec 32) (k1_hw65 : k1_chk65 i v1738), ∀ (k1_h2 : k1_cond2 i = 1#1), ∀ a, (k1_off131 v1738) a + S40x256.size a ≤ S32768x256.size a := fun i v1738 k1_hw65 k1_h2 => k1_hw65.2 k1_h2

def k1_off132 (i : grid1.Coords) (c64_i32 : BitVec 32) : Fin 1 → Nat :=
  let arg0 : BitVec 32 := BitVec.ofNat 32 (i 0).val
  let c8_i32_386 : BitVec 32 := 8#32
  let v1734 : BitVec 32 := Scalar.subi arg0 c8_i32_386
  let c128_i32_387 : BitVec 32 := 128#32
  let v1735 : BitVec 32 := Scalar.muli v1734 c128_i32_387
  let v1736 : BitVec 32 := Scalar.addi v1735 c64_i32
  let v1743 : Index := Scalar.indexCast v1736
  ![v1743.toNat]
def k1_mult66 (v1765 : BitVec 32) : BitVec 32 :=
  v1765

def k1_off133 (v1765 : BitVec 32) : Fin 2 → Nat :=
  let v1766 : BitVec 32 := v1765
  let v1767 : Index := Scalar.indexCast v1766
  let c0_394 : Index := 0#32
  ![v1767.toNat, 0]

def k1_chk66 (i : grid1.Coords) (v1765 : BitVec 32) : Prop :=
  (∀ (k1_h2 : k1_cond2 i = 1#1), 8 ∣ (k1_mult66 v1765).toNat) ∧
  (∀ (k1_h2 : k1_cond2 i = 1#1), ∀ a, (k1_off133 v1765) a + S40x256.size a ≤ S32768x256.size a)
theorem k1_mult66_dvd : ∀ (i : grid1.Coords) (v1765 : BitVec 32) (k1_hw66 : k1_chk66 i v1765), ∀ (k1_h2 : k1_cond2 i = 1#1), 8 ∣ (k1_mult66 v1765).toNat := fun i v1765 k1_hw66 k1_h2 => k1_hw66.1 k1_h2
theorem k1_off133_inb : ∀ (i : grid1.Coords) (v1765 : BitVec 32) (k1_hw66 : k1_chk66 i v1765), ∀ (k1_h2 : k1_cond2 i = 1#1), ∀ a, (k1_off133 v1765) a + S40x256.size a ≤ S32768x256.size a := fun i v1765 k1_hw66 k1_h2 => k1_hw66.2 k1_h2

def k1_off134 (i : grid1.Coords) (c65_i32 : BitVec 32) : Fin 1 → Nat :=
  let arg0 : BitVec 32 := BitVec.ofNat 32 (i 0).val
  let c8_i32_392 : BitVec 32 := 8#32
  let v1761 : BitVec 32 := Scalar.subi arg0 c8_i32_392
  let c128_i32_393 : BitVec 32 := 128#32
  let v1762 : BitVec 32 := Scalar.muli v1761 c128_i32_393
  let v1763 : BitVec 32 := Scalar.addi v1762 c65_i32
  let v1770 : Index := Scalar.indexCast v1763
  ![v1770.toNat]
def k1_mult67 (v1792 : BitVec 32) : BitVec 32 :=
  v1792

def k1_off135 (v1792 : BitVec 32) : Fin 2 → Nat :=
  let v1793 : BitVec 32 := v1792
  let v1794 : Index := Scalar.indexCast v1793
  let c0_400 : Index := 0#32
  ![v1794.toNat, 0]

def k1_chk67 (i : grid1.Coords) (v1792 : BitVec 32) : Prop :=
  (∀ (k1_h2 : k1_cond2 i = 1#1), 8 ∣ (k1_mult67 v1792).toNat) ∧
  (∀ (k1_h2 : k1_cond2 i = 1#1), ∀ a, (k1_off135 v1792) a + S40x256.size a ≤ S32768x256.size a)
theorem k1_mult67_dvd : ∀ (i : grid1.Coords) (v1792 : BitVec 32) (k1_hw67 : k1_chk67 i v1792), ∀ (k1_h2 : k1_cond2 i = 1#1), 8 ∣ (k1_mult67 v1792).toNat := fun i v1792 k1_hw67 k1_h2 => k1_hw67.1 k1_h2
theorem k1_off135_inb : ∀ (i : grid1.Coords) (v1792 : BitVec 32) (k1_hw67 : k1_chk67 i v1792), ∀ (k1_h2 : k1_cond2 i = 1#1), ∀ a, (k1_off135 v1792) a + S40x256.size a ≤ S32768x256.size a := fun i v1792 k1_hw67 k1_h2 => k1_hw67.2 k1_h2

def k1_off136 (i : grid1.Coords) (c66_i32 : BitVec 32) : Fin 1 → Nat :=
  let arg0 : BitVec 32 := BitVec.ofNat 32 (i 0).val
  let c8_i32_398 : BitVec 32 := 8#32
  let v1788 : BitVec 32 := Scalar.subi arg0 c8_i32_398
  let c128_i32_399 : BitVec 32 := 128#32
  let v1789 : BitVec 32 := Scalar.muli v1788 c128_i32_399
  let v1790 : BitVec 32 := Scalar.addi v1789 c66_i32
  let v1797 : Index := Scalar.indexCast v1790
  ![v1797.toNat]
def k1_mult68 (v1819 : BitVec 32) : BitVec 32 :=
  v1819

def k1_off137 (v1819 : BitVec 32) : Fin 2 → Nat :=
  let v1820 : BitVec 32 := v1819
  let v1821 : Index := Scalar.indexCast v1820
  let c0_406 : Index := 0#32
  ![v1821.toNat, 0]

def k1_chk68 (i : grid1.Coords) (v1819 : BitVec 32) : Prop :=
  (∀ (k1_h2 : k1_cond2 i = 1#1), 8 ∣ (k1_mult68 v1819).toNat) ∧
  (∀ (k1_h2 : k1_cond2 i = 1#1), ∀ a, (k1_off137 v1819) a + S40x256.size a ≤ S32768x256.size a)
theorem k1_mult68_dvd : ∀ (i : grid1.Coords) (v1819 : BitVec 32) (k1_hw68 : k1_chk68 i v1819), ∀ (k1_h2 : k1_cond2 i = 1#1), 8 ∣ (k1_mult68 v1819).toNat := fun i v1819 k1_hw68 k1_h2 => k1_hw68.1 k1_h2
theorem k1_off137_inb : ∀ (i : grid1.Coords) (v1819 : BitVec 32) (k1_hw68 : k1_chk68 i v1819), ∀ (k1_h2 : k1_cond2 i = 1#1), ∀ a, (k1_off137 v1819) a + S40x256.size a ≤ S32768x256.size a := fun i v1819 k1_hw68 k1_h2 => k1_hw68.2 k1_h2

def k1_off138 (i : grid1.Coords) (c67_i32 : BitVec 32) : Fin 1 → Nat :=
  let arg0 : BitVec 32 := BitVec.ofNat 32 (i 0).val
  let c8_i32_404 : BitVec 32 := 8#32
  let v1815 : BitVec 32 := Scalar.subi arg0 c8_i32_404
  let c128_i32_405 : BitVec 32 := 128#32
  let v1816 : BitVec 32 := Scalar.muli v1815 c128_i32_405
  let v1817 : BitVec 32 := Scalar.addi v1816 c67_i32
  let v1824 : Index := Scalar.indexCast v1817
  ![v1824.toNat]
def k1_mult69 (v1846 : BitVec 32) : BitVec 32 :=
  v1846

def k1_off139 (v1846 : BitVec 32) : Fin 2 → Nat :=
  let v1847 : BitVec 32 := v1846
  let v1848 : Index := Scalar.indexCast v1847
  let c0_412 : Index := 0#32
  ![v1848.toNat, 0]

def k1_chk69 (i : grid1.Coords) (v1846 : BitVec 32) : Prop :=
  (∀ (k1_h2 : k1_cond2 i = 1#1), 8 ∣ (k1_mult69 v1846).toNat) ∧
  (∀ (k1_h2 : k1_cond2 i = 1#1), ∀ a, (k1_off139 v1846) a + S40x256.size a ≤ S32768x256.size a)
theorem k1_mult69_dvd : ∀ (i : grid1.Coords) (v1846 : BitVec 32) (k1_hw69 : k1_chk69 i v1846), ∀ (k1_h2 : k1_cond2 i = 1#1), 8 ∣ (k1_mult69 v1846).toNat := fun i v1846 k1_hw69 k1_h2 => k1_hw69.1 k1_h2
theorem k1_off139_inb : ∀ (i : grid1.Coords) (v1846 : BitVec 32) (k1_hw69 : k1_chk69 i v1846), ∀ (k1_h2 : k1_cond2 i = 1#1), ∀ a, (k1_off139 v1846) a + S40x256.size a ≤ S32768x256.size a := fun i v1846 k1_hw69 k1_h2 => k1_hw69.2 k1_h2

def k1_off140 (i : grid1.Coords) (c68_i32 : BitVec 32) : Fin 1 → Nat :=
  let arg0 : BitVec 32 := BitVec.ofNat 32 (i 0).val
  let c8_i32_410 : BitVec 32 := 8#32
  let v1842 : BitVec 32 := Scalar.subi arg0 c8_i32_410
  let c128_i32_411 : BitVec 32 := 128#32
  let v1843 : BitVec 32 := Scalar.muli v1842 c128_i32_411
  let v1844 : BitVec 32 := Scalar.addi v1843 c68_i32
  let v1851 : Index := Scalar.indexCast v1844
  ![v1851.toNat]
def k1_mult70 (v1873 : BitVec 32) : BitVec 32 :=
  v1873

def k1_off141 (v1873 : BitVec 32) : Fin 2 → Nat :=
  let v1874 : BitVec 32 := v1873
  let v1875 : Index := Scalar.indexCast v1874
  let c0_418 : Index := 0#32
  ![v1875.toNat, 0]

def k1_chk70 (i : grid1.Coords) (v1873 : BitVec 32) : Prop :=
  (∀ (k1_h2 : k1_cond2 i = 1#1), 8 ∣ (k1_mult70 v1873).toNat) ∧
  (∀ (k1_h2 : k1_cond2 i = 1#1), ∀ a, (k1_off141 v1873) a + S40x256.size a ≤ S32768x256.size a)
theorem k1_mult70_dvd : ∀ (i : grid1.Coords) (v1873 : BitVec 32) (k1_hw70 : k1_chk70 i v1873), ∀ (k1_h2 : k1_cond2 i = 1#1), 8 ∣ (k1_mult70 v1873).toNat := fun i v1873 k1_hw70 k1_h2 => k1_hw70.1 k1_h2
theorem k1_off141_inb : ∀ (i : grid1.Coords) (v1873 : BitVec 32) (k1_hw70 : k1_chk70 i v1873), ∀ (k1_h2 : k1_cond2 i = 1#1), ∀ a, (k1_off141 v1873) a + S40x256.size a ≤ S32768x256.size a := fun i v1873 k1_hw70 k1_h2 => k1_hw70.2 k1_h2

def k1_off142 (i : grid1.Coords) (c69_i32 : BitVec 32) : Fin 1 → Nat :=
  let arg0 : BitVec 32 := BitVec.ofNat 32 (i 0).val
  let c8_i32_416 : BitVec 32 := 8#32
  let v1869 : BitVec 32 := Scalar.subi arg0 c8_i32_416
  let c128_i32_417 : BitVec 32 := 128#32
  let v1870 : BitVec 32 := Scalar.muli v1869 c128_i32_417
  let v1871 : BitVec 32 := Scalar.addi v1870 c69_i32
  let v1878 : Index := Scalar.indexCast v1871
  ![v1878.toNat]
def k1_mult71 (v1900 : BitVec 32) : BitVec 32 :=
  v1900

def k1_off143 (v1900 : BitVec 32) : Fin 2 → Nat :=
  let v1901 : BitVec 32 := v1900
  let v1902 : Index := Scalar.indexCast v1901
  let c0_424 : Index := 0#32
  ![v1902.toNat, 0]

def k1_chk71 (i : grid1.Coords) (v1900 : BitVec 32) : Prop :=
  (∀ (k1_h2 : k1_cond2 i = 1#1), 8 ∣ (k1_mult71 v1900).toNat) ∧
  (∀ (k1_h2 : k1_cond2 i = 1#1), ∀ a, (k1_off143 v1900) a + S40x256.size a ≤ S32768x256.size a)
theorem k1_mult71_dvd : ∀ (i : grid1.Coords) (v1900 : BitVec 32) (k1_hw71 : k1_chk71 i v1900), ∀ (k1_h2 : k1_cond2 i = 1#1), 8 ∣ (k1_mult71 v1900).toNat := fun i v1900 k1_hw71 k1_h2 => k1_hw71.1 k1_h2
theorem k1_off143_inb : ∀ (i : grid1.Coords) (v1900 : BitVec 32) (k1_hw71 : k1_chk71 i v1900), ∀ (k1_h2 : k1_cond2 i = 1#1), ∀ a, (k1_off143 v1900) a + S40x256.size a ≤ S32768x256.size a := fun i v1900 k1_hw71 k1_h2 => k1_hw71.2 k1_h2

def k1_off144 (i : grid1.Coords) (c70_i32 : BitVec 32) : Fin 1 → Nat :=
  let arg0 : BitVec 32 := BitVec.ofNat 32 (i 0).val
  let c8_i32_422 : BitVec 32 := 8#32
  let v1896 : BitVec 32 := Scalar.subi arg0 c8_i32_422
  let c128_i32_423 : BitVec 32 := 128#32
  let v1897 : BitVec 32 := Scalar.muli v1896 c128_i32_423
  let v1898 : BitVec 32 := Scalar.addi v1897 c70_i32
  let v1905 : Index := Scalar.indexCast v1898
  ![v1905.toNat]
def k1_mult72 (v1927 : BitVec 32) : BitVec 32 :=
  v1927

def k1_off145 (v1927 : BitVec 32) : Fin 2 → Nat :=
  let v1928 : BitVec 32 := v1927
  let v1929 : Index := Scalar.indexCast v1928
  let c0_430 : Index := 0#32
  ![v1929.toNat, 0]

def k1_chk72 (i : grid1.Coords) (v1927 : BitVec 32) : Prop :=
  (∀ (k1_h2 : k1_cond2 i = 1#1), 8 ∣ (k1_mult72 v1927).toNat) ∧
  (∀ (k1_h2 : k1_cond2 i = 1#1), ∀ a, (k1_off145 v1927) a + S40x256.size a ≤ S32768x256.size a)
theorem k1_mult72_dvd : ∀ (i : grid1.Coords) (v1927 : BitVec 32) (k1_hw72 : k1_chk72 i v1927), ∀ (k1_h2 : k1_cond2 i = 1#1), 8 ∣ (k1_mult72 v1927).toNat := fun i v1927 k1_hw72 k1_h2 => k1_hw72.1 k1_h2
theorem k1_off145_inb : ∀ (i : grid1.Coords) (v1927 : BitVec 32) (k1_hw72 : k1_chk72 i v1927), ∀ (k1_h2 : k1_cond2 i = 1#1), ∀ a, (k1_off145 v1927) a + S40x256.size a ≤ S32768x256.size a := fun i v1927 k1_hw72 k1_h2 => k1_hw72.2 k1_h2

def k1_off146 (i : grid1.Coords) (c71_i32 : BitVec 32) : Fin 1 → Nat :=
  let arg0 : BitVec 32 := BitVec.ofNat 32 (i 0).val
  let c8_i32_428 : BitVec 32 := 8#32
  let v1923 : BitVec 32 := Scalar.subi arg0 c8_i32_428
  let c128_i32_429 : BitVec 32 := 128#32
  let v1924 : BitVec 32 := Scalar.muli v1923 c128_i32_429
  let v1925 : BitVec 32 := Scalar.addi v1924 c71_i32
  let v1932 : Index := Scalar.indexCast v1925
  ![v1932.toNat]
def k1_mult73 (v1954 : BitVec 32) : BitVec 32 :=
  v1954

def k1_off147 (v1954 : BitVec 32) : Fin 2 → Nat :=
  let v1955 : BitVec 32 := v1954
  let v1956 : Index := Scalar.indexCast v1955
  let c0_436 : Index := 0#32
  ![v1956.toNat, 0]

def k1_chk73 (i : grid1.Coords) (v1954 : BitVec 32) : Prop :=
  (∀ (k1_h2 : k1_cond2 i = 1#1), 8 ∣ (k1_mult73 v1954).toNat) ∧
  (∀ (k1_h2 : k1_cond2 i = 1#1), ∀ a, (k1_off147 v1954) a + S40x256.size a ≤ S32768x256.size a)
theorem k1_mult73_dvd : ∀ (i : grid1.Coords) (v1954 : BitVec 32) (k1_hw73 : k1_chk73 i v1954), ∀ (k1_h2 : k1_cond2 i = 1#1), 8 ∣ (k1_mult73 v1954).toNat := fun i v1954 k1_hw73 k1_h2 => k1_hw73.1 k1_h2
theorem k1_off147_inb : ∀ (i : grid1.Coords) (v1954 : BitVec 32) (k1_hw73 : k1_chk73 i v1954), ∀ (k1_h2 : k1_cond2 i = 1#1), ∀ a, (k1_off147 v1954) a + S40x256.size a ≤ S32768x256.size a := fun i v1954 k1_hw73 k1_h2 => k1_hw73.2 k1_h2

def k1_off148 (i : grid1.Coords) (c72_i32 : BitVec 32) : Fin 1 → Nat :=
  let arg0 : BitVec 32 := BitVec.ofNat 32 (i 0).val
  let c8_i32_434 : BitVec 32 := 8#32
  let v1950 : BitVec 32 := Scalar.subi arg0 c8_i32_434
  let c128_i32_435 : BitVec 32 := 128#32
  let v1951 : BitVec 32 := Scalar.muli v1950 c128_i32_435
  let v1952 : BitVec 32 := Scalar.addi v1951 c72_i32
  let v1959 : Index := Scalar.indexCast v1952
  ![v1959.toNat]
def k1_mult74 (v1981 : BitVec 32) : BitVec 32 :=
  v1981

def k1_off149 (v1981 : BitVec 32) : Fin 2 → Nat :=
  let v1982 : BitVec 32 := v1981
  let v1983 : Index := Scalar.indexCast v1982
  let c0_442 : Index := 0#32
  ![v1983.toNat, 0]

def k1_chk74 (i : grid1.Coords) (v1981 : BitVec 32) : Prop :=
  (∀ (k1_h2 : k1_cond2 i = 1#1), 8 ∣ (k1_mult74 v1981).toNat) ∧
  (∀ (k1_h2 : k1_cond2 i = 1#1), ∀ a, (k1_off149 v1981) a + S40x256.size a ≤ S32768x256.size a)
theorem k1_mult74_dvd : ∀ (i : grid1.Coords) (v1981 : BitVec 32) (k1_hw74 : k1_chk74 i v1981), ∀ (k1_h2 : k1_cond2 i = 1#1), 8 ∣ (k1_mult74 v1981).toNat := fun i v1981 k1_hw74 k1_h2 => k1_hw74.1 k1_h2
theorem k1_off149_inb : ∀ (i : grid1.Coords) (v1981 : BitVec 32) (k1_hw74 : k1_chk74 i v1981), ∀ (k1_h2 : k1_cond2 i = 1#1), ∀ a, (k1_off149 v1981) a + S40x256.size a ≤ S32768x256.size a := fun i v1981 k1_hw74 k1_h2 => k1_hw74.2 k1_h2

def k1_off150 (i : grid1.Coords) (c73_i32 : BitVec 32) : Fin 1 → Nat :=
  let arg0 : BitVec 32 := BitVec.ofNat 32 (i 0).val
  let c8_i32_440 : BitVec 32 := 8#32
  let v1977 : BitVec 32 := Scalar.subi arg0 c8_i32_440
  let c128_i32_441 : BitVec 32 := 128#32
  let v1978 : BitVec 32 := Scalar.muli v1977 c128_i32_441
  let v1979 : BitVec 32 := Scalar.addi v1978 c73_i32
  let v1986 : Index := Scalar.indexCast v1979
  ![v1986.toNat]
def k1_mult75 (v2008 : BitVec 32) : BitVec 32 :=
  v2008

def k1_off151 (v2008 : BitVec 32) : Fin 2 → Nat :=
  let v2009 : BitVec 32 := v2008
  let v2010 : Index := Scalar.indexCast v2009
  let c0_448 : Index := 0#32
  ![v2010.toNat, 0]

def k1_chk75 (i : grid1.Coords) (v2008 : BitVec 32) : Prop :=
  (∀ (k1_h2 : k1_cond2 i = 1#1), 8 ∣ (k1_mult75 v2008).toNat) ∧
  (∀ (k1_h2 : k1_cond2 i = 1#1), ∀ a, (k1_off151 v2008) a + S40x256.size a ≤ S32768x256.size a)
theorem k1_mult75_dvd : ∀ (i : grid1.Coords) (v2008 : BitVec 32) (k1_hw75 : k1_chk75 i v2008), ∀ (k1_h2 : k1_cond2 i = 1#1), 8 ∣ (k1_mult75 v2008).toNat := fun i v2008 k1_hw75 k1_h2 => k1_hw75.1 k1_h2
theorem k1_off151_inb : ∀ (i : grid1.Coords) (v2008 : BitVec 32) (k1_hw75 : k1_chk75 i v2008), ∀ (k1_h2 : k1_cond2 i = 1#1), ∀ a, (k1_off151 v2008) a + S40x256.size a ≤ S32768x256.size a := fun i v2008 k1_hw75 k1_h2 => k1_hw75.2 k1_h2

def k1_off152 (i : grid1.Coords) (c74_i32 : BitVec 32) : Fin 1 → Nat :=
  let arg0 : BitVec 32 := BitVec.ofNat 32 (i 0).val
  let c8_i32_446 : BitVec 32 := 8#32
  let v2004 : BitVec 32 := Scalar.subi arg0 c8_i32_446
  let c128_i32_447 : BitVec 32 := 128#32
  let v2005 : BitVec 32 := Scalar.muli v2004 c128_i32_447
  let v2006 : BitVec 32 := Scalar.addi v2005 c74_i32
  let v2013 : Index := Scalar.indexCast v2006
  ![v2013.toNat]
def k1_mult76 (v2035 : BitVec 32) : BitVec 32 :=
  v2035

def k1_off153 (v2035 : BitVec 32) : Fin 2 → Nat :=
  let v2036 : BitVec 32 := v2035
  let v2037 : Index := Scalar.indexCast v2036
  let c0_454 : Index := 0#32
  ![v2037.toNat, 0]

def k1_chk76 (i : grid1.Coords) (v2035 : BitVec 32) : Prop :=
  (∀ (k1_h2 : k1_cond2 i = 1#1), 8 ∣ (k1_mult76 v2035).toNat) ∧
  (∀ (k1_h2 : k1_cond2 i = 1#1), ∀ a, (k1_off153 v2035) a + S40x256.size a ≤ S32768x256.size a)
theorem k1_mult76_dvd : ∀ (i : grid1.Coords) (v2035 : BitVec 32) (k1_hw76 : k1_chk76 i v2035), ∀ (k1_h2 : k1_cond2 i = 1#1), 8 ∣ (k1_mult76 v2035).toNat := fun i v2035 k1_hw76 k1_h2 => k1_hw76.1 k1_h2
theorem k1_off153_inb : ∀ (i : grid1.Coords) (v2035 : BitVec 32) (k1_hw76 : k1_chk76 i v2035), ∀ (k1_h2 : k1_cond2 i = 1#1), ∀ a, (k1_off153 v2035) a + S40x256.size a ≤ S32768x256.size a := fun i v2035 k1_hw76 k1_h2 => k1_hw76.2 k1_h2

def k1_off154 (i : grid1.Coords) (c75_i32 : BitVec 32) : Fin 1 → Nat :=
  let arg0 : BitVec 32 := BitVec.ofNat 32 (i 0).val
  let c8_i32_452 : BitVec 32 := 8#32
  let v2031 : BitVec 32 := Scalar.subi arg0 c8_i32_452
  let c128_i32_453 : BitVec 32 := 128#32
  let v2032 : BitVec 32 := Scalar.muli v2031 c128_i32_453
  let v2033 : BitVec 32 := Scalar.addi v2032 c75_i32
  let v2040 : Index := Scalar.indexCast v2033
  ![v2040.toNat]
def k1_mult77 (v2062 : BitVec 32) : BitVec 32 :=
  v2062

def k1_off155 (v2062 : BitVec 32) : Fin 2 → Nat :=
  let v2063 : BitVec 32 := v2062
  let v2064 : Index := Scalar.indexCast v2063
  let c0_460 : Index := 0#32
  ![v2064.toNat, 0]

def k1_chk77 (i : grid1.Coords) (v2062 : BitVec 32) : Prop :=
  (∀ (k1_h2 : k1_cond2 i = 1#1), 8 ∣ (k1_mult77 v2062).toNat) ∧
  (∀ (k1_h2 : k1_cond2 i = 1#1), ∀ a, (k1_off155 v2062) a + S40x256.size a ≤ S32768x256.size a)
theorem k1_mult77_dvd : ∀ (i : grid1.Coords) (v2062 : BitVec 32) (k1_hw77 : k1_chk77 i v2062), ∀ (k1_h2 : k1_cond2 i = 1#1), 8 ∣ (k1_mult77 v2062).toNat := fun i v2062 k1_hw77 k1_h2 => k1_hw77.1 k1_h2
theorem k1_off155_inb : ∀ (i : grid1.Coords) (v2062 : BitVec 32) (k1_hw77 : k1_chk77 i v2062), ∀ (k1_h2 : k1_cond2 i = 1#1), ∀ a, (k1_off155 v2062) a + S40x256.size a ≤ S32768x256.size a := fun i v2062 k1_hw77 k1_h2 => k1_hw77.2 k1_h2

def k1_off156 (i : grid1.Coords) (c76_i32 : BitVec 32) : Fin 1 → Nat :=
  let arg0 : BitVec 32 := BitVec.ofNat 32 (i 0).val
  let c8_i32_458 : BitVec 32 := 8#32
  let v2058 : BitVec 32 := Scalar.subi arg0 c8_i32_458
  let c128_i32_459 : BitVec 32 := 128#32
  let v2059 : BitVec 32 := Scalar.muli v2058 c128_i32_459
  let v2060 : BitVec 32 := Scalar.addi v2059 c76_i32
  let v2067 : Index := Scalar.indexCast v2060
  ![v2067.toNat]
def k1_mult78 (v2089 : BitVec 32) : BitVec 32 :=
  v2089

def k1_off157 (v2089 : BitVec 32) : Fin 2 → Nat :=
  let v2090 : BitVec 32 := v2089
  let v2091 : Index := Scalar.indexCast v2090
  let c0_466 : Index := 0#32
  ![v2091.toNat, 0]

def k1_chk78 (i : grid1.Coords) (v2089 : BitVec 32) : Prop :=
  (∀ (k1_h2 : k1_cond2 i = 1#1), 8 ∣ (k1_mult78 v2089).toNat) ∧
  (∀ (k1_h2 : k1_cond2 i = 1#1), ∀ a, (k1_off157 v2089) a + S40x256.size a ≤ S32768x256.size a)
theorem k1_mult78_dvd : ∀ (i : grid1.Coords) (v2089 : BitVec 32) (k1_hw78 : k1_chk78 i v2089), ∀ (k1_h2 : k1_cond2 i = 1#1), 8 ∣ (k1_mult78 v2089).toNat := fun i v2089 k1_hw78 k1_h2 => k1_hw78.1 k1_h2
theorem k1_off157_inb : ∀ (i : grid1.Coords) (v2089 : BitVec 32) (k1_hw78 : k1_chk78 i v2089), ∀ (k1_h2 : k1_cond2 i = 1#1), ∀ a, (k1_off157 v2089) a + S40x256.size a ≤ S32768x256.size a := fun i v2089 k1_hw78 k1_h2 => k1_hw78.2 k1_h2

def k1_off158 (i : grid1.Coords) (c77_i32 : BitVec 32) : Fin 1 → Nat :=
  let arg0 : BitVec 32 := BitVec.ofNat 32 (i 0).val
  let c8_i32_464 : BitVec 32 := 8#32
  let v2085 : BitVec 32 := Scalar.subi arg0 c8_i32_464
  let c128_i32_465 : BitVec 32 := 128#32
  let v2086 : BitVec 32 := Scalar.muli v2085 c128_i32_465
  let v2087 : BitVec 32 := Scalar.addi v2086 c77_i32
  let v2094 : Index := Scalar.indexCast v2087
  ![v2094.toNat]
def k1_mult79 (v2116 : BitVec 32) : BitVec 32 :=
  v2116

def k1_off159 (v2116 : BitVec 32) : Fin 2 → Nat :=
  let v2117 : BitVec 32 := v2116
  let v2118 : Index := Scalar.indexCast v2117
  let c0_472 : Index := 0#32
  ![v2118.toNat, 0]

def k1_chk79 (i : grid1.Coords) (v2116 : BitVec 32) : Prop :=
  (∀ (k1_h2 : k1_cond2 i = 1#1), 8 ∣ (k1_mult79 v2116).toNat) ∧
  (∀ (k1_h2 : k1_cond2 i = 1#1), ∀ a, (k1_off159 v2116) a + S40x256.size a ≤ S32768x256.size a)
theorem k1_mult79_dvd : ∀ (i : grid1.Coords) (v2116 : BitVec 32) (k1_hw79 : k1_chk79 i v2116), ∀ (k1_h2 : k1_cond2 i = 1#1), 8 ∣ (k1_mult79 v2116).toNat := fun i v2116 k1_hw79 k1_h2 => k1_hw79.1 k1_h2
theorem k1_off159_inb : ∀ (i : grid1.Coords) (v2116 : BitVec 32) (k1_hw79 : k1_chk79 i v2116), ∀ (k1_h2 : k1_cond2 i = 1#1), ∀ a, (k1_off159 v2116) a + S40x256.size a ≤ S32768x256.size a := fun i v2116 k1_hw79 k1_h2 => k1_hw79.2 k1_h2

def k1_off160 (i : grid1.Coords) (c78_i32 : BitVec 32) : Fin 1 → Nat :=
  let arg0 : BitVec 32 := BitVec.ofNat 32 (i 0).val
  let c8_i32_470 : BitVec 32 := 8#32
  let v2112 : BitVec 32 := Scalar.subi arg0 c8_i32_470
  let c128_i32_471 : BitVec 32 := 128#32
  let v2113 : BitVec 32 := Scalar.muli v2112 c128_i32_471
  let v2114 : BitVec 32 := Scalar.addi v2113 c78_i32
  let v2121 : Index := Scalar.indexCast v2114
  ![v2121.toNat]
def k1_mult80 (v2143 : BitVec 32) : BitVec 32 :=
  v2143

def k1_off161 (v2143 : BitVec 32) : Fin 2 → Nat :=
  let v2144 : BitVec 32 := v2143
  let v2145 : Index := Scalar.indexCast v2144
  let c0_478 : Index := 0#32
  ![v2145.toNat, 0]

def k1_chk80 (i : grid1.Coords) (v2143 : BitVec 32) : Prop :=
  (∀ (k1_h2 : k1_cond2 i = 1#1), 8 ∣ (k1_mult80 v2143).toNat) ∧
  (∀ (k1_h2 : k1_cond2 i = 1#1), ∀ a, (k1_off161 v2143) a + S40x256.size a ≤ S32768x256.size a)
theorem k1_mult80_dvd : ∀ (i : grid1.Coords) (v2143 : BitVec 32) (k1_hw80 : k1_chk80 i v2143), ∀ (k1_h2 : k1_cond2 i = 1#1), 8 ∣ (k1_mult80 v2143).toNat := fun i v2143 k1_hw80 k1_h2 => k1_hw80.1 k1_h2
theorem k1_off161_inb : ∀ (i : grid1.Coords) (v2143 : BitVec 32) (k1_hw80 : k1_chk80 i v2143), ∀ (k1_h2 : k1_cond2 i = 1#1), ∀ a, (k1_off161 v2143) a + S40x256.size a ≤ S32768x256.size a := fun i v2143 k1_hw80 k1_h2 => k1_hw80.2 k1_h2

def k1_off162 (i : grid1.Coords) (c79_i32 : BitVec 32) : Fin 1 → Nat :=
  let arg0 : BitVec 32 := BitVec.ofNat 32 (i 0).val
  let c8_i32_476 : BitVec 32 := 8#32
  let v2139 : BitVec 32 := Scalar.subi arg0 c8_i32_476
  let c128_i32_477 : BitVec 32 := 128#32
  let v2140 : BitVec 32 := Scalar.muli v2139 c128_i32_477
  let v2141 : BitVec 32 := Scalar.addi v2140 c79_i32
  let v2148 : Index := Scalar.indexCast v2141
  ![v2148.toNat]
def k1_mult81 (v2170 : BitVec 32) : BitVec 32 :=
  v2170

def k1_off163 (v2170 : BitVec 32) : Fin 2 → Nat :=
  let v2171 : BitVec 32 := v2170
  let v2172 : Index := Scalar.indexCast v2171
  let c0_484 : Index := 0#32
  ![v2172.toNat, 0]

def k1_chk81 (i : grid1.Coords) (v2170 : BitVec 32) : Prop :=
  (∀ (k1_h2 : k1_cond2 i = 1#1), 8 ∣ (k1_mult81 v2170).toNat) ∧
  (∀ (k1_h2 : k1_cond2 i = 1#1), ∀ a, (k1_off163 v2170) a + S40x256.size a ≤ S32768x256.size a)
theorem k1_mult81_dvd : ∀ (i : grid1.Coords) (v2170 : BitVec 32) (k1_hw81 : k1_chk81 i v2170), ∀ (k1_h2 : k1_cond2 i = 1#1), 8 ∣ (k1_mult81 v2170).toNat := fun i v2170 k1_hw81 k1_h2 => k1_hw81.1 k1_h2
theorem k1_off163_inb : ∀ (i : grid1.Coords) (v2170 : BitVec 32) (k1_hw81 : k1_chk81 i v2170), ∀ (k1_h2 : k1_cond2 i = 1#1), ∀ a, (k1_off163 v2170) a + S40x256.size a ≤ S32768x256.size a := fun i v2170 k1_hw81 k1_h2 => k1_hw81.2 k1_h2

def k1_off164 (i : grid1.Coords) (c80_i32 : BitVec 32) : Fin 1 → Nat :=
  let arg0 : BitVec 32 := BitVec.ofNat 32 (i 0).val
  let c8_i32_482 : BitVec 32 := 8#32
  let v2166 : BitVec 32 := Scalar.subi arg0 c8_i32_482
  let c128_i32_483 : BitVec 32 := 128#32
  let v2167 : BitVec 32 := Scalar.muli v2166 c128_i32_483
  let v2168 : BitVec 32 := Scalar.addi v2167 c80_i32
  let v2175 : Index := Scalar.indexCast v2168
  ![v2175.toNat]
def k1_mult82 (v2197 : BitVec 32) : BitVec 32 :=
  v2197

def k1_off165 (v2197 : BitVec 32) : Fin 2 → Nat :=
  let v2198 : BitVec 32 := v2197
  let v2199 : Index := Scalar.indexCast v2198
  let c0_490 : Index := 0#32
  ![v2199.toNat, 0]

def k1_chk82 (i : grid1.Coords) (v2197 : BitVec 32) : Prop :=
  (∀ (k1_h2 : k1_cond2 i = 1#1), 8 ∣ (k1_mult82 v2197).toNat) ∧
  (∀ (k1_h2 : k1_cond2 i = 1#1), ∀ a, (k1_off165 v2197) a + S40x256.size a ≤ S32768x256.size a)
theorem k1_mult82_dvd : ∀ (i : grid1.Coords) (v2197 : BitVec 32) (k1_hw82 : k1_chk82 i v2197), ∀ (k1_h2 : k1_cond2 i = 1#1), 8 ∣ (k1_mult82 v2197).toNat := fun i v2197 k1_hw82 k1_h2 => k1_hw82.1 k1_h2
theorem k1_off165_inb : ∀ (i : grid1.Coords) (v2197 : BitVec 32) (k1_hw82 : k1_chk82 i v2197), ∀ (k1_h2 : k1_cond2 i = 1#1), ∀ a, (k1_off165 v2197) a + S40x256.size a ≤ S32768x256.size a := fun i v2197 k1_hw82 k1_h2 => k1_hw82.2 k1_h2

def k1_off166 (i : grid1.Coords) (c81_i32 : BitVec 32) : Fin 1 → Nat :=
  let arg0 : BitVec 32 := BitVec.ofNat 32 (i 0).val
  let c8_i32_488 : BitVec 32 := 8#32
  let v2193 : BitVec 32 := Scalar.subi arg0 c8_i32_488
  let c128_i32_489 : BitVec 32 := 128#32
  let v2194 : BitVec 32 := Scalar.muli v2193 c128_i32_489
  let v2195 : BitVec 32 := Scalar.addi v2194 c81_i32
  let v2202 : Index := Scalar.indexCast v2195
  ![v2202.toNat]
def k1_mult83 (v2224 : BitVec 32) : BitVec 32 :=
  v2224

def k1_off167 (v2224 : BitVec 32) : Fin 2 → Nat :=
  let v2225 : BitVec 32 := v2224
  let v2226 : Index := Scalar.indexCast v2225
  let c0_496 : Index := 0#32
  ![v2226.toNat, 0]

def k1_chk83 (i : grid1.Coords) (v2224 : BitVec 32) : Prop :=
  (∀ (k1_h2 : k1_cond2 i = 1#1), 8 ∣ (k1_mult83 v2224).toNat) ∧
  (∀ (k1_h2 : k1_cond2 i = 1#1), ∀ a, (k1_off167 v2224) a + S40x256.size a ≤ S32768x256.size a)
theorem k1_mult83_dvd : ∀ (i : grid1.Coords) (v2224 : BitVec 32) (k1_hw83 : k1_chk83 i v2224), ∀ (k1_h2 : k1_cond2 i = 1#1), 8 ∣ (k1_mult83 v2224).toNat := fun i v2224 k1_hw83 k1_h2 => k1_hw83.1 k1_h2
theorem k1_off167_inb : ∀ (i : grid1.Coords) (v2224 : BitVec 32) (k1_hw83 : k1_chk83 i v2224), ∀ (k1_h2 : k1_cond2 i = 1#1), ∀ a, (k1_off167 v2224) a + S40x256.size a ≤ S32768x256.size a := fun i v2224 k1_hw83 k1_h2 => k1_hw83.2 k1_h2

def k1_off168 (i : grid1.Coords) (c82_i32 : BitVec 32) : Fin 1 → Nat :=
  let arg0 : BitVec 32 := BitVec.ofNat 32 (i 0).val
  let c8_i32_494 : BitVec 32 := 8#32
  let v2220 : BitVec 32 := Scalar.subi arg0 c8_i32_494
  let c128_i32_495 : BitVec 32 := 128#32
  let v2221 : BitVec 32 := Scalar.muli v2220 c128_i32_495
  let v2222 : BitVec 32 := Scalar.addi v2221 c82_i32
  let v2229 : Index := Scalar.indexCast v2222
  ![v2229.toNat]
def k1_mult84 (v2251 : BitVec 32) : BitVec 32 :=
  v2251

def k1_off169 (v2251 : BitVec 32) : Fin 2 → Nat :=
  let v2252 : BitVec 32 := v2251
  let v2253 : Index := Scalar.indexCast v2252
  let c0_502 : Index := 0#32
  ![v2253.toNat, 0]

def k1_chk84 (i : grid1.Coords) (v2251 : BitVec 32) : Prop :=
  (∀ (k1_h2 : k1_cond2 i = 1#1), 8 ∣ (k1_mult84 v2251).toNat) ∧
  (∀ (k1_h2 : k1_cond2 i = 1#1), ∀ a, (k1_off169 v2251) a + S40x256.size a ≤ S32768x256.size a)
theorem k1_mult84_dvd : ∀ (i : grid1.Coords) (v2251 : BitVec 32) (k1_hw84 : k1_chk84 i v2251), ∀ (k1_h2 : k1_cond2 i = 1#1), 8 ∣ (k1_mult84 v2251).toNat := fun i v2251 k1_hw84 k1_h2 => k1_hw84.1 k1_h2
theorem k1_off169_inb : ∀ (i : grid1.Coords) (v2251 : BitVec 32) (k1_hw84 : k1_chk84 i v2251), ∀ (k1_h2 : k1_cond2 i = 1#1), ∀ a, (k1_off169 v2251) a + S40x256.size a ≤ S32768x256.size a := fun i v2251 k1_hw84 k1_h2 => k1_hw84.2 k1_h2

def k1_off170 (i : grid1.Coords) (c83_i32 : BitVec 32) : Fin 1 → Nat :=
  let arg0 : BitVec 32 := BitVec.ofNat 32 (i 0).val
  let c8_i32_500 : BitVec 32 := 8#32
  let v2247 : BitVec 32 := Scalar.subi arg0 c8_i32_500
  let c128_i32_501 : BitVec 32 := 128#32
  let v2248 : BitVec 32 := Scalar.muli v2247 c128_i32_501
  let v2249 : BitVec 32 := Scalar.addi v2248 c83_i32
  let v2256 : Index := Scalar.indexCast v2249
  ![v2256.toNat]
def k1_mult85 (v2278 : BitVec 32) : BitVec 32 :=
  v2278

def k1_off171 (v2278 : BitVec 32) : Fin 2 → Nat :=
  let v2279 : BitVec 32 := v2278
  let v2280 : Index := Scalar.indexCast v2279
  let c0_508 : Index := 0#32
  ![v2280.toNat, 0]

def k1_chk85 (i : grid1.Coords) (v2278 : BitVec 32) : Prop :=
  (∀ (k1_h2 : k1_cond2 i = 1#1), 8 ∣ (k1_mult85 v2278).toNat) ∧
  (∀ (k1_h2 : k1_cond2 i = 1#1), ∀ a, (k1_off171 v2278) a + S40x256.size a ≤ S32768x256.size a)
theorem k1_mult85_dvd : ∀ (i : grid1.Coords) (v2278 : BitVec 32) (k1_hw85 : k1_chk85 i v2278), ∀ (k1_h2 : k1_cond2 i = 1#1), 8 ∣ (k1_mult85 v2278).toNat := fun i v2278 k1_hw85 k1_h2 => k1_hw85.1 k1_h2
theorem k1_off171_inb : ∀ (i : grid1.Coords) (v2278 : BitVec 32) (k1_hw85 : k1_chk85 i v2278), ∀ (k1_h2 : k1_cond2 i = 1#1), ∀ a, (k1_off171 v2278) a + S40x256.size a ≤ S32768x256.size a := fun i v2278 k1_hw85 k1_h2 => k1_hw85.2 k1_h2

def k1_off172 (i : grid1.Coords) (c84_i32 : BitVec 32) : Fin 1 → Nat :=
  let arg0 : BitVec 32 := BitVec.ofNat 32 (i 0).val
  let c8_i32_506 : BitVec 32 := 8#32
  let v2274 : BitVec 32 := Scalar.subi arg0 c8_i32_506
  let c128_i32_507 : BitVec 32 := 128#32
  let v2275 : BitVec 32 := Scalar.muli v2274 c128_i32_507
  let v2276 : BitVec 32 := Scalar.addi v2275 c84_i32
  let v2283 : Index := Scalar.indexCast v2276
  ![v2283.toNat]
def k1_mult86 (v2305 : BitVec 32) : BitVec 32 :=
  v2305

def k1_off173 (v2305 : BitVec 32) : Fin 2 → Nat :=
  let v2306 : BitVec 32 := v2305
  let v2307 : Index := Scalar.indexCast v2306
  let c0_514 : Index := 0#32
  ![v2307.toNat, 0]

def k1_chk86 (i : grid1.Coords) (v2305 : BitVec 32) : Prop :=
  (∀ (k1_h2 : k1_cond2 i = 1#1), 8 ∣ (k1_mult86 v2305).toNat) ∧
  (∀ (k1_h2 : k1_cond2 i = 1#1), ∀ a, (k1_off173 v2305) a + S40x256.size a ≤ S32768x256.size a)
theorem k1_mult86_dvd : ∀ (i : grid1.Coords) (v2305 : BitVec 32) (k1_hw86 : k1_chk86 i v2305), ∀ (k1_h2 : k1_cond2 i = 1#1), 8 ∣ (k1_mult86 v2305).toNat := fun i v2305 k1_hw86 k1_h2 => k1_hw86.1 k1_h2
theorem k1_off173_inb : ∀ (i : grid1.Coords) (v2305 : BitVec 32) (k1_hw86 : k1_chk86 i v2305), ∀ (k1_h2 : k1_cond2 i = 1#1), ∀ a, (k1_off173 v2305) a + S40x256.size a ≤ S32768x256.size a := fun i v2305 k1_hw86 k1_h2 => k1_hw86.2 k1_h2

def k1_off174 (i : grid1.Coords) (c85_i32 : BitVec 32) : Fin 1 → Nat :=
  let arg0 : BitVec 32 := BitVec.ofNat 32 (i 0).val
  let c8_i32_512 : BitVec 32 := 8#32
  let v2301 : BitVec 32 := Scalar.subi arg0 c8_i32_512
  let c128_i32_513 : BitVec 32 := 128#32
  let v2302 : BitVec 32 := Scalar.muli v2301 c128_i32_513
  let v2303 : BitVec 32 := Scalar.addi v2302 c85_i32
  let v2310 : Index := Scalar.indexCast v2303
  ![v2310.toNat]
def k1_mult87 (v2332 : BitVec 32) : BitVec 32 :=
  v2332

def k1_off175 (v2332 : BitVec 32) : Fin 2 → Nat :=
  let v2333 : BitVec 32 := v2332
  let v2334 : Index := Scalar.indexCast v2333
  let c0_520 : Index := 0#32
  ![v2334.toNat, 0]

def k1_chk87 (i : grid1.Coords) (v2332 : BitVec 32) : Prop :=
  (∀ (k1_h2 : k1_cond2 i = 1#1), 8 ∣ (k1_mult87 v2332).toNat) ∧
  (∀ (k1_h2 : k1_cond2 i = 1#1), ∀ a, (k1_off175 v2332) a + S40x256.size a ≤ S32768x256.size a)
theorem k1_mult87_dvd : ∀ (i : grid1.Coords) (v2332 : BitVec 32) (k1_hw87 : k1_chk87 i v2332), ∀ (k1_h2 : k1_cond2 i = 1#1), 8 ∣ (k1_mult87 v2332).toNat := fun i v2332 k1_hw87 k1_h2 => k1_hw87.1 k1_h2
theorem k1_off175_inb : ∀ (i : grid1.Coords) (v2332 : BitVec 32) (k1_hw87 : k1_chk87 i v2332), ∀ (k1_h2 : k1_cond2 i = 1#1), ∀ a, (k1_off175 v2332) a + S40x256.size a ≤ S32768x256.size a := fun i v2332 k1_hw87 k1_h2 => k1_hw87.2 k1_h2

def k1_off176 (i : grid1.Coords) (c86_i32 : BitVec 32) : Fin 1 → Nat :=
  let arg0 : BitVec 32 := BitVec.ofNat 32 (i 0).val
  let c8_i32_518 : BitVec 32 := 8#32
  let v2328 : BitVec 32 := Scalar.subi arg0 c8_i32_518
  let c128_i32_519 : BitVec 32 := 128#32
  let v2329 : BitVec 32 := Scalar.muli v2328 c128_i32_519
  let v2330 : BitVec 32 := Scalar.addi v2329 c86_i32
  let v2337 : Index := Scalar.indexCast v2330
  ![v2337.toNat]
def k1_mult88 (v2359 : BitVec 32) : BitVec 32 :=
  v2359

def k1_off177 (v2359 : BitVec 32) : Fin 2 → Nat :=
  let v2360 : BitVec 32 := v2359
  let v2361 : Index := Scalar.indexCast v2360
  let c0_526 : Index := 0#32
  ![v2361.toNat, 0]

def k1_chk88 (i : grid1.Coords) (v2359 : BitVec 32) : Prop :=
  (∀ (k1_h2 : k1_cond2 i = 1#1), 8 ∣ (k1_mult88 v2359).toNat) ∧
  (∀ (k1_h2 : k1_cond2 i = 1#1), ∀ a, (k1_off177 v2359) a + S40x256.size a ≤ S32768x256.size a)
theorem k1_mult88_dvd : ∀ (i : grid1.Coords) (v2359 : BitVec 32) (k1_hw88 : k1_chk88 i v2359), ∀ (k1_h2 : k1_cond2 i = 1#1), 8 ∣ (k1_mult88 v2359).toNat := fun i v2359 k1_hw88 k1_h2 => k1_hw88.1 k1_h2
theorem k1_off177_inb : ∀ (i : grid1.Coords) (v2359 : BitVec 32) (k1_hw88 : k1_chk88 i v2359), ∀ (k1_h2 : k1_cond2 i = 1#1), ∀ a, (k1_off177 v2359) a + S40x256.size a ≤ S32768x256.size a := fun i v2359 k1_hw88 k1_h2 => k1_hw88.2 k1_h2

def k1_off178 (i : grid1.Coords) (c87_i32 : BitVec 32) : Fin 1 → Nat :=
  let arg0 : BitVec 32 := BitVec.ofNat 32 (i 0).val
  let c8_i32_524 : BitVec 32 := 8#32
  let v2355 : BitVec 32 := Scalar.subi arg0 c8_i32_524
  let c128_i32_525 : BitVec 32 := 128#32
  let v2356 : BitVec 32 := Scalar.muli v2355 c128_i32_525
  let v2357 : BitVec 32 := Scalar.addi v2356 c87_i32
  let v2364 : Index := Scalar.indexCast v2357
  ![v2364.toNat]
def k1_mult89 (v2386 : BitVec 32) : BitVec 32 :=
  v2386

def k1_off179 (v2386 : BitVec 32) : Fin 2 → Nat :=
  let v2387 : BitVec 32 := v2386
  let v2388 : Index := Scalar.indexCast v2387
  let c0_532 : Index := 0#32
  ![v2388.toNat, 0]

def k1_chk89 (i : grid1.Coords) (v2386 : BitVec 32) : Prop :=
  (∀ (k1_h2 : k1_cond2 i = 1#1), 8 ∣ (k1_mult89 v2386).toNat) ∧
  (∀ (k1_h2 : k1_cond2 i = 1#1), ∀ a, (k1_off179 v2386) a + S40x256.size a ≤ S32768x256.size a)
theorem k1_mult89_dvd : ∀ (i : grid1.Coords) (v2386 : BitVec 32) (k1_hw89 : k1_chk89 i v2386), ∀ (k1_h2 : k1_cond2 i = 1#1), 8 ∣ (k1_mult89 v2386).toNat := fun i v2386 k1_hw89 k1_h2 => k1_hw89.1 k1_h2
theorem k1_off179_inb : ∀ (i : grid1.Coords) (v2386 : BitVec 32) (k1_hw89 : k1_chk89 i v2386), ∀ (k1_h2 : k1_cond2 i = 1#1), ∀ a, (k1_off179 v2386) a + S40x256.size a ≤ S32768x256.size a := fun i v2386 k1_hw89 k1_h2 => k1_hw89.2 k1_h2

def k1_off180 (i : grid1.Coords) (c88_i32 : BitVec 32) : Fin 1 → Nat :=
  let arg0 : BitVec 32 := BitVec.ofNat 32 (i 0).val
  let c8_i32_530 : BitVec 32 := 8#32
  let v2382 : BitVec 32 := Scalar.subi arg0 c8_i32_530
  let c128_i32_531 : BitVec 32 := 128#32
  let v2383 : BitVec 32 := Scalar.muli v2382 c128_i32_531
  let v2384 : BitVec 32 := Scalar.addi v2383 c88_i32
  let v2391 : Index := Scalar.indexCast v2384
  ![v2391.toNat]
def k1_mult90 (v2413 : BitVec 32) : BitVec 32 :=
  v2413

def k1_off181 (v2413 : BitVec 32) : Fin 2 → Nat :=
  let v2414 : BitVec 32 := v2413
  let v2415 : Index := Scalar.indexCast v2414
  let c0_538 : Index := 0#32
  ![v2415.toNat, 0]

def k1_chk90 (i : grid1.Coords) (v2413 : BitVec 32) : Prop :=
  (∀ (k1_h2 : k1_cond2 i = 1#1), 8 ∣ (k1_mult90 v2413).toNat) ∧
  (∀ (k1_h2 : k1_cond2 i = 1#1), ∀ a, (k1_off181 v2413) a + S40x256.size a ≤ S32768x256.size a)
theorem k1_mult90_dvd : ∀ (i : grid1.Coords) (v2413 : BitVec 32) (k1_hw90 : k1_chk90 i v2413), ∀ (k1_h2 : k1_cond2 i = 1#1), 8 ∣ (k1_mult90 v2413).toNat := fun i v2413 k1_hw90 k1_h2 => k1_hw90.1 k1_h2
theorem k1_off181_inb : ∀ (i : grid1.Coords) (v2413 : BitVec 32) (k1_hw90 : k1_chk90 i v2413), ∀ (k1_h2 : k1_cond2 i = 1#1), ∀ a, (k1_off181 v2413) a + S40x256.size a ≤ S32768x256.size a := fun i v2413 k1_hw90 k1_h2 => k1_hw90.2 k1_h2

def k1_off182 (i : grid1.Coords) (c89_i32 : BitVec 32) : Fin 1 → Nat :=
  let arg0 : BitVec 32 := BitVec.ofNat 32 (i 0).val
  let c8_i32_536 : BitVec 32 := 8#32
  let v2409 : BitVec 32 := Scalar.subi arg0 c8_i32_536
  let c128_i32_537 : BitVec 32 := 128#32
  let v2410 : BitVec 32 := Scalar.muli v2409 c128_i32_537
  let v2411 : BitVec 32 := Scalar.addi v2410 c89_i32
  let v2418 : Index := Scalar.indexCast v2411
  ![v2418.toNat]
def k1_mult91 (v2440 : BitVec 32) : BitVec 32 :=
  v2440

def k1_off183 (v2440 : BitVec 32) : Fin 2 → Nat :=
  let v2441 : BitVec 32 := v2440
  let v2442 : Index := Scalar.indexCast v2441
  let c0_544 : Index := 0#32
  ![v2442.toNat, 0]

def k1_chk91 (i : grid1.Coords) (v2440 : BitVec 32) : Prop :=
  (∀ (k1_h2 : k1_cond2 i = 1#1), 8 ∣ (k1_mult91 v2440).toNat) ∧
  (∀ (k1_h2 : k1_cond2 i = 1#1), ∀ a, (k1_off183 v2440) a + S40x256.size a ≤ S32768x256.size a)
theorem k1_mult91_dvd : ∀ (i : grid1.Coords) (v2440 : BitVec 32) (k1_hw91 : k1_chk91 i v2440), ∀ (k1_h2 : k1_cond2 i = 1#1), 8 ∣ (k1_mult91 v2440).toNat := fun i v2440 k1_hw91 k1_h2 => k1_hw91.1 k1_h2
theorem k1_off183_inb : ∀ (i : grid1.Coords) (v2440 : BitVec 32) (k1_hw91 : k1_chk91 i v2440), ∀ (k1_h2 : k1_cond2 i = 1#1), ∀ a, (k1_off183 v2440) a + S40x256.size a ≤ S32768x256.size a := fun i v2440 k1_hw91 k1_h2 => k1_hw91.2 k1_h2

def k1_off184 (i : grid1.Coords) (c90_i32 : BitVec 32) : Fin 1 → Nat :=
  let arg0 : BitVec 32 := BitVec.ofNat 32 (i 0).val
  let c8_i32_542 : BitVec 32 := 8#32
  let v2436 : BitVec 32 := Scalar.subi arg0 c8_i32_542
  let c128_i32_543 : BitVec 32 := 128#32
  let v2437 : BitVec 32 := Scalar.muli v2436 c128_i32_543
  let v2438 : BitVec 32 := Scalar.addi v2437 c90_i32
  let v2445 : Index := Scalar.indexCast v2438
  ![v2445.toNat]
def k1_mult92 (v2467 : BitVec 32) : BitVec 32 :=
  v2467

def k1_off185 (v2467 : BitVec 32) : Fin 2 → Nat :=
  let v2468 : BitVec 32 := v2467
  let v2469 : Index := Scalar.indexCast v2468
  let c0_550 : Index := 0#32
  ![v2469.toNat, 0]

def k1_chk92 (i : grid1.Coords) (v2467 : BitVec 32) : Prop :=
  (∀ (k1_h2 : k1_cond2 i = 1#1), 8 ∣ (k1_mult92 v2467).toNat) ∧
  (∀ (k1_h2 : k1_cond2 i = 1#1), ∀ a, (k1_off185 v2467) a + S40x256.size a ≤ S32768x256.size a)
theorem k1_mult92_dvd : ∀ (i : grid1.Coords) (v2467 : BitVec 32) (k1_hw92 : k1_chk92 i v2467), ∀ (k1_h2 : k1_cond2 i = 1#1), 8 ∣ (k1_mult92 v2467).toNat := fun i v2467 k1_hw92 k1_h2 => k1_hw92.1 k1_h2
theorem k1_off185_inb : ∀ (i : grid1.Coords) (v2467 : BitVec 32) (k1_hw92 : k1_chk92 i v2467), ∀ (k1_h2 : k1_cond2 i = 1#1), ∀ a, (k1_off185 v2467) a + S40x256.size a ≤ S32768x256.size a := fun i v2467 k1_hw92 k1_h2 => k1_hw92.2 k1_h2

def k1_off186 (i : grid1.Coords) (c91_i32 : BitVec 32) : Fin 1 → Nat :=
  let arg0 : BitVec 32 := BitVec.ofNat 32 (i 0).val
  let c8_i32_548 : BitVec 32 := 8#32
  let v2463 : BitVec 32 := Scalar.subi arg0 c8_i32_548
  let c128_i32_549 : BitVec 32 := 128#32
  let v2464 : BitVec 32 := Scalar.muli v2463 c128_i32_549
  let v2465 : BitVec 32 := Scalar.addi v2464 c91_i32
  let v2472 : Index := Scalar.indexCast v2465
  ![v2472.toNat]
def k1_mult93 (v2494 : BitVec 32) : BitVec 32 :=
  v2494

def k1_off187 (v2494 : BitVec 32) : Fin 2 → Nat :=
  let v2495 : BitVec 32 := v2494
  let v2496 : Index := Scalar.indexCast v2495
  let c0_556 : Index := 0#32
  ![v2496.toNat, 0]

def k1_chk93 (i : grid1.Coords) (v2494 : BitVec 32) : Prop :=
  (∀ (k1_h2 : k1_cond2 i = 1#1), 8 ∣ (k1_mult93 v2494).toNat) ∧
  (∀ (k1_h2 : k1_cond2 i = 1#1), ∀ a, (k1_off187 v2494) a + S40x256.size a ≤ S32768x256.size a)
theorem k1_mult93_dvd : ∀ (i : grid1.Coords) (v2494 : BitVec 32) (k1_hw93 : k1_chk93 i v2494), ∀ (k1_h2 : k1_cond2 i = 1#1), 8 ∣ (k1_mult93 v2494).toNat := fun i v2494 k1_hw93 k1_h2 => k1_hw93.1 k1_h2
theorem k1_off187_inb : ∀ (i : grid1.Coords) (v2494 : BitVec 32) (k1_hw93 : k1_chk93 i v2494), ∀ (k1_h2 : k1_cond2 i = 1#1), ∀ a, (k1_off187 v2494) a + S40x256.size a ≤ S32768x256.size a := fun i v2494 k1_hw93 k1_h2 => k1_hw93.2 k1_h2

def k1_off188 (i : grid1.Coords) (c92_i32 : BitVec 32) : Fin 1 → Nat :=
  let arg0 : BitVec 32 := BitVec.ofNat 32 (i 0).val
  let c8_i32_554 : BitVec 32 := 8#32
  let v2490 : BitVec 32 := Scalar.subi arg0 c8_i32_554
  let c128_i32_555 : BitVec 32 := 128#32
  let v2491 : BitVec 32 := Scalar.muli v2490 c128_i32_555
  let v2492 : BitVec 32 := Scalar.addi v2491 c92_i32
  let v2499 : Index := Scalar.indexCast v2492
  ![v2499.toNat]
def k1_mult94 (v2521 : BitVec 32) : BitVec 32 :=
  v2521

def k1_off189 (v2521 : BitVec 32) : Fin 2 → Nat :=
  let v2522 : BitVec 32 := v2521
  let v2523 : Index := Scalar.indexCast v2522
  let c0_562 : Index := 0#32
  ![v2523.toNat, 0]

def k1_chk94 (i : grid1.Coords) (v2521 : BitVec 32) : Prop :=
  (∀ (k1_h2 : k1_cond2 i = 1#1), 8 ∣ (k1_mult94 v2521).toNat) ∧
  (∀ (k1_h2 : k1_cond2 i = 1#1), ∀ a, (k1_off189 v2521) a + S40x256.size a ≤ S32768x256.size a)
theorem k1_mult94_dvd : ∀ (i : grid1.Coords) (v2521 : BitVec 32) (k1_hw94 : k1_chk94 i v2521), ∀ (k1_h2 : k1_cond2 i = 1#1), 8 ∣ (k1_mult94 v2521).toNat := fun i v2521 k1_hw94 k1_h2 => k1_hw94.1 k1_h2
theorem k1_off189_inb : ∀ (i : grid1.Coords) (v2521 : BitVec 32) (k1_hw94 : k1_chk94 i v2521), ∀ (k1_h2 : k1_cond2 i = 1#1), ∀ a, (k1_off189 v2521) a + S40x256.size a ≤ S32768x256.size a := fun i v2521 k1_hw94 k1_h2 => k1_hw94.2 k1_h2

def k1_off190 (i : grid1.Coords) (c93_i32 : BitVec 32) : Fin 1 → Nat :=
  let arg0 : BitVec 32 := BitVec.ofNat 32 (i 0).val
  let c8_i32_560 : BitVec 32 := 8#32
  let v2517 : BitVec 32 := Scalar.subi arg0 c8_i32_560
  let c128_i32_561 : BitVec 32 := 128#32
  let v2518 : BitVec 32 := Scalar.muli v2517 c128_i32_561
  let v2519 : BitVec 32 := Scalar.addi v2518 c93_i32
  let v2526 : Index := Scalar.indexCast v2519
  ![v2526.toNat]
def k1_mult95 (v2548 : BitVec 32) : BitVec 32 :=
  v2548

def k1_off191 (v2548 : BitVec 32) : Fin 2 → Nat :=
  let v2549 : BitVec 32 := v2548
  let v2550 : Index := Scalar.indexCast v2549
  let c0_568 : Index := 0#32
  ![v2550.toNat, 0]

def k1_chk95 (i : grid1.Coords) (v2548 : BitVec 32) : Prop :=
  (∀ (k1_h2 : k1_cond2 i = 1#1), 8 ∣ (k1_mult95 v2548).toNat) ∧
  (∀ (k1_h2 : k1_cond2 i = 1#1), ∀ a, (k1_off191 v2548) a + S40x256.size a ≤ S32768x256.size a)
theorem k1_mult95_dvd : ∀ (i : grid1.Coords) (v2548 : BitVec 32) (k1_hw95 : k1_chk95 i v2548), ∀ (k1_h2 : k1_cond2 i = 1#1), 8 ∣ (k1_mult95 v2548).toNat := fun i v2548 k1_hw95 k1_h2 => k1_hw95.1 k1_h2
theorem k1_off191_inb : ∀ (i : grid1.Coords) (v2548 : BitVec 32) (k1_hw95 : k1_chk95 i v2548), ∀ (k1_h2 : k1_cond2 i = 1#1), ∀ a, (k1_off191 v2548) a + S40x256.size a ≤ S32768x256.size a := fun i v2548 k1_hw95 k1_h2 => k1_hw95.2 k1_h2

def k1_off192 (i : grid1.Coords) (c94_i32 : BitVec 32) : Fin 1 → Nat :=
  let arg0 : BitVec 32 := BitVec.ofNat 32 (i 0).val
  let c8_i32_566 : BitVec 32 := 8#32
  let v2544 : BitVec 32 := Scalar.subi arg0 c8_i32_566
  let c128_i32_567 : BitVec 32 := 128#32
  let v2545 : BitVec 32 := Scalar.muli v2544 c128_i32_567
  let v2546 : BitVec 32 := Scalar.addi v2545 c94_i32
  let v2553 : Index := Scalar.indexCast v2546
  ![v2553.toNat]
def k1_mult96 (v2575 : BitVec 32) : BitVec 32 :=
  v2575

def k1_off193 (v2575 : BitVec 32) : Fin 2 → Nat :=
  let v2576 : BitVec 32 := v2575
  let v2577 : Index := Scalar.indexCast v2576
  let c0_574 : Index := 0#32
  ![v2577.toNat, 0]

def k1_chk96 (i : grid1.Coords) (v2575 : BitVec 32) : Prop :=
  (∀ (k1_h2 : k1_cond2 i = 1#1), 8 ∣ (k1_mult96 v2575).toNat) ∧
  (∀ (k1_h2 : k1_cond2 i = 1#1), ∀ a, (k1_off193 v2575) a + S40x256.size a ≤ S32768x256.size a)
theorem k1_mult96_dvd : ∀ (i : grid1.Coords) (v2575 : BitVec 32) (k1_hw96 : k1_chk96 i v2575), ∀ (k1_h2 : k1_cond2 i = 1#1), 8 ∣ (k1_mult96 v2575).toNat := fun i v2575 k1_hw96 k1_h2 => k1_hw96.1 k1_h2
theorem k1_off193_inb : ∀ (i : grid1.Coords) (v2575 : BitVec 32) (k1_hw96 : k1_chk96 i v2575), ∀ (k1_h2 : k1_cond2 i = 1#1), ∀ a, (k1_off193 v2575) a + S40x256.size a ≤ S32768x256.size a := fun i v2575 k1_hw96 k1_h2 => k1_hw96.2 k1_h2

def k1_off194 (i : grid1.Coords) (c95_i32 : BitVec 32) : Fin 1 → Nat :=
  let arg0 : BitVec 32 := BitVec.ofNat 32 (i 0).val
  let c8_i32_572 : BitVec 32 := 8#32
  let v2571 : BitVec 32 := Scalar.subi arg0 c8_i32_572
  let c128_i32_573 : BitVec 32 := 128#32
  let v2572 : BitVec 32 := Scalar.muli v2571 c128_i32_573
  let v2573 : BitVec 32 := Scalar.addi v2572 c95_i32
  let v2580 : Index := Scalar.indexCast v2573
  ![v2580.toNat]
def k1_mult97 (v2602 : BitVec 32) : BitVec 32 :=
  v2602

def k1_off195 (v2602 : BitVec 32) : Fin 2 → Nat :=
  let v2603 : BitVec 32 := v2602
  let v2604 : Index := Scalar.indexCast v2603
  let c0_580 : Index := 0#32
  ![v2604.toNat, 0]

def k1_chk97 (i : grid1.Coords) (v2602 : BitVec 32) : Prop :=
  (∀ (k1_h2 : k1_cond2 i = 1#1), 8 ∣ (k1_mult97 v2602).toNat) ∧
  (∀ (k1_h2 : k1_cond2 i = 1#1), ∀ a, (k1_off195 v2602) a + S40x256.size a ≤ S32768x256.size a)
theorem k1_mult97_dvd : ∀ (i : grid1.Coords) (v2602 : BitVec 32) (k1_hw97 : k1_chk97 i v2602), ∀ (k1_h2 : k1_cond2 i = 1#1), 8 ∣ (k1_mult97 v2602).toNat := fun i v2602 k1_hw97 k1_h2 => k1_hw97.1 k1_h2
theorem k1_off195_inb : ∀ (i : grid1.Coords) (v2602 : BitVec 32) (k1_hw97 : k1_chk97 i v2602), ∀ (k1_h2 : k1_cond2 i = 1#1), ∀ a, (k1_off195 v2602) a + S40x256.size a ≤ S32768x256.size a := fun i v2602 k1_hw97 k1_h2 => k1_hw97.2 k1_h2

def k1_off196 (i : grid1.Coords) (c96_i32 : BitVec 32) : Fin 1 → Nat :=
  let arg0 : BitVec 32 := BitVec.ofNat 32 (i 0).val
  let c8_i32_578 : BitVec 32 := 8#32
  let v2598 : BitVec 32 := Scalar.subi arg0 c8_i32_578
  let c128_i32_579 : BitVec 32 := 128#32
  let v2599 : BitVec 32 := Scalar.muli v2598 c128_i32_579
  let v2600 : BitVec 32 := Scalar.addi v2599 c96_i32
  let v2607 : Index := Scalar.indexCast v2600
  ![v2607.toNat]
def k1_mult98 (v2629 : BitVec 32) : BitVec 32 :=
  v2629

def k1_off197 (v2629 : BitVec 32) : Fin 2 → Nat :=
  let v2630 : BitVec 32 := v2629
  let v2631 : Index := Scalar.indexCast v2630
  let c0_586 : Index := 0#32
  ![v2631.toNat, 0]

def k1_chk98 (i : grid1.Coords) (v2629 : BitVec 32) : Prop :=
  (∀ (k1_h2 : k1_cond2 i = 1#1), 8 ∣ (k1_mult98 v2629).toNat) ∧
  (∀ (k1_h2 : k1_cond2 i = 1#1), ∀ a, (k1_off197 v2629) a + S40x256.size a ≤ S32768x256.size a)
theorem k1_mult98_dvd : ∀ (i : grid1.Coords) (v2629 : BitVec 32) (k1_hw98 : k1_chk98 i v2629), ∀ (k1_h2 : k1_cond2 i = 1#1), 8 ∣ (k1_mult98 v2629).toNat := fun i v2629 k1_hw98 k1_h2 => k1_hw98.1 k1_h2
theorem k1_off197_inb : ∀ (i : grid1.Coords) (v2629 : BitVec 32) (k1_hw98 : k1_chk98 i v2629), ∀ (k1_h2 : k1_cond2 i = 1#1), ∀ a, (k1_off197 v2629) a + S40x256.size a ≤ S32768x256.size a := fun i v2629 k1_hw98 k1_h2 => k1_hw98.2 k1_h2

def k1_off198 (i : grid1.Coords) (c97_i32 : BitVec 32) : Fin 1 → Nat :=
  let arg0 : BitVec 32 := BitVec.ofNat 32 (i 0).val
  let c8_i32_584 : BitVec 32 := 8#32
  let v2625 : BitVec 32 := Scalar.subi arg0 c8_i32_584
  let c128_i32_585 : BitVec 32 := 128#32
  let v2626 : BitVec 32 := Scalar.muli v2625 c128_i32_585
  let v2627 : BitVec 32 := Scalar.addi v2626 c97_i32
  let v2634 : Index := Scalar.indexCast v2627
  ![v2634.toNat]
def k1_mult99 (v2656 : BitVec 32) : BitVec 32 :=
  v2656

def k1_off199 (v2656 : BitVec 32) : Fin 2 → Nat :=
  let v2657 : BitVec 32 := v2656
  let v2658 : Index := Scalar.indexCast v2657
  let c0_592 : Index := 0#32
  ![v2658.toNat, 0]

def k1_chk99 (i : grid1.Coords) (v2656 : BitVec 32) : Prop :=
  (∀ (k1_h2 : k1_cond2 i = 1#1), 8 ∣ (k1_mult99 v2656).toNat) ∧
  (∀ (k1_h2 : k1_cond2 i = 1#1), ∀ a, (k1_off199 v2656) a + S40x256.size a ≤ S32768x256.size a)
theorem k1_mult99_dvd : ∀ (i : grid1.Coords) (v2656 : BitVec 32) (k1_hw99 : k1_chk99 i v2656), ∀ (k1_h2 : k1_cond2 i = 1#1), 8 ∣ (k1_mult99 v2656).toNat := fun i v2656 k1_hw99 k1_h2 => k1_hw99.1 k1_h2
theorem k1_off199_inb : ∀ (i : grid1.Coords) (v2656 : BitVec 32) (k1_hw99 : k1_chk99 i v2656), ∀ (k1_h2 : k1_cond2 i = 1#1), ∀ a, (k1_off199 v2656) a + S40x256.size a ≤ S32768x256.size a := fun i v2656 k1_hw99 k1_h2 => k1_hw99.2 k1_h2

def k1_off200 (i : grid1.Coords) (c98_i32 : BitVec 32) : Fin 1 → Nat :=
  let arg0 : BitVec 32 := BitVec.ofNat 32 (i 0).val
  let c8_i32_590 : BitVec 32 := 8#32
  let v2652 : BitVec 32 := Scalar.subi arg0 c8_i32_590
  let c128_i32_591 : BitVec 32 := 128#32
  let v2653 : BitVec 32 := Scalar.muli v2652 c128_i32_591
  let v2654 : BitVec 32 := Scalar.addi v2653 c98_i32
  let v2661 : Index := Scalar.indexCast v2654
  ![v2661.toNat]
def k1_mult100 (v2683 : BitVec 32) : BitVec 32 :=
  v2683

def k1_off201 (v2683 : BitVec 32) : Fin 2 → Nat :=
  let v2684 : BitVec 32 := v2683
  let v2685 : Index := Scalar.indexCast v2684
  let c0_598 : Index := 0#32
  ![v2685.toNat, 0]

def k1_chk100 (i : grid1.Coords) (v2683 : BitVec 32) : Prop :=
  (∀ (k1_h2 : k1_cond2 i = 1#1), 8 ∣ (k1_mult100 v2683).toNat) ∧
  (∀ (k1_h2 : k1_cond2 i = 1#1), ∀ a, (k1_off201 v2683) a + S40x256.size a ≤ S32768x256.size a)
theorem k1_mult100_dvd : ∀ (i : grid1.Coords) (v2683 : BitVec 32) (k1_hw100 : k1_chk100 i v2683), ∀ (k1_h2 : k1_cond2 i = 1#1), 8 ∣ (k1_mult100 v2683).toNat := fun i v2683 k1_hw100 k1_h2 => k1_hw100.1 k1_h2
theorem k1_off201_inb : ∀ (i : grid1.Coords) (v2683 : BitVec 32) (k1_hw100 : k1_chk100 i v2683), ∀ (k1_h2 : k1_cond2 i = 1#1), ∀ a, (k1_off201 v2683) a + S40x256.size a ≤ S32768x256.size a := fun i v2683 k1_hw100 k1_h2 => k1_hw100.2 k1_h2

def k1_off202 (i : grid1.Coords) (c99_i32 : BitVec 32) : Fin 1 → Nat :=
  let arg0 : BitVec 32 := BitVec.ofNat 32 (i 0).val
  let c8_i32_596 : BitVec 32 := 8#32
  let v2679 : BitVec 32 := Scalar.subi arg0 c8_i32_596
  let c128_i32_597 : BitVec 32 := 128#32
  let v2680 : BitVec 32 := Scalar.muli v2679 c128_i32_597
  let v2681 : BitVec 32 := Scalar.addi v2680 c99_i32
  let v2688 : Index := Scalar.indexCast v2681
  ![v2688.toNat]
def k1_mult101 (v2710 : BitVec 32) : BitVec 32 :=
  v2710

def k1_off203 (v2710 : BitVec 32) : Fin 2 → Nat :=
  let v2711 : BitVec 32 := v2710
  let v2712 : Index := Scalar.indexCast v2711
  let c0_604 : Index := 0#32
  ![v2712.toNat, 0]

def k1_chk101 (i : grid1.Coords) (v2710 : BitVec 32) : Prop :=
  (∀ (k1_h2 : k1_cond2 i = 1#1), 8 ∣ (k1_mult101 v2710).toNat) ∧
  (∀ (k1_h2 : k1_cond2 i = 1#1), ∀ a, (k1_off203 v2710) a + S40x256.size a ≤ S32768x256.size a)
theorem k1_mult101_dvd : ∀ (i : grid1.Coords) (v2710 : BitVec 32) (k1_hw101 : k1_chk101 i v2710), ∀ (k1_h2 : k1_cond2 i = 1#1), 8 ∣ (k1_mult101 v2710).toNat := fun i v2710 k1_hw101 k1_h2 => k1_hw101.1 k1_h2
theorem k1_off203_inb : ∀ (i : grid1.Coords) (v2710 : BitVec 32) (k1_hw101 : k1_chk101 i v2710), ∀ (k1_h2 : k1_cond2 i = 1#1), ∀ a, (k1_off203 v2710) a + S40x256.size a ≤ S32768x256.size a := fun i v2710 k1_hw101 k1_h2 => k1_hw101.2 k1_h2

def k1_off204 (i : grid1.Coords) (c100_i32 : BitVec 32) : Fin 1 → Nat :=
  let arg0 : BitVec 32 := BitVec.ofNat 32 (i 0).val
  let c8_i32_602 : BitVec 32 := 8#32
  let v2706 : BitVec 32 := Scalar.subi arg0 c8_i32_602
  let c128_i32_603 : BitVec 32 := 128#32
  let v2707 : BitVec 32 := Scalar.muli v2706 c128_i32_603
  let v2708 : BitVec 32 := Scalar.addi v2707 c100_i32
  let v2715 : Index := Scalar.indexCast v2708
  ![v2715.toNat]
def k1_mult102 (v2737 : BitVec 32) : BitVec 32 :=
  v2737

def k1_off205 (v2737 : BitVec 32) : Fin 2 → Nat :=
  let v2738 : BitVec 32 := v2737
  let v2739 : Index := Scalar.indexCast v2738
  let c0_610 : Index := 0#32
  ![v2739.toNat, 0]

def k1_chk102 (i : grid1.Coords) (v2737 : BitVec 32) : Prop :=
  (∀ (k1_h2 : k1_cond2 i = 1#1), 8 ∣ (k1_mult102 v2737).toNat) ∧
  (∀ (k1_h2 : k1_cond2 i = 1#1), ∀ a, (k1_off205 v2737) a + S40x256.size a ≤ S32768x256.size a)
theorem k1_mult102_dvd : ∀ (i : grid1.Coords) (v2737 : BitVec 32) (k1_hw102 : k1_chk102 i v2737), ∀ (k1_h2 : k1_cond2 i = 1#1), 8 ∣ (k1_mult102 v2737).toNat := fun i v2737 k1_hw102 k1_h2 => k1_hw102.1 k1_h2
theorem k1_off205_inb : ∀ (i : grid1.Coords) (v2737 : BitVec 32) (k1_hw102 : k1_chk102 i v2737), ∀ (k1_h2 : k1_cond2 i = 1#1), ∀ a, (k1_off205 v2737) a + S40x256.size a ≤ S32768x256.size a := fun i v2737 k1_hw102 k1_h2 => k1_hw102.2 k1_h2

def k1_off206 (i : grid1.Coords) (c101_i32 : BitVec 32) : Fin 1 → Nat :=
  let arg0 : BitVec 32 := BitVec.ofNat 32 (i 0).val
  let c8_i32_608 : BitVec 32 := 8#32
  let v2733 : BitVec 32 := Scalar.subi arg0 c8_i32_608
  let c128_i32_609 : BitVec 32 := 128#32
  let v2734 : BitVec 32 := Scalar.muli v2733 c128_i32_609
  let v2735 : BitVec 32 := Scalar.addi v2734 c101_i32
  let v2742 : Index := Scalar.indexCast v2735
  ![v2742.toNat]
def k1_mult103 (v2764 : BitVec 32) : BitVec 32 :=
  v2764

def k1_off207 (v2764 : BitVec 32) : Fin 2 → Nat :=
  let v2765 : BitVec 32 := v2764
  let v2766 : Index := Scalar.indexCast v2765
  let c0_616 : Index := 0#32
  ![v2766.toNat, 0]

def k1_chk103 (i : grid1.Coords) (v2764 : BitVec 32) : Prop :=
  (∀ (k1_h2 : k1_cond2 i = 1#1), 8 ∣ (k1_mult103 v2764).toNat) ∧
  (∀ (k1_h2 : k1_cond2 i = 1#1), ∀ a, (k1_off207 v2764) a + S40x256.size a ≤ S32768x256.size a)
theorem k1_mult103_dvd : ∀ (i : grid1.Coords) (v2764 : BitVec 32) (k1_hw103 : k1_chk103 i v2764), ∀ (k1_h2 : k1_cond2 i = 1#1), 8 ∣ (k1_mult103 v2764).toNat := fun i v2764 k1_hw103 k1_h2 => k1_hw103.1 k1_h2
theorem k1_off207_inb : ∀ (i : grid1.Coords) (v2764 : BitVec 32) (k1_hw103 : k1_chk103 i v2764), ∀ (k1_h2 : k1_cond2 i = 1#1), ∀ a, (k1_off207 v2764) a + S40x256.size a ≤ S32768x256.size a := fun i v2764 k1_hw103 k1_h2 => k1_hw103.2 k1_h2

def k1_off208 (i : grid1.Coords) (c102_i32 : BitVec 32) : Fin 1 → Nat :=
  let arg0 : BitVec 32 := BitVec.ofNat 32 (i 0).val
  let c8_i32_614 : BitVec 32 := 8#32
  let v2760 : BitVec 32 := Scalar.subi arg0 c8_i32_614
  let c128_i32_615 : BitVec 32 := 128#32
  let v2761 : BitVec 32 := Scalar.muli v2760 c128_i32_615
  let v2762 : BitVec 32 := Scalar.addi v2761 c102_i32
  let v2769 : Index := Scalar.indexCast v2762
  ![v2769.toNat]
def k1_mult104 (v2791 : BitVec 32) : BitVec 32 :=
  v2791

def k1_off209 (v2791 : BitVec 32) : Fin 2 → Nat :=
  let v2792 : BitVec 32 := v2791
  let v2793 : Index := Scalar.indexCast v2792
  let c0_622 : Index := 0#32
  ![v2793.toNat, 0]

def k1_chk104 (i : grid1.Coords) (v2791 : BitVec 32) : Prop :=
  (∀ (k1_h2 : k1_cond2 i = 1#1), 8 ∣ (k1_mult104 v2791).toNat) ∧
  (∀ (k1_h2 : k1_cond2 i = 1#1), ∀ a, (k1_off209 v2791) a + S40x256.size a ≤ S32768x256.size a)
theorem k1_mult104_dvd : ∀ (i : grid1.Coords) (v2791 : BitVec 32) (k1_hw104 : k1_chk104 i v2791), ∀ (k1_h2 : k1_cond2 i = 1#1), 8 ∣ (k1_mult104 v2791).toNat := fun i v2791 k1_hw104 k1_h2 => k1_hw104.1 k1_h2
theorem k1_off209_inb : ∀ (i : grid1.Coords) (v2791 : BitVec 32) (k1_hw104 : k1_chk104 i v2791), ∀ (k1_h2 : k1_cond2 i = 1#1), ∀ a, (k1_off209 v2791) a + S40x256.size a ≤ S32768x256.size a := fun i v2791 k1_hw104 k1_h2 => k1_hw104.2 k1_h2

def k1_off210 (i : grid1.Coords) (c103_i32 : BitVec 32) : Fin 1 → Nat :=
  let arg0 : BitVec 32 := BitVec.ofNat 32 (i 0).val
  let c8_i32_620 : BitVec 32 := 8#32
  let v2787 : BitVec 32 := Scalar.subi arg0 c8_i32_620
  let c128_i32_621 : BitVec 32 := 128#32
  let v2788 : BitVec 32 := Scalar.muli v2787 c128_i32_621
  let v2789 : BitVec 32 := Scalar.addi v2788 c103_i32
  let v2796 : Index := Scalar.indexCast v2789
  ![v2796.toNat]
def k1_mult105 (v2818 : BitVec 32) : BitVec 32 :=
  v2818

def k1_off211 (v2818 : BitVec 32) : Fin 2 → Nat :=
  let v2819 : BitVec 32 := v2818
  let v2820 : Index := Scalar.indexCast v2819
  let c0_628 : Index := 0#32
  ![v2820.toNat, 0]

def k1_chk105 (i : grid1.Coords) (v2818 : BitVec 32) : Prop :=
  (∀ (k1_h2 : k1_cond2 i = 1#1), 8 ∣ (k1_mult105 v2818).toNat) ∧
  (∀ (k1_h2 : k1_cond2 i = 1#1), ∀ a, (k1_off211 v2818) a + S40x256.size a ≤ S32768x256.size a)
theorem k1_mult105_dvd : ∀ (i : grid1.Coords) (v2818 : BitVec 32) (k1_hw105 : k1_chk105 i v2818), ∀ (k1_h2 : k1_cond2 i = 1#1), 8 ∣ (k1_mult105 v2818).toNat := fun i v2818 k1_hw105 k1_h2 => k1_hw105.1 k1_h2
theorem k1_off211_inb : ∀ (i : grid1.Coords) (v2818 : BitVec 32) (k1_hw105 : k1_chk105 i v2818), ∀ (k1_h2 : k1_cond2 i = 1#1), ∀ a, (k1_off211 v2818) a + S40x256.size a ≤ S32768x256.size a := fun i v2818 k1_hw105 k1_h2 => k1_hw105.2 k1_h2

def k1_off212 (i : grid1.Coords) (c104_i32 : BitVec 32) : Fin 1 → Nat :=
  let arg0 : BitVec 32 := BitVec.ofNat 32 (i 0).val
  let c8_i32_626 : BitVec 32 := 8#32
  let v2814 : BitVec 32 := Scalar.subi arg0 c8_i32_626
  let c128_i32_627 : BitVec 32 := 128#32
  let v2815 : BitVec 32 := Scalar.muli v2814 c128_i32_627
  let v2816 : BitVec 32 := Scalar.addi v2815 c104_i32
  let v2823 : Index := Scalar.indexCast v2816
  ![v2823.toNat]
def k1_mult106 (v2845 : BitVec 32) : BitVec 32 :=
  v2845

def k1_off213 (v2845 : BitVec 32) : Fin 2 → Nat :=
  let v2846 : BitVec 32 := v2845
  let v2847 : Index := Scalar.indexCast v2846
  let c0_634 : Index := 0#32
  ![v2847.toNat, 0]

def k1_chk106 (i : grid1.Coords) (v2845 : BitVec 32) : Prop :=
  (∀ (k1_h2 : k1_cond2 i = 1#1), 8 ∣ (k1_mult106 v2845).toNat) ∧
  (∀ (k1_h2 : k1_cond2 i = 1#1), ∀ a, (k1_off213 v2845) a + S40x256.size a ≤ S32768x256.size a)
theorem k1_mult106_dvd : ∀ (i : grid1.Coords) (v2845 : BitVec 32) (k1_hw106 : k1_chk106 i v2845), ∀ (k1_h2 : k1_cond2 i = 1#1), 8 ∣ (k1_mult106 v2845).toNat := fun i v2845 k1_hw106 k1_h2 => k1_hw106.1 k1_h2
theorem k1_off213_inb : ∀ (i : grid1.Coords) (v2845 : BitVec 32) (k1_hw106 : k1_chk106 i v2845), ∀ (k1_h2 : k1_cond2 i = 1#1), ∀ a, (k1_off213 v2845) a + S40x256.size a ≤ S32768x256.size a := fun i v2845 k1_hw106 k1_h2 => k1_hw106.2 k1_h2

def k1_off214 (i : grid1.Coords) (c105_i32 : BitVec 32) : Fin 1 → Nat :=
  let arg0 : BitVec 32 := BitVec.ofNat 32 (i 0).val
  let c8_i32_632 : BitVec 32 := 8#32
  let v2841 : BitVec 32 := Scalar.subi arg0 c8_i32_632
  let c128_i32_633 : BitVec 32 := 128#32
  let v2842 : BitVec 32 := Scalar.muli v2841 c128_i32_633
  let v2843 : BitVec 32 := Scalar.addi v2842 c105_i32
  let v2850 : Index := Scalar.indexCast v2843
  ![v2850.toNat]
def k1_mult107 (v2872 : BitVec 32) : BitVec 32 :=
  v2872

def k1_off215 (v2872 : BitVec 32) : Fin 2 → Nat :=
  let v2873 : BitVec 32 := v2872
  let v2874 : Index := Scalar.indexCast v2873
  let c0_640 : Index := 0#32
  ![v2874.toNat, 0]

def k1_chk107 (i : grid1.Coords) (v2872 : BitVec 32) : Prop :=
  (∀ (k1_h2 : k1_cond2 i = 1#1), 8 ∣ (k1_mult107 v2872).toNat) ∧
  (∀ (k1_h2 : k1_cond2 i = 1#1), ∀ a, (k1_off215 v2872) a + S40x256.size a ≤ S32768x256.size a)
theorem k1_mult107_dvd : ∀ (i : grid1.Coords) (v2872 : BitVec 32) (k1_hw107 : k1_chk107 i v2872), ∀ (k1_h2 : k1_cond2 i = 1#1), 8 ∣ (k1_mult107 v2872).toNat := fun i v2872 k1_hw107 k1_h2 => k1_hw107.1 k1_h2
theorem k1_off215_inb : ∀ (i : grid1.Coords) (v2872 : BitVec 32) (k1_hw107 : k1_chk107 i v2872), ∀ (k1_h2 : k1_cond2 i = 1#1), ∀ a, (k1_off215 v2872) a + S40x256.size a ≤ S32768x256.size a := fun i v2872 k1_hw107 k1_h2 => k1_hw107.2 k1_h2

def k1_off216 (i : grid1.Coords) (c106_i32 : BitVec 32) : Fin 1 → Nat :=
  let arg0 : BitVec 32 := BitVec.ofNat 32 (i 0).val
  let c8_i32_638 : BitVec 32 := 8#32
  let v2868 : BitVec 32 := Scalar.subi arg0 c8_i32_638
  let c128_i32_639 : BitVec 32 := 128#32
  let v2869 : BitVec 32 := Scalar.muli v2868 c128_i32_639
  let v2870 : BitVec 32 := Scalar.addi v2869 c106_i32
  let v2877 : Index := Scalar.indexCast v2870
  ![v2877.toNat]
def k1_mult108 (v2899 : BitVec 32) : BitVec 32 :=
  v2899

def k1_off217 (v2899 : BitVec 32) : Fin 2 → Nat :=
  let v2900 : BitVec 32 := v2899
  let v2901 : Index := Scalar.indexCast v2900
  let c0_646 : Index := 0#32
  ![v2901.toNat, 0]

def k1_chk108 (i : grid1.Coords) (v2899 : BitVec 32) : Prop :=
  (∀ (k1_h2 : k1_cond2 i = 1#1), 8 ∣ (k1_mult108 v2899).toNat) ∧
  (∀ (k1_h2 : k1_cond2 i = 1#1), ∀ a, (k1_off217 v2899) a + S40x256.size a ≤ S32768x256.size a)
theorem k1_mult108_dvd : ∀ (i : grid1.Coords) (v2899 : BitVec 32) (k1_hw108 : k1_chk108 i v2899), ∀ (k1_h2 : k1_cond2 i = 1#1), 8 ∣ (k1_mult108 v2899).toNat := fun i v2899 k1_hw108 k1_h2 => k1_hw108.1 k1_h2
theorem k1_off217_inb : ∀ (i : grid1.Coords) (v2899 : BitVec 32) (k1_hw108 : k1_chk108 i v2899), ∀ (k1_h2 : k1_cond2 i = 1#1), ∀ a, (k1_off217 v2899) a + S40x256.size a ≤ S32768x256.size a := fun i v2899 k1_hw108 k1_h2 => k1_hw108.2 k1_h2

def k1_off218 (i : grid1.Coords) (c107_i32 : BitVec 32) : Fin 1 → Nat :=
  let arg0 : BitVec 32 := BitVec.ofNat 32 (i 0).val
  let c8_i32_644 : BitVec 32 := 8#32
  let v2895 : BitVec 32 := Scalar.subi arg0 c8_i32_644
  let c128_i32_645 : BitVec 32 := 128#32
  let v2896 : BitVec 32 := Scalar.muli v2895 c128_i32_645
  let v2897 : BitVec 32 := Scalar.addi v2896 c107_i32
  let v2904 : Index := Scalar.indexCast v2897
  ![v2904.toNat]
def k1_mult109 (v2926 : BitVec 32) : BitVec 32 :=
  v2926

def k1_off219 (v2926 : BitVec 32) : Fin 2 → Nat :=
  let v2927 : BitVec 32 := v2926
  let v2928 : Index := Scalar.indexCast v2927
  let c0_652 : Index := 0#32
  ![v2928.toNat, 0]

def k1_chk109 (i : grid1.Coords) (v2926 : BitVec 32) : Prop :=
  (∀ (k1_h2 : k1_cond2 i = 1#1), 8 ∣ (k1_mult109 v2926).toNat) ∧
  (∀ (k1_h2 : k1_cond2 i = 1#1), ∀ a, (k1_off219 v2926) a + S40x256.size a ≤ S32768x256.size a)
theorem k1_mult109_dvd : ∀ (i : grid1.Coords) (v2926 : BitVec 32) (k1_hw109 : k1_chk109 i v2926), ∀ (k1_h2 : k1_cond2 i = 1#1), 8 ∣ (k1_mult109 v2926).toNat := fun i v2926 k1_hw109 k1_h2 => k1_hw109.1 k1_h2
theorem k1_off219_inb : ∀ (i : grid1.Coords) (v2926 : BitVec 32) (k1_hw109 : k1_chk109 i v2926), ∀ (k1_h2 : k1_cond2 i = 1#1), ∀ a, (k1_off219 v2926) a + S40x256.size a ≤ S32768x256.size a := fun i v2926 k1_hw109 k1_h2 => k1_hw109.2 k1_h2

def k1_off220 (i : grid1.Coords) (c108_i32 : BitVec 32) : Fin 1 → Nat :=
  let arg0 : BitVec 32 := BitVec.ofNat 32 (i 0).val
  let c8_i32_650 : BitVec 32 := 8#32
  let v2922 : BitVec 32 := Scalar.subi arg0 c8_i32_650
  let c128_i32_651 : BitVec 32 := 128#32
  let v2923 : BitVec 32 := Scalar.muli v2922 c128_i32_651
  let v2924 : BitVec 32 := Scalar.addi v2923 c108_i32
  let v2931 : Index := Scalar.indexCast v2924
  ![v2931.toNat]
def k1_mult110 (v2953 : BitVec 32) : BitVec 32 :=
  v2953

def k1_off221 (v2953 : BitVec 32) : Fin 2 → Nat :=
  let v2954 : BitVec 32 := v2953
  let v2955 : Index := Scalar.indexCast v2954
  let c0_658 : Index := 0#32
  ![v2955.toNat, 0]

def k1_chk110 (i : grid1.Coords) (v2953 : BitVec 32) : Prop :=
  (∀ (k1_h2 : k1_cond2 i = 1#1), 8 ∣ (k1_mult110 v2953).toNat) ∧
  (∀ (k1_h2 : k1_cond2 i = 1#1), ∀ a, (k1_off221 v2953) a + S40x256.size a ≤ S32768x256.size a)
theorem k1_mult110_dvd : ∀ (i : grid1.Coords) (v2953 : BitVec 32) (k1_hw110 : k1_chk110 i v2953), ∀ (k1_h2 : k1_cond2 i = 1#1), 8 ∣ (k1_mult110 v2953).toNat := fun i v2953 k1_hw110 k1_h2 => k1_hw110.1 k1_h2
theorem k1_off221_inb : ∀ (i : grid1.Coords) (v2953 : BitVec 32) (k1_hw110 : k1_chk110 i v2953), ∀ (k1_h2 : k1_cond2 i = 1#1), ∀ a, (k1_off221 v2953) a + S40x256.size a ≤ S32768x256.size a := fun i v2953 k1_hw110 k1_h2 => k1_hw110.2 k1_h2

def k1_off222 (i : grid1.Coords) (c109_i32 : BitVec 32) : Fin 1 → Nat :=
  let arg0 : BitVec 32 := BitVec.ofNat 32 (i 0).val
  let c8_i32_656 : BitVec 32 := 8#32
  let v2949 : BitVec 32 := Scalar.subi arg0 c8_i32_656
  let c128_i32_657 : BitVec 32 := 128#32
  let v2950 : BitVec 32 := Scalar.muli v2949 c128_i32_657
  let v2951 : BitVec 32 := Scalar.addi v2950 c109_i32
  let v2958 : Index := Scalar.indexCast v2951
  ![v2958.toNat]
def k1_mult111 (v2980 : BitVec 32) : BitVec 32 :=
  v2980

def k1_off223 (v2980 : BitVec 32) : Fin 2 → Nat :=
  let v2981 : BitVec 32 := v2980
  let v2982 : Index := Scalar.indexCast v2981
  let c0_664 : Index := 0#32
  ![v2982.toNat, 0]

def k1_chk111 (i : grid1.Coords) (v2980 : BitVec 32) : Prop :=
  (∀ (k1_h2 : k1_cond2 i = 1#1), 8 ∣ (k1_mult111 v2980).toNat) ∧
  (∀ (k1_h2 : k1_cond2 i = 1#1), ∀ a, (k1_off223 v2980) a + S40x256.size a ≤ S32768x256.size a)
theorem k1_mult111_dvd : ∀ (i : grid1.Coords) (v2980 : BitVec 32) (k1_hw111 : k1_chk111 i v2980), ∀ (k1_h2 : k1_cond2 i = 1#1), 8 ∣ (k1_mult111 v2980).toNat := fun i v2980 k1_hw111 k1_h2 => k1_hw111.1 k1_h2
theorem k1_off223_inb : ∀ (i : grid1.Coords) (v2980 : BitVec 32) (k1_hw111 : k1_chk111 i v2980), ∀ (k1_h2 : k1_cond2 i = 1#1), ∀ a, (k1_off223 v2980) a + S40x256.size a ≤ S32768x256.size a := fun i v2980 k1_hw111 k1_h2 => k1_hw111.2 k1_h2

def k1_off224 (i : grid1.Coords) (c110_i32 : BitVec 32) : Fin 1 → Nat :=
  let arg0 : BitVec 32 := BitVec.ofNat 32 (i 0).val
  let c8_i32_662 : BitVec 32 := 8#32
  let v2976 : BitVec 32 := Scalar.subi arg0 c8_i32_662
  let c128_i32_663 : BitVec 32 := 128#32
  let v2977 : BitVec 32 := Scalar.muli v2976 c128_i32_663
  let v2978 : BitVec 32 := Scalar.addi v2977 c110_i32
  let v2985 : Index := Scalar.indexCast v2978
  ![v2985.toNat]
def k1_mult112 (v3007 : BitVec 32) : BitVec 32 :=
  v3007

def k1_off225 (v3007 : BitVec 32) : Fin 2 → Nat :=
  let v3008 : BitVec 32 := v3007
  let v3009 : Index := Scalar.indexCast v3008
  let c0_670 : Index := 0#32
  ![v3009.toNat, 0]

def k1_chk112 (i : grid1.Coords) (v3007 : BitVec 32) : Prop :=
  (∀ (k1_h2 : k1_cond2 i = 1#1), 8 ∣ (k1_mult112 v3007).toNat) ∧
  (∀ (k1_h2 : k1_cond2 i = 1#1), ∀ a, (k1_off225 v3007) a + S40x256.size a ≤ S32768x256.size a)
theorem k1_mult112_dvd : ∀ (i : grid1.Coords) (v3007 : BitVec 32) (k1_hw112 : k1_chk112 i v3007), ∀ (k1_h2 : k1_cond2 i = 1#1), 8 ∣ (k1_mult112 v3007).toNat := fun i v3007 k1_hw112 k1_h2 => k1_hw112.1 k1_h2
theorem k1_off225_inb : ∀ (i : grid1.Coords) (v3007 : BitVec 32) (k1_hw112 : k1_chk112 i v3007), ∀ (k1_h2 : k1_cond2 i = 1#1), ∀ a, (k1_off225 v3007) a + S40x256.size a ≤ S32768x256.size a := fun i v3007 k1_hw112 k1_h2 => k1_hw112.2 k1_h2

def k1_off226 (i : grid1.Coords) (c111_i32 : BitVec 32) : Fin 1 → Nat :=
  let arg0 : BitVec 32 := BitVec.ofNat 32 (i 0).val
  let c8_i32_668 : BitVec 32 := 8#32
  let v3003 : BitVec 32 := Scalar.subi arg0 c8_i32_668
  let c128_i32_669 : BitVec 32 := 128#32
  let v3004 : BitVec 32 := Scalar.muli v3003 c128_i32_669
  let v3005 : BitVec 32 := Scalar.addi v3004 c111_i32
  let v3012 : Index := Scalar.indexCast v3005
  ![v3012.toNat]
def k1_mult113 (v3034 : BitVec 32) : BitVec 32 :=
  v3034

def k1_off227 (v3034 : BitVec 32) : Fin 2 → Nat :=
  let v3035 : BitVec 32 := v3034
  let v3036 : Index := Scalar.indexCast v3035
  let c0_676 : Index := 0#32
  ![v3036.toNat, 0]

def k1_chk113 (i : grid1.Coords) (v3034 : BitVec 32) : Prop :=
  (∀ (k1_h2 : k1_cond2 i = 1#1), 8 ∣ (k1_mult113 v3034).toNat) ∧
  (∀ (k1_h2 : k1_cond2 i = 1#1), ∀ a, (k1_off227 v3034) a + S40x256.size a ≤ S32768x256.size a)
theorem k1_mult113_dvd : ∀ (i : grid1.Coords) (v3034 : BitVec 32) (k1_hw113 : k1_chk113 i v3034), ∀ (k1_h2 : k1_cond2 i = 1#1), 8 ∣ (k1_mult113 v3034).toNat := fun i v3034 k1_hw113 k1_h2 => k1_hw113.1 k1_h2
theorem k1_off227_inb : ∀ (i : grid1.Coords) (v3034 : BitVec 32) (k1_hw113 : k1_chk113 i v3034), ∀ (k1_h2 : k1_cond2 i = 1#1), ∀ a, (k1_off227 v3034) a + S40x256.size a ≤ S32768x256.size a := fun i v3034 k1_hw113 k1_h2 => k1_hw113.2 k1_h2

def k1_off228 (i : grid1.Coords) (c112_i32 : BitVec 32) : Fin 1 → Nat :=
  let arg0 : BitVec 32 := BitVec.ofNat 32 (i 0).val
  let c8_i32_674 : BitVec 32 := 8#32
  let v3030 : BitVec 32 := Scalar.subi arg0 c8_i32_674
  let c128_i32_675 : BitVec 32 := 128#32
  let v3031 : BitVec 32 := Scalar.muli v3030 c128_i32_675
  let v3032 : BitVec 32 := Scalar.addi v3031 c112_i32
  let v3039 : Index := Scalar.indexCast v3032
  ![v3039.toNat]
def k1_mult114 (v3061 : BitVec 32) : BitVec 32 :=
  v3061

def k1_off229 (v3061 : BitVec 32) : Fin 2 → Nat :=
  let v3062 : BitVec 32 := v3061
  let v3063 : Index := Scalar.indexCast v3062
  let c0_682 : Index := 0#32
  ![v3063.toNat, 0]

def k1_chk114 (i : grid1.Coords) (v3061 : BitVec 32) : Prop :=
  (∀ (k1_h2 : k1_cond2 i = 1#1), 8 ∣ (k1_mult114 v3061).toNat) ∧
  (∀ (k1_h2 : k1_cond2 i = 1#1), ∀ a, (k1_off229 v3061) a + S40x256.size a ≤ S32768x256.size a)
theorem k1_mult114_dvd : ∀ (i : grid1.Coords) (v3061 : BitVec 32) (k1_hw114 : k1_chk114 i v3061), ∀ (k1_h2 : k1_cond2 i = 1#1), 8 ∣ (k1_mult114 v3061).toNat := fun i v3061 k1_hw114 k1_h2 => k1_hw114.1 k1_h2
theorem k1_off229_inb : ∀ (i : grid1.Coords) (v3061 : BitVec 32) (k1_hw114 : k1_chk114 i v3061), ∀ (k1_h2 : k1_cond2 i = 1#1), ∀ a, (k1_off229 v3061) a + S40x256.size a ≤ S32768x256.size a := fun i v3061 k1_hw114 k1_h2 => k1_hw114.2 k1_h2

def k1_off230 (i : grid1.Coords) (c113_i32 : BitVec 32) : Fin 1 → Nat :=
  let arg0 : BitVec 32 := BitVec.ofNat 32 (i 0).val
  let c8_i32_680 : BitVec 32 := 8#32
  let v3057 : BitVec 32 := Scalar.subi arg0 c8_i32_680
  let c128_i32_681 : BitVec 32 := 128#32
  let v3058 : BitVec 32 := Scalar.muli v3057 c128_i32_681
  let v3059 : BitVec 32 := Scalar.addi v3058 c113_i32
  let v3066 : Index := Scalar.indexCast v3059
  ![v3066.toNat]
def k1_mult115 (v3088 : BitVec 32) : BitVec 32 :=
  v3088

def k1_off231 (v3088 : BitVec 32) : Fin 2 → Nat :=
  let v3089 : BitVec 32 := v3088
  let v3090 : Index := Scalar.indexCast v3089
  let c0_688 : Index := 0#32
  ![v3090.toNat, 0]

def k1_chk115 (i : grid1.Coords) (v3088 : BitVec 32) : Prop :=
  (∀ (k1_h2 : k1_cond2 i = 1#1), 8 ∣ (k1_mult115 v3088).toNat) ∧
  (∀ (k1_h2 : k1_cond2 i = 1#1), ∀ a, (k1_off231 v3088) a + S40x256.size a ≤ S32768x256.size a)
theorem k1_mult115_dvd : ∀ (i : grid1.Coords) (v3088 : BitVec 32) (k1_hw115 : k1_chk115 i v3088), ∀ (k1_h2 : k1_cond2 i = 1#1), 8 ∣ (k1_mult115 v3088).toNat := fun i v3088 k1_hw115 k1_h2 => k1_hw115.1 k1_h2
theorem k1_off231_inb : ∀ (i : grid1.Coords) (v3088 : BitVec 32) (k1_hw115 : k1_chk115 i v3088), ∀ (k1_h2 : k1_cond2 i = 1#1), ∀ a, (k1_off231 v3088) a + S40x256.size a ≤ S32768x256.size a := fun i v3088 k1_hw115 k1_h2 => k1_hw115.2 k1_h2

def k1_off232 (i : grid1.Coords) (c114_i32 : BitVec 32) : Fin 1 → Nat :=
  let arg0 : BitVec 32 := BitVec.ofNat 32 (i 0).val
  let c8_i32_686 : BitVec 32 := 8#32
  let v3084 : BitVec 32 := Scalar.subi arg0 c8_i32_686
  let c128_i32_687 : BitVec 32 := 128#32
  let v3085 : BitVec 32 := Scalar.muli v3084 c128_i32_687
  let v3086 : BitVec 32 := Scalar.addi v3085 c114_i32
  let v3093 : Index := Scalar.indexCast v3086
  ![v3093.toNat]
def k1_mult116 (v3115 : BitVec 32) : BitVec 32 :=
  v3115

def k1_off233 (v3115 : BitVec 32) : Fin 2 → Nat :=
  let v3116 : BitVec 32 := v3115
  let v3117 : Index := Scalar.indexCast v3116
  let c0_694 : Index := 0#32
  ![v3117.toNat, 0]

def k1_chk116 (i : grid1.Coords) (v3115 : BitVec 32) : Prop :=
  (∀ (k1_h2 : k1_cond2 i = 1#1), 8 ∣ (k1_mult116 v3115).toNat) ∧
  (∀ (k1_h2 : k1_cond2 i = 1#1), ∀ a, (k1_off233 v3115) a + S40x256.size a ≤ S32768x256.size a)
theorem k1_mult116_dvd : ∀ (i : grid1.Coords) (v3115 : BitVec 32) (k1_hw116 : k1_chk116 i v3115), ∀ (k1_h2 : k1_cond2 i = 1#1), 8 ∣ (k1_mult116 v3115).toNat := fun i v3115 k1_hw116 k1_h2 => k1_hw116.1 k1_h2
theorem k1_off233_inb : ∀ (i : grid1.Coords) (v3115 : BitVec 32) (k1_hw116 : k1_chk116 i v3115), ∀ (k1_h2 : k1_cond2 i = 1#1), ∀ a, (k1_off233 v3115) a + S40x256.size a ≤ S32768x256.size a := fun i v3115 k1_hw116 k1_h2 => k1_hw116.2 k1_h2

def k1_off234 (i : grid1.Coords) (c115_i32 : BitVec 32) : Fin 1 → Nat :=
  let arg0 : BitVec 32 := BitVec.ofNat 32 (i 0).val
  let c8_i32_692 : BitVec 32 := 8#32
  let v3111 : BitVec 32 := Scalar.subi arg0 c8_i32_692
  let c128_i32_693 : BitVec 32 := 128#32
  let v3112 : BitVec 32 := Scalar.muli v3111 c128_i32_693
  let v3113 : BitVec 32 := Scalar.addi v3112 c115_i32
  let v3120 : Index := Scalar.indexCast v3113
  ![v3120.toNat]
def k1_mult117 (v3142 : BitVec 32) : BitVec 32 :=
  v3142

def k1_off235 (v3142 : BitVec 32) : Fin 2 → Nat :=
  let v3143 : BitVec 32 := v3142
  let v3144 : Index := Scalar.indexCast v3143
  let c0_700 : Index := 0#32
  ![v3144.toNat, 0]

def k1_chk117 (i : grid1.Coords) (v3142 : BitVec 32) : Prop :=
  (∀ (k1_h2 : k1_cond2 i = 1#1), 8 ∣ (k1_mult117 v3142).toNat) ∧
  (∀ (k1_h2 : k1_cond2 i = 1#1), ∀ a, (k1_off235 v3142) a + S40x256.size a ≤ S32768x256.size a)
theorem k1_mult117_dvd : ∀ (i : grid1.Coords) (v3142 : BitVec 32) (k1_hw117 : k1_chk117 i v3142), ∀ (k1_h2 : k1_cond2 i = 1#1), 8 ∣ (k1_mult117 v3142).toNat := fun i v3142 k1_hw117 k1_h2 => k1_hw117.1 k1_h2
theorem k1_off235_inb : ∀ (i : grid1.Coords) (v3142 : BitVec 32) (k1_hw117 : k1_chk117 i v3142), ∀ (k1_h2 : k1_cond2 i = 1#1), ∀ a, (k1_off235 v3142) a + S40x256.size a ≤ S32768x256.size a := fun i v3142 k1_hw117 k1_h2 => k1_hw117.2 k1_h2

def k1_off236 (i : grid1.Coords) (c116_i32 : BitVec 32) : Fin 1 → Nat :=
  let arg0 : BitVec 32 := BitVec.ofNat 32 (i 0).val
  let c8_i32_698 : BitVec 32 := 8#32
  let v3138 : BitVec 32 := Scalar.subi arg0 c8_i32_698
  let c128_i32_699 : BitVec 32 := 128#32
  let v3139 : BitVec 32 := Scalar.muli v3138 c128_i32_699
  let v3140 : BitVec 32 := Scalar.addi v3139 c116_i32
  let v3147 : Index := Scalar.indexCast v3140
  ![v3147.toNat]
def k1_mult118 (v3169 : BitVec 32) : BitVec 32 :=
  v3169

def k1_off237 (v3169 : BitVec 32) : Fin 2 → Nat :=
  let v3170 : BitVec 32 := v3169
  let v3171 : Index := Scalar.indexCast v3170
  let c0_706 : Index := 0#32
  ![v3171.toNat, 0]

def k1_chk118 (i : grid1.Coords) (v3169 : BitVec 32) : Prop :=
  (∀ (k1_h2 : k1_cond2 i = 1#1), 8 ∣ (k1_mult118 v3169).toNat) ∧
  (∀ (k1_h2 : k1_cond2 i = 1#1), ∀ a, (k1_off237 v3169) a + S40x256.size a ≤ S32768x256.size a)
theorem k1_mult118_dvd : ∀ (i : grid1.Coords) (v3169 : BitVec 32) (k1_hw118 : k1_chk118 i v3169), ∀ (k1_h2 : k1_cond2 i = 1#1), 8 ∣ (k1_mult118 v3169).toNat := fun i v3169 k1_hw118 k1_h2 => k1_hw118.1 k1_h2
theorem k1_off237_inb : ∀ (i : grid1.Coords) (v3169 : BitVec 32) (k1_hw118 : k1_chk118 i v3169), ∀ (k1_h2 : k1_cond2 i = 1#1), ∀ a, (k1_off237 v3169) a + S40x256.size a ≤ S32768x256.size a := fun i v3169 k1_hw118 k1_h2 => k1_hw118.2 k1_h2

def k1_off238 (i : grid1.Coords) (c117_i32 : BitVec 32) : Fin 1 → Nat :=
  let arg0 : BitVec 32 := BitVec.ofNat 32 (i 0).val
  let c8_i32_704 : BitVec 32 := 8#32
  let v3165 : BitVec 32 := Scalar.subi arg0 c8_i32_704
  let c128_i32_705 : BitVec 32 := 128#32
  let v3166 : BitVec 32 := Scalar.muli v3165 c128_i32_705
  let v3167 : BitVec 32 := Scalar.addi v3166 c117_i32
  let v3174 : Index := Scalar.indexCast v3167
  ![v3174.toNat]
def k1_mult119 (v3196 : BitVec 32) : BitVec 32 :=
  v3196

def k1_off239 (v3196 : BitVec 32) : Fin 2 → Nat :=
  let v3197 : BitVec 32 := v3196
  let v3198 : Index := Scalar.indexCast v3197
  let c0_712 : Index := 0#32
  ![v3198.toNat, 0]

def k1_chk119 (i : grid1.Coords) (v3196 : BitVec 32) : Prop :=
  (∀ (k1_h2 : k1_cond2 i = 1#1), 8 ∣ (k1_mult119 v3196).toNat) ∧
  (∀ (k1_h2 : k1_cond2 i = 1#1), ∀ a, (k1_off239 v3196) a + S40x256.size a ≤ S32768x256.size a)
theorem k1_mult119_dvd : ∀ (i : grid1.Coords) (v3196 : BitVec 32) (k1_hw119 : k1_chk119 i v3196), ∀ (k1_h2 : k1_cond2 i = 1#1), 8 ∣ (k1_mult119 v3196).toNat := fun i v3196 k1_hw119 k1_h2 => k1_hw119.1 k1_h2
theorem k1_off239_inb : ∀ (i : grid1.Coords) (v3196 : BitVec 32) (k1_hw119 : k1_chk119 i v3196), ∀ (k1_h2 : k1_cond2 i = 1#1), ∀ a, (k1_off239 v3196) a + S40x256.size a ≤ S32768x256.size a := fun i v3196 k1_hw119 k1_h2 => k1_hw119.2 k1_h2

def k1_off240 (i : grid1.Coords) (c118_i32 : BitVec 32) : Fin 1 → Nat :=
  let arg0 : BitVec 32 := BitVec.ofNat 32 (i 0).val
  let c8_i32_710 : BitVec 32 := 8#32
  let v3192 : BitVec 32 := Scalar.subi arg0 c8_i32_710
  let c128_i32_711 : BitVec 32 := 128#32
  let v3193 : BitVec 32 := Scalar.muli v3192 c128_i32_711
  let v3194 : BitVec 32 := Scalar.addi v3193 c118_i32
  let v3201 : Index := Scalar.indexCast v3194
  ![v3201.toNat]
def k1_mult120 (v3223 : BitVec 32) : BitVec 32 :=
  v3223

def k1_off241 (v3223 : BitVec 32) : Fin 2 → Nat :=
  let v3224 : BitVec 32 := v3223
  let v3225 : Index := Scalar.indexCast v3224
  let c0_718 : Index := 0#32
  ![v3225.toNat, 0]

def k1_chk120 (i : grid1.Coords) (v3223 : BitVec 32) : Prop :=
  (∀ (k1_h2 : k1_cond2 i = 1#1), 8 ∣ (k1_mult120 v3223).toNat) ∧
  (∀ (k1_h2 : k1_cond2 i = 1#1), ∀ a, (k1_off241 v3223) a + S40x256.size a ≤ S32768x256.size a)
theorem k1_mult120_dvd : ∀ (i : grid1.Coords) (v3223 : BitVec 32) (k1_hw120 : k1_chk120 i v3223), ∀ (k1_h2 : k1_cond2 i = 1#1), 8 ∣ (k1_mult120 v3223).toNat := fun i v3223 k1_hw120 k1_h2 => k1_hw120.1 k1_h2
theorem k1_off241_inb : ∀ (i : grid1.Coords) (v3223 : BitVec 32) (k1_hw120 : k1_chk120 i v3223), ∀ (k1_h2 : k1_cond2 i = 1#1), ∀ a, (k1_off241 v3223) a + S40x256.size a ≤ S32768x256.size a := fun i v3223 k1_hw120 k1_h2 => k1_hw120.2 k1_h2

def k1_off242 (i : grid1.Coords) (c119_i32 : BitVec 32) : Fin 1 → Nat :=
  let arg0 : BitVec 32 := BitVec.ofNat 32 (i 0).val
  let c8_i32_716 : BitVec 32 := 8#32
  let v3219 : BitVec 32 := Scalar.subi arg0 c8_i32_716
  let c128_i32_717 : BitVec 32 := 128#32
  let v3220 : BitVec 32 := Scalar.muli v3219 c128_i32_717
  let v3221 : BitVec 32 := Scalar.addi v3220 c119_i32
  let v3228 : Index := Scalar.indexCast v3221
  ![v3228.toNat]
def k1_mult121 (v3250 : BitVec 32) : BitVec 32 :=
  v3250

def k1_off243 (v3250 : BitVec 32) : Fin 2 → Nat :=
  let v3251 : BitVec 32 := v3250
  let v3252 : Index := Scalar.indexCast v3251
  let c0_724 : Index := 0#32
  ![v3252.toNat, 0]

def k1_chk121 (i : grid1.Coords) (v3250 : BitVec 32) : Prop :=
  (∀ (k1_h2 : k1_cond2 i = 1#1), 8 ∣ (k1_mult121 v3250).toNat) ∧
  (∀ (k1_h2 : k1_cond2 i = 1#1), ∀ a, (k1_off243 v3250) a + S40x256.size a ≤ S32768x256.size a)
theorem k1_mult121_dvd : ∀ (i : grid1.Coords) (v3250 : BitVec 32) (k1_hw121 : k1_chk121 i v3250), ∀ (k1_h2 : k1_cond2 i = 1#1), 8 ∣ (k1_mult121 v3250).toNat := fun i v3250 k1_hw121 k1_h2 => k1_hw121.1 k1_h2
theorem k1_off243_inb : ∀ (i : grid1.Coords) (v3250 : BitVec 32) (k1_hw121 : k1_chk121 i v3250), ∀ (k1_h2 : k1_cond2 i = 1#1), ∀ a, (k1_off243 v3250) a + S40x256.size a ≤ S32768x256.size a := fun i v3250 k1_hw121 k1_h2 => k1_hw121.2 k1_h2

def k1_off244 (i : grid1.Coords) (c120_i32 : BitVec 32) : Fin 1 → Nat :=
  let arg0 : BitVec 32 := BitVec.ofNat 32 (i 0).val
  let c8_i32_722 : BitVec 32 := 8#32
  let v3246 : BitVec 32 := Scalar.subi arg0 c8_i32_722
  let c128_i32_723 : BitVec 32 := 128#32
  let v3247 : BitVec 32 := Scalar.muli v3246 c128_i32_723
  let v3248 : BitVec 32 := Scalar.addi v3247 c120_i32
  let v3255 : Index := Scalar.indexCast v3248
  ![v3255.toNat]
def k1_mult122 (v3277 : BitVec 32) : BitVec 32 :=
  v3277

def k1_off245 (v3277 : BitVec 32) : Fin 2 → Nat :=
  let v3278 : BitVec 32 := v3277
  let v3279 : Index := Scalar.indexCast v3278
  let c0_730 : Index := 0#32
  ![v3279.toNat, 0]

def k1_chk122 (i : grid1.Coords) (v3277 : BitVec 32) : Prop :=
  (∀ (k1_h2 : k1_cond2 i = 1#1), 8 ∣ (k1_mult122 v3277).toNat) ∧
  (∀ (k1_h2 : k1_cond2 i = 1#1), ∀ a, (k1_off245 v3277) a + S40x256.size a ≤ S32768x256.size a)
theorem k1_mult122_dvd : ∀ (i : grid1.Coords) (v3277 : BitVec 32) (k1_hw122 : k1_chk122 i v3277), ∀ (k1_h2 : k1_cond2 i = 1#1), 8 ∣ (k1_mult122 v3277).toNat := fun i v3277 k1_hw122 k1_h2 => k1_hw122.1 k1_h2
theorem k1_off245_inb : ∀ (i : grid1.Coords) (v3277 : BitVec 32) (k1_hw122 : k1_chk122 i v3277), ∀ (k1_h2 : k1_cond2 i = 1#1), ∀ a, (k1_off245 v3277) a + S40x256.size a ≤ S32768x256.size a := fun i v3277 k1_hw122 k1_h2 => k1_hw122.2 k1_h2

def k1_off246 (i : grid1.Coords) (c121_i32 : BitVec 32) : Fin 1 → Nat :=
  let arg0 : BitVec 32 := BitVec.ofNat 32 (i 0).val
  let c8_i32_728 : BitVec 32 := 8#32
  let v3273 : BitVec 32 := Scalar.subi arg0 c8_i32_728
  let c128_i32_729 : BitVec 32 := 128#32
  let v3274 : BitVec 32 := Scalar.muli v3273 c128_i32_729
  let v3275 : BitVec 32 := Scalar.addi v3274 c121_i32
  let v3282 : Index := Scalar.indexCast v3275
  ![v3282.toNat]
def k1_mult123 (v3304 : BitVec 32) : BitVec 32 :=
  v3304

def k1_off247 (v3304 : BitVec 32) : Fin 2 → Nat :=
  let v3305 : BitVec 32 := v3304
  let v3306 : Index := Scalar.indexCast v3305
  let c0_736 : Index := 0#32
  ![v3306.toNat, 0]

def k1_chk123 (i : grid1.Coords) (v3304 : BitVec 32) : Prop :=
  (∀ (k1_h2 : k1_cond2 i = 1#1), 8 ∣ (k1_mult123 v3304).toNat) ∧
  (∀ (k1_h2 : k1_cond2 i = 1#1), ∀ a, (k1_off247 v3304) a + S40x256.size a ≤ S32768x256.size a)
theorem k1_mult123_dvd : ∀ (i : grid1.Coords) (v3304 : BitVec 32) (k1_hw123 : k1_chk123 i v3304), ∀ (k1_h2 : k1_cond2 i = 1#1), 8 ∣ (k1_mult123 v3304).toNat := fun i v3304 k1_hw123 k1_h2 => k1_hw123.1 k1_h2
theorem k1_off247_inb : ∀ (i : grid1.Coords) (v3304 : BitVec 32) (k1_hw123 : k1_chk123 i v3304), ∀ (k1_h2 : k1_cond2 i = 1#1), ∀ a, (k1_off247 v3304) a + S40x256.size a ≤ S32768x256.size a := fun i v3304 k1_hw123 k1_h2 => k1_hw123.2 k1_h2

def k1_off248 (i : grid1.Coords) (c122_i32 : BitVec 32) : Fin 1 → Nat :=
  let arg0 : BitVec 32 := BitVec.ofNat 32 (i 0).val
  let c8_i32_734 : BitVec 32 := 8#32
  let v3300 : BitVec 32 := Scalar.subi arg0 c8_i32_734
  let c128_i32_735 : BitVec 32 := 128#32
  let v3301 : BitVec 32 := Scalar.muli v3300 c128_i32_735
  let v3302 : BitVec 32 := Scalar.addi v3301 c122_i32
  let v3309 : Index := Scalar.indexCast v3302
  ![v3309.toNat]
def k1_mult124 (v3331 : BitVec 32) : BitVec 32 :=
  v3331

def k1_off249 (v3331 : BitVec 32) : Fin 2 → Nat :=
  let v3332 : BitVec 32 := v3331
  let v3333 : Index := Scalar.indexCast v3332
  let c0_742 : Index := 0#32
  ![v3333.toNat, 0]

def k1_chk124 (i : grid1.Coords) (v3331 : BitVec 32) : Prop :=
  (∀ (k1_h2 : k1_cond2 i = 1#1), 8 ∣ (k1_mult124 v3331).toNat) ∧
  (∀ (k1_h2 : k1_cond2 i = 1#1), ∀ a, (k1_off249 v3331) a + S40x256.size a ≤ S32768x256.size a)
theorem k1_mult124_dvd : ∀ (i : grid1.Coords) (v3331 : BitVec 32) (k1_hw124 : k1_chk124 i v3331), ∀ (k1_h2 : k1_cond2 i = 1#1), 8 ∣ (k1_mult124 v3331).toNat := fun i v3331 k1_hw124 k1_h2 => k1_hw124.1 k1_h2
theorem k1_off249_inb : ∀ (i : grid1.Coords) (v3331 : BitVec 32) (k1_hw124 : k1_chk124 i v3331), ∀ (k1_h2 : k1_cond2 i = 1#1), ∀ a, (k1_off249 v3331) a + S40x256.size a ≤ S32768x256.size a := fun i v3331 k1_hw124 k1_h2 => k1_hw124.2 k1_h2

def k1_off250 (i : grid1.Coords) (c123_i32 : BitVec 32) : Fin 1 → Nat :=
  let arg0 : BitVec 32 := BitVec.ofNat 32 (i 0).val
  let c8_i32_740 : BitVec 32 := 8#32
  let v3327 : BitVec 32 := Scalar.subi arg0 c8_i32_740
  let c128_i32_741 : BitVec 32 := 128#32
  let v3328 : BitVec 32 := Scalar.muli v3327 c128_i32_741
  let v3329 : BitVec 32 := Scalar.addi v3328 c123_i32
  let v3336 : Index := Scalar.indexCast v3329
  ![v3336.toNat]
def k1_mult125 (v3358 : BitVec 32) : BitVec 32 :=
  v3358

def k1_off251 (v3358 : BitVec 32) : Fin 2 → Nat :=
  let v3359 : BitVec 32 := v3358
  let v3360 : Index := Scalar.indexCast v3359
  let c0_748 : Index := 0#32
  ![v3360.toNat, 0]

def k1_chk125 (i : grid1.Coords) (v3358 : BitVec 32) : Prop :=
  (∀ (k1_h2 : k1_cond2 i = 1#1), 8 ∣ (k1_mult125 v3358).toNat) ∧
  (∀ (k1_h2 : k1_cond2 i = 1#1), ∀ a, (k1_off251 v3358) a + S40x256.size a ≤ S32768x256.size a)
theorem k1_mult125_dvd : ∀ (i : grid1.Coords) (v3358 : BitVec 32) (k1_hw125 : k1_chk125 i v3358), ∀ (k1_h2 : k1_cond2 i = 1#1), 8 ∣ (k1_mult125 v3358).toNat := fun i v3358 k1_hw125 k1_h2 => k1_hw125.1 k1_h2
theorem k1_off251_inb : ∀ (i : grid1.Coords) (v3358 : BitVec 32) (k1_hw125 : k1_chk125 i v3358), ∀ (k1_h2 : k1_cond2 i = 1#1), ∀ a, (k1_off251 v3358) a + S40x256.size a ≤ S32768x256.size a := fun i v3358 k1_hw125 k1_h2 => k1_hw125.2 k1_h2

def k1_off252 (i : grid1.Coords) (c124_i32 : BitVec 32) : Fin 1 → Nat :=
  let arg0 : BitVec 32 := BitVec.ofNat 32 (i 0).val
  let c8_i32_746 : BitVec 32 := 8#32
  let v3354 : BitVec 32 := Scalar.subi arg0 c8_i32_746
  let c128_i32_747 : BitVec 32 := 128#32
  let v3355 : BitVec 32 := Scalar.muli v3354 c128_i32_747
  let v3356 : BitVec 32 := Scalar.addi v3355 c124_i32
  let v3363 : Index := Scalar.indexCast v3356
  ![v3363.toNat]
def k1_mult126 (v3385 : BitVec 32) : BitVec 32 :=
  v3385

def k1_off253 (v3385 : BitVec 32) : Fin 2 → Nat :=
  let v3386 : BitVec 32 := v3385
  let v3387 : Index := Scalar.indexCast v3386
  let c0_754 : Index := 0#32
  ![v3387.toNat, 0]

def k1_chk126 (i : grid1.Coords) (v3385 : BitVec 32) : Prop :=
  (∀ (k1_h2 : k1_cond2 i = 1#1), 8 ∣ (k1_mult126 v3385).toNat) ∧
  (∀ (k1_h2 : k1_cond2 i = 1#1), ∀ a, (k1_off253 v3385) a + S40x256.size a ≤ S32768x256.size a)
theorem k1_mult126_dvd : ∀ (i : grid1.Coords) (v3385 : BitVec 32) (k1_hw126 : k1_chk126 i v3385), ∀ (k1_h2 : k1_cond2 i = 1#1), 8 ∣ (k1_mult126 v3385).toNat := fun i v3385 k1_hw126 k1_h2 => k1_hw126.1 k1_h2
theorem k1_off253_inb : ∀ (i : grid1.Coords) (v3385 : BitVec 32) (k1_hw126 : k1_chk126 i v3385), ∀ (k1_h2 : k1_cond2 i = 1#1), ∀ a, (k1_off253 v3385) a + S40x256.size a ≤ S32768x256.size a := fun i v3385 k1_hw126 k1_h2 => k1_hw126.2 k1_h2

def k1_off254 (i : grid1.Coords) (c125_i32 : BitVec 32) : Fin 1 → Nat :=
  let arg0 : BitVec 32 := BitVec.ofNat 32 (i 0).val
  let c8_i32_752 : BitVec 32 := 8#32
  let v3381 : BitVec 32 := Scalar.subi arg0 c8_i32_752
  let c128_i32_753 : BitVec 32 := 128#32
  let v3382 : BitVec 32 := Scalar.muli v3381 c128_i32_753
  let v3383 : BitVec 32 := Scalar.addi v3382 c125_i32
  let v3390 : Index := Scalar.indexCast v3383
  ![v3390.toNat]
def k1_mult127 (v3412 : BitVec 32) : BitVec 32 :=
  v3412

def k1_off255 (v3412 : BitVec 32) : Fin 2 → Nat :=
  let v3413 : BitVec 32 := v3412
  let v3414 : Index := Scalar.indexCast v3413
  let c0_760 : Index := 0#32
  ![v3414.toNat, 0]

def k1_chk127 (i : grid1.Coords) (v3412 : BitVec 32) : Prop :=
  (∀ (k1_h2 : k1_cond2 i = 1#1), 8 ∣ (k1_mult127 v3412).toNat) ∧
  (∀ (k1_h2 : k1_cond2 i = 1#1), ∀ a, (k1_off255 v3412) a + S40x256.size a ≤ S32768x256.size a)
theorem k1_mult127_dvd : ∀ (i : grid1.Coords) (v3412 : BitVec 32) (k1_hw127 : k1_chk127 i v3412), ∀ (k1_h2 : k1_cond2 i = 1#1), 8 ∣ (k1_mult127 v3412).toNat := fun i v3412 k1_hw127 k1_h2 => k1_hw127.1 k1_h2
theorem k1_off255_inb : ∀ (i : grid1.Coords) (v3412 : BitVec 32) (k1_hw127 : k1_chk127 i v3412), ∀ (k1_h2 : k1_cond2 i = 1#1), ∀ a, (k1_off255 v3412) a + S40x256.size a ≤ S32768x256.size a := fun i v3412 k1_hw127 k1_h2 => k1_hw127.2 k1_h2

def k1_off256 (i : grid1.Coords) (c126_i32 : BitVec 32) : Fin 1 → Nat :=
  let arg0 : BitVec 32 := BitVec.ofNat 32 (i 0).val
  let c8_i32_758 : BitVec 32 := 8#32
  let v3408 : BitVec 32 := Scalar.subi arg0 c8_i32_758
  let c128_i32_759 : BitVec 32 := 128#32
  let v3409 : BitVec 32 := Scalar.muli v3408 c128_i32_759
  let v3410 : BitVec 32 := Scalar.addi v3409 c126_i32
  let v3417 : Index := Scalar.indexCast v3410
  ![v3417.toNat]
def k1_mult128 (v3439 : BitVec 32) : BitVec 32 :=
  v3439

def k1_off257 (v3439 : BitVec 32) : Fin 2 → Nat :=
  let v3440 : BitVec 32 := v3439
  let v3441 : Index := Scalar.indexCast v3440
  let c0_766 : Index := 0#32
  ![v3441.toNat, 0]

def k1_chk128 (i : grid1.Coords) (v3439 : BitVec 32) : Prop :=
  (∀ (k1_h2 : k1_cond2 i = 1#1), 8 ∣ (k1_mult128 v3439).toNat) ∧
  (∀ (k1_h2 : k1_cond2 i = 1#1), ∀ a, (k1_off257 v3439) a + S40x256.size a ≤ S32768x256.size a)
theorem k1_mult128_dvd : ∀ (i : grid1.Coords) (v3439 : BitVec 32) (k1_hw128 : k1_chk128 i v3439), ∀ (k1_h2 : k1_cond2 i = 1#1), 8 ∣ (k1_mult128 v3439).toNat := fun i v3439 k1_hw128 k1_h2 => k1_hw128.1 k1_h2
theorem k1_off257_inb : ∀ (i : grid1.Coords) (v3439 : BitVec 32) (k1_hw128 : k1_chk128 i v3439), ∀ (k1_h2 : k1_cond2 i = 1#1), ∀ a, (k1_off257 v3439) a + S40x256.size a ≤ S32768x256.size a := fun i v3439 k1_hw128 k1_h2 => k1_hw128.2 k1_h2

def k1_off258 (i : grid1.Coords) : Fin 1 → Nat :=
  let arg0 : BitVec 32 := BitVec.ofNat 32 (i 0).val
  let c8_i32_764 : BitVec 32 := 8#32
  let v3435 : BitVec 32 := Scalar.subi arg0 c8_i32_764
  let c128_i32_765 : BitVec 32 := 128#32
  let v3436 : BitVec 32 := Scalar.muli v3435 c128_i32_765
  let c127_i32 : BitVec 32 := 127#32
  let v3437 : BitVec 32 := Scalar.addi v3436 c127_i32
  let v3444 : Index := Scalar.indexCast v3437
  ![v3444.toNat]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 1 → Memref sig .tc .smem S2048 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S2048 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S2048 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x512x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S3x300x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x57 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x57 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S128x57 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S64x1x512x300 : Shape := ⟨4, ![64, 1, 512, 300]⟩
abbrev S2048x2 : Shape := ⟨2, ![2048, 2]⟩
abbrev S2048 : Shape := ⟨1, ![2048]⟩
abbrev S256x1x3x300 : Shape := ⟨4, ![256, 1, 3, 300]⟩
abbrev S256 : Shape := ⟨1, ![256]⟩
abbrev S2048x2048 : Shape := ⟨2, ![2048, 2048]⟩
abbrev S2048x19 : Shape := ⟨2, ![2048, 19]⟩
abbrev S19 : Shape := ⟨1, ![19]⟩
abbrev S2048x38 : Shape := ⟨2, ![2048, 38]⟩
abbrev S38 : Shape := ⟨1, ![38]⟩
abbrev S64x512x300 : Shape := ⟨3, ![64, 512, 300]⟩
abbrev S_ : Shape := ⟨0, ![]⟩
abbrev S64x514x300 : Shape := ⟨3, ![64, 514, 300]⟩
abbrev S256x1x1x300 : Shape := ⟨4, ![256, 1, 1, 300]⟩
abbrev S256x300 : Shape := ⟨2, ![256, 300]⟩
abbrev S256x64x512 : Shape := ⟨3, ![256, 64, 512]⟩
abbrev S64x256x512 : Shape := ⟨3, ![64, 256, 512]⟩
abbrev S1x256x1 : Shape := ⟨3, ![1, 256, 1]⟩
abbrev S512 : Shape := ⟨1, ![512]⟩
abbrev S1x512 : Shape := ⟨2, ![1, 512]⟩
abbrev S2048x1 : Shape := ⟨2, ![2048, 1]⟩
abbrev S2048x512 : Shape := ⟨2, ![2048, 512]⟩
abbrev S2048x256x512 : Shape := ⟨3, ![2048, 256, 512]⟩
abbrev S2048x1x512 : Shape := ⟨3, ![2048, 1, 512]⟩
abbrev S2048x256 : Shape := ⟨2, ![2048, 256]⟩
abbrev S2048x256x1 : Shape := ⟨3, ![2048, 256, 1]⟩
abbrev S2048x256x8 : Shape := ⟨3, ![2048, 256, 8]⟩
abbrev S1x2048 : Shape := ⟨2, ![1, 2048]⟩
abbrev S1x19 : Shape := ⟨2, ![1, 19]⟩
abbrev S1x38 : Shape := ⟨2, ![1, 38]⟩
abbrev S2048x19x2 : Shape := ⟨3, ![2048, 19, 2]⟩

abbrev nBuf : Space → Nat
  | .hbm => 92
  | .vmem => 0
  | .smem => 0
  | _ => 0

abbrev bufTy : (tb : Table) → Fin (tcTables nBuf tb) → BufTy
  | .hbm, ⟨0, _⟩ => ⟨S64x1x512x300, .f32⟩
  | .hbm, ⟨1, _⟩ => ⟨S2048x2, .i32⟩
  | .hbm, ⟨2, _⟩ => ⟨S2048, .i32⟩
  | .hbm, ⟨3, _⟩ => ⟨S256x1x3x300, .f32⟩
  | .hbm, ⟨4, _⟩ => ⟨S256, .f32⟩
  | .hbm, ⟨5, _⟩ => ⟨S2048x2048, .f32⟩
  | .hbm, ⟨6, _⟩ => ⟨S2048, .f32⟩
  | .hbm, ⟨7, _⟩ => ⟨S2048x19, .f32⟩
  | .hbm, ⟨8, _⟩ => ⟨S19, .f32⟩
  | .hbm, ⟨9, _⟩ => ⟨S2048x2048, .f32⟩
  | .hbm, ⟨10, _⟩ => ⟨S2048, .f32⟩
  | .hbm, ⟨11, _⟩ => ⟨S2048x38, .f32⟩
  | .hbm, ⟨12, _⟩ => ⟨S38, .f32⟩
  | .hbm, ⟨13, _⟩ => ⟨S64x512x300, .f32⟩
  | .hbm, ⟨14, _⟩ => ⟨S_, .i32⟩
  | .hbm, ⟨15, _⟩ => ⟨S_, .f32⟩
  | .hbm, ⟨16, _⟩ => ⟨S64x514x300, .f32⟩
  | .hbm, ⟨17, _⟩ => ⟨S64x512x300, .f32⟩
  | .hbm, ⟨18, _⟩ => ⟨S256x1x1x300, .f32⟩
  | .hbm, ⟨19, _⟩ => ⟨S256x300, .f32⟩
  | .hbm, ⟨20, _⟩ => ⟨S256x64x512, .f32⟩
  | .hbm, ⟨21, _⟩ => ⟨S64x256x512, .f32⟩
  | .hbm, ⟨22, _⟩ => ⟨S_, .f32⟩
  | .hbm, ⟨23, _⟩ => ⟨S64x256x512, .f32⟩
  | .hbm, ⟨24, _⟩ => ⟨S64x256x512, .f32⟩
  | .hbm, ⟨25, _⟩ => ⟨S64x512x300, .f32⟩
  | .hbm, ⟨26, _⟩ => ⟨S256x1x1x300, .f32⟩
  | .hbm, ⟨27, _⟩ => ⟨S256x300, .f32⟩
  | .hbm, ⟨28, _⟩ => ⟨S256x64x512, .f32⟩
  | .hbm, ⟨29, _⟩ => ⟨S64x256x512, .f32⟩
  | .hbm, ⟨30, _⟩ => ⟨S64x256x512, .f32⟩
  | .hbm, ⟨31, _⟩ => ⟨S64x512x300, .f32⟩
  | .hbm, ⟨32, _⟩ => ⟨S256x1x1x300, .f32⟩
  | .hbm, ⟨33, _⟩ => ⟨S256x300, .f32⟩
  | .hbm, ⟨34, _⟩ => ⟨S256x64x512, .f32⟩
  | .hbm, ⟨35, _⟩ => ⟨S64x256x512, .f32⟩
  | .hbm, ⟨36, _⟩ => ⟨S64x256x512, .f32⟩
  | .hbm, ⟨37, _⟩ => ⟨S1x256x1, .f32⟩
  | .hbm, ⟨38, _⟩ => ⟨S64x256x512, .f32⟩
  | .hbm, ⟨39, _⟩ => ⟨S64x256x512, .f32⟩
  | .hbm, ⟨40, _⟩ => ⟨S_, .f32⟩
  | .hbm, ⟨41, _⟩ => ⟨S64x256x512, .f32⟩
  | .hbm, ⟨42, _⟩ => ⟨S64x256x512, .f32⟩
  | .hbm, ⟨43, _⟩ => ⟨S512, .i32⟩
  | .hbm, ⟨44, _⟩ => ⟨S1x512, .i32⟩
  | .hbm, ⟨45, _⟩ => ⟨S2048x1, .i32⟩
  | .hbm, ⟨46, _⟩ => ⟨S2048x512, .i32⟩
  | .hbm, ⟨47, _⟩ => ⟨S2048x512, .i32⟩
  | .hbm, ⟨48, _⟩ => ⟨S2048x512, .i1⟩
  | .hbm, ⟨49, _⟩ => ⟨S1x512, .i32⟩
  | .hbm, ⟨50, _⟩ => ⟨S2048x1, .i32⟩
  | .hbm, ⟨51, _⟩ => ⟨S2048x512, .i32⟩
  | .hbm, ⟨52, _⟩ => ⟨S2048x512, .i32⟩
  | .hbm, ⟨53, _⟩ => ⟨S2048x512, .i1⟩
  | .hbm, ⟨54, _⟩ => ⟨S2048x512, .i1⟩
  | .hbm, ⟨55, _⟩ => ⟨S_, .i32⟩
  | .hbm, ⟨56, _⟩ => ⟨S2048, .i32⟩
  | .hbm, ⟨57, _⟩ => ⟨S2048, .i1⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .i32⟩
  | .hbm, ⟨62, _⟩ => ⟨S2048x1, .i32⟩
  | .hbm, ⟨63, _⟩ => ⟨S2048x256x512, .f32⟩
  | .hbm, ⟨64, _⟩ => ⟨S2048x1x512, .i1⟩
  | .hbm, ⟨65, _⟩ => ⟨S_, .f32⟩
  | .hbm, ⟨66, _⟩ => ⟨S_, .f32⟩
  | .hbm, ⟨67, _⟩ => ⟨S2048x256x512, .i1⟩
  | .hbm, ⟨68, _⟩ => ⟨S2048x256x512, .f32⟩
  | .hbm, ⟨69, _⟩ => ⟨S2048x256x512, .f32⟩
  | .hbm, ⟨70, _⟩ => ⟨S_, .f32⟩
  | .hbm, ⟨71, _⟩ => ⟨S2048x256, .f32⟩
  | .hbm, ⟨72, _⟩ => ⟨S2048x256x1, .f32⟩
  | .hbm, ⟨73, _⟩ => ⟨S2048x256x8, .f32⟩
  | .hbm, ⟨74, _⟩ => ⟨S2048x2048, .f32⟩
  | .hbm, ⟨75, _⟩ => ⟨S2048x2048, .f32⟩
  | .hbm, ⟨76, _⟩ => ⟨S1x2048, .f32⟩
  | .hbm, ⟨77, _⟩ => ⟨S2048x2048, .f32⟩
  | .hbm, ⟨78, _⟩ => ⟨S2048x2048, .f32⟩
  | .hbm, ⟨79, _⟩ => ⟨S2048x19, .f32⟩
  | .hbm, ⟨80, _⟩ => ⟨S1x19, .f32⟩
  | .hbm, ⟨81, _⟩ => ⟨S2048x19, .f32⟩
  | .hbm, ⟨82, _⟩ => ⟨S2048x19, .f32⟩
  | .hbm, ⟨83, _⟩ => ⟨S2048x2048, .f32⟩
  | .hbm, ⟨84, _⟩ => ⟨S1x2048, .f32⟩
  | .hbm, ⟨85, _⟩ => ⟨S2048x2048, .f32⟩
  | .hbm, ⟨86, _⟩ => ⟨S2048x2048, .f32⟩
  | .hbm, ⟨87, _⟩ => ⟨S2048x38, .f32⟩
  | .hbm, ⟨88, _⟩ => ⟨S1x38, .f32⟩
  | .hbm, ⟨89, _⟩ => ⟨S2048x38, .f32⟩
  | .hbm, ⟨90, _⟩ => ⟨S2048x38, .f32⟩
  | .hbm, ⟨91, _⟩ => ⟨S2048x19x2, .f32⟩
  | _, _ => ⟨S64x1x512x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_0 : Ref sig .tc := ⟨.hbm, 55, rfl⟩
abbrev main_v37 : Ref sig .tc := ⟨.hbm, 56, rfl⟩
abbrev main_v38 : Ref sig .tc := ⟨.hbm, 57, rfl⟩
abbrev main_c_1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_2 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v45 : Ref sig .tc := ⟨.hbm, 69, rfl⟩
abbrev main_cst_3 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Proof.Ideal.Steps.lean ====
/- The second kernel's body as two loops: eight stores of a convolved sentence, or 128 pooled rows and a product. -/
module

public import proofs.«01_k».proof.Proof.Gen.KernelIdeal.Skeleton
public import Idealize.ShloMosaic.Lib.Pipeline.Regions

@[expose] public section

set_option maxRecDepth 16384

noncomputable section

namespace Cert.KernelIdeal.Run

open Idealize.ShloMosaic Idealize.SL.Sem Cert.KernelIdeal.Gen

variable {F : FTy → Type} [FloatOps F]

/-! ## Where the two phases read and write -/

/-- The grid's point `a`. -/
def at1 (a : Fin 24) : grid1.Coords := fun
  | ⟨0, _⟩ => a

/-- A point is given by its one coordinate. -/
theorem at1_eq (i : grid1.Coords) : at1 (i 0) = i := by
  funext x
  match x with
  | ⟨0, _⟩ => rfl

/-- The first phase runs at the points 0 to 7 and the second at 8 to 23. -/
theorem cond1_iff (i : grid1.Coords) : k1_cond1 i = 1#1 ↔ (i 0).val < 8 := by
  have h : ∀ a : Fin 24, (k1_cond1 (at1 a) = 1#1 ↔ a.val < 8) := by decide +kernel
  have e := at1_eq i
  have := h (i 0)
  rwa [e] at this

/-- The second phase runs at the points from 8 on. -/
theorem cond2_iff (i : grid1.Coords) : k1_cond2 i = 1#1 ↔ 8 ≤ (i 0).val := by
  have h : ∀ a : Fin 24, (k1_cond2 (at1 a) = 1#1 ↔ 8 ≤ a.val) := by decide +kernel
  have e := at1_eq i
  have := h (i 0)
  rwa [e] at this

/-- The place in the three tables of the second phase's row `mi`: 128 rows per point. -/
theorem slot_val (i : grid1.Coords) (h2 : k1_cond2 i = 1#1) (mi : ℕ) (hmi : mi < 128) :
    k1_off4 i (BitVec.ofNat 32 mi) 0 = ((i 0).val - 8) * 128 + mi := by
  have h : ∀ a : Fin 24, ∀ b : Fin 128, 8 ≤ a.val → k1_off4 (at1 a) (BitVec.ofNat 32 b.val) 0 = (a.val - 8) * 128 + b.val := by
    decide +kernel
  have e := at1_eq i
  have := h (i 0) ⟨mi, hmi⟩ ((cond2_iff i).mp h2)
  rwa [e] at this

/-- A table's place lies in the table. -/
theorem slot_inb (i : grid1.Coords) (h2 : k1_cond2 i = 1#1) (mi : ℕ) (hmi : mi < 128) (a : Fin 1) :
    k1_off4 i (BitVec.ofNat 32 mi) a + S1.size a ≤ S2048.size a := by
  have h := (i 0).isLt
  rw [Fin.fin_one_eq_zero a, slot_val i h2 mi hmi]
  show ((i 0).val - 8) * 128 + mi + 1 ≤ 2048
  have : (i 0).val < 24 := h
  omega

/-- A row of the tile lies in the tile. -/
theorem row_inb (mi : ℕ) (hmi : mi < 128) (a : Fin 2) : (![mi, 0] : Fin 2 → ℕ) a + S1x256.size a ≤ S128x256.size a := by
  fin_cases a
  · show mi + 1 ≤ 128
    omega
  · show 0 + 256 ≤ 256
    omega

/-! ## The steps -/

/-- One row of the second phase: read the row's three words, load the 40 rows of features they name, and store the
    pooled row `mi`. -/
def roiStep (i : grid1.Coords) (arg1 arg2 arg3 : Memref sig .tc .smem S2048 .i32) (arg10 : Memref sig .tc .vmem S32768x256 .bf16)
    (arg11 : Memref sig .tc .vmem S128x256 .f32) (h2 : k1_cond2 i = 1#1) (mi : ℕ) (hmi : mi < 128) :
    Prog (TpuEff nD τ sig (Elt F) Λ₀ .tc) PUnit := do
  let v : Elt F .i32 ← smemLoad arg1 (Rect.unit (s := S2048) (k1_off4 i (BitVec.ofNat 32 mi)) S1.size (slot_inb i h2 mi hmi)) numel1_S1 rfl
  have hw : k1_chk1 i v := (← Prog.lift (TpuEff.assume (k1_chk1 i v) (k1_chk1.dec i v))).down
  let x : Vec F S40x256 .bf16 ← Prog.lift (.load arg10 (Rect.unit (s := S32768x256) (k1_off3 v) S40x256.size (k1_off3_inb i v hw h2)).toLoadRect (View.loadsAt_vmem h_S40x256))
  let o : Elt F .i32 ← smemLoad arg2 (Rect.unit (s := S2048) (k1_off4 i (BitVec.ofNat 32 mi)) S1.size (slot_inb i h2 mi hmi)) numel1_S1 rfl
  let d : Elt F .i32 ← smemLoad arg3 (Rect.unit (s := S2048) (k1_off4 i (BitVec.ofNat 32 mi)) S1.size (slot_inb i h2 mi hmi)) numel1_S1 rfl
  let _ : Vec F S1x256 .f32 ← Prog.lift (.load arg11 (Rect.unit (s := S128x256) ![mi, 0] S1x256.size (row_inb mi hmi)).toLoadRect (View.loadsAt_vmem h_S1x256))
  Prog.lift (.store arg11 (Rect.unit (s := S128x256) ![mi, 0] S1x256.size (row_inb mi hmi)) (k1_pay22 x o d) Finset.univ (View.stores_vmem_bits_univ h_S1x256 rfl) (.inl rfl))

/-- The `n` rows from row `mi` on. -/
def roiFrom (i : grid1.Coords) (arg1 arg2 arg3 : Memref sig .tc .smem S2048 .i32) (arg10 : Memref sig .tc .vmem S32768x256 .bf16)
    (arg11 : Memref sig .tc .vmem S128x256 .f32) (h2 : k1_cond2 i = 1#1) :
    (n mi : ℕ) → mi + n ≤ 128 → Prog (TpuEff nD τ sig (Elt F) Λ₀ .tc) PUnit
  | 0, _, _ => pure ⟨⟩
  | n + 1, mi, h => do
    roiStep i arg1 arg2 arg3 arg10 arg11 h2 mi (by omega)
    roiFrom i arg1 arg2 arg3 arg10 arg11 h2 n (mi + 1) (by omega)

/-- The second phase: 128 pooled rows, and their product with the heads' weights. -/
def roiPhase (i : grid1.Coords) (arg1 arg2 arg3 : Memref sig .tc .smem S2048 .i32) (arg7 : Memref sig .tc .vmem S256x57 .f32)
    (arg8 : Memref sig .tc .vmem S1x57 .f32) (arg9 : Memref sig .tc .vmem S128x57 .f32) (arg10 : Memref sig .tc .vmem S32768x256 .bf16)
    (arg11 : Memref sig .tc .vmem S128x256 .f32) (h2 : k1_cond2 i = 1#1) : Prog (TpuEff nD τ sig (Elt F) Λ₀ .tc) PUnit := do
  roiFrom i arg1 arg2 arg3 arg10 arg11 h2 128 0 (by omega)
  let t : Vec F S128x256 .f32 ← Prog.lift (.load arg11 (Rect.unit (s := S128x256) ![0, 0] S128x256.size inb_S128x256_S128x256_0_0).toLoadRect (View.loadsAt_vmem h_S128x256))
  let w : Vec F S256x57 .f32 ← Prog.lift (.load arg7 (Rect.unit (s := S256x57) ![0, 0] S256x57.size inb_S256x57_S256x57_0_0).toLoadRect (View.loadsAt_vmem h_S256x57))
  let b : Vec F S1x57 .f32 ← Prog.lift (.load arg8 (Rect.unit (s := S1x57) ![0, 0] S1x57.size inb_S1x57_S1x57_0_0).toLoadRect (View.loadsAt_vmem h_S1x57))
  let _ : Vec F S128x57 .f32 ← Prog.lift (.load arg9 (Rect.unit (s := S128x57) ![0, 0] S128x57.size inb_S128x57_S128x57_0_0).toLoadRect (View.loadsAt_vmem h_S128x57))
  Prog.lift (.store arg9 (Rect.unit (s := S128x57) ![0, 0] S128x57.size inb_S128x57_S128x57_0_0) (k1_pay2 t w b) Finset.univ (View.stores_vmem_bits_univ h_S128x57 rfl) (.inl rfl))
  pure ⟨⟩

/-! The first phase -/

/-- The slices that the convolution takes lie in the products: the first 511 rows of a sentence, -/
theorem slices511 (j : Fin 8) : S4096x256.Slices ![512 * j.val, 0] S511x256 := by
  revert j
  decide +kernel

/-- all 512, -/
theorem slices512 (j : Fin 8) : S4096x256.Slices ![512 * j.val, 0] S512x256 := by
  revert j
  decide +kernel

/-- and the last 511. -/
theorem slices511' (j : Fin 8) : S4096x256.Slices ![512 * j.val + 1, 0] S511x256 := by
  revert j
  decide +kernel

/-- The features of sentence `j` of a block of eight: the first product one row down, the second, the third one row up,
    and the bias, through the relu. -/
def convPay (j : Fin 8) (y0 y1 y2 : FVec F S4096x256 .f32) (b : Vec F S1x256 .f32) : FVec F S512x256 .bf16 :=
  shapeCast S512x256
    (truncf .bf16
      (maximumf
        (addf
          (addf
            (addf
              (concatenate S512x256 0 [⟨S1x256, k1_pay8⟩, ⟨S511x256, extractStridedSlice S511x256 ![512 * j.val, 0] y0 (slices511 j)⟩] concatenates_S1x256_S511x256_S512x256_d0)
              (extractStridedSlice S512x256 ![512 * j.val, 0] y1 (slices512 j)))
            (concatenate S512x256 0 [⟨S511x256, extractStridedSlice S511x256 ![512 * j.val + 1, 0] y2 (slices511' j)⟩, ⟨S1x256, k1_pay8⟩] concatenates_S511x256_S1x256_S512x256_d0))
          (broadcastTo S512x256 (shapeCast S1x256 b shapeCasts_S1x256_S1x256) broadcasts_S1x256_S512x256))
        (broadcast S512x256 (Scalar.ofBits .f32 0x00000000#32)))
      bitsLt_bf16_f32)
    shapeCasts_S512x256_S512x256

/-- One sentence of the first phase: load the bias, and store the sentence's 512 rows of features. -/
def convStep (i : grid1.Coords) (arg6 : Memref sig .tc .vmem S1x256 .f32) (arg10 : Memref sig .tc .vmem S32768x256 .bf16) (harg10 : arg10.IsWhole)
    (h1 : k1_cond1 i = 1#1) (y0 y1 y2 : FVec F S4096x256 .f32) (j : Fin 8) : Prog (TpuEff nD τ sig (Elt F) Λ₀ .tc) PUnit := do
  let b : Vec F S1x256 .f32 ← Prog.lift (.load arg6 (Rect.unit (s := S1x256) ![0, 0] S1x256.size inb_S1x256_S1x256_0_0).toLoadRect (View.loadsAt_vmem h_S1x256))
  let _ : Vec F S512x256 .bf16 ← Prog.lift (.load arg10 (Rect.unit (s := S32768x256) (k1_off1 i (BitVec.ofNat 32 (512 * j.val))) S512x256.size (k1_off1_inb i h1 j)).toLoadRect (View.loadsAt_vmem h_S512x256))
  Prog.lift (.store arg10 (Rect.unit (s := S32768x256) (k1_off1 i (BitVec.ofNat 32 (512 * j.val))) S512x256.size (k1_off1_inb i h1 j)) (convPay j y0 y1 y2 b) Finset.univ (View.stores_vmem h_S512x256 (harg10.storeExact_slice rfl _ (k1_off1_packedbf16 i h1 j)) (fun _ => rfl)) (.inl rfl))

/-- The `n` sentences from sentence `j` on. -/
def convFrom (i : grid1.Coords) (arg6 : Memref sig .tc .vmem S1x256 .f32) (arg10 : Memref sig .tc .vmem S32768x256 .bf16) (harg10 : arg10.IsWhole)
    (h1 : k1_cond1 i = 1#1) (y0 y1 y2 : FVec F S4096x256 .f32) : (n j : ℕ) → j + n ≤ 8 → Prog (TpuEff nD τ sig (Elt F) Λ₀ .tc) PUnit
  | 0, _, _ => pure ⟨⟩
  | n + 1, j, h => do
    convStep i arg6 arg10 harg10 h1 y0 y1 y2 ⟨j, by omega⟩
    convFrom i arg6 arg10 harg10 h1 y0 y1 y2 n (j + 1) (by omega)

/-- The first phase: three products of the block of sentences, and the eight sentences' features. -/
def convPhase (i : grid1.Coords) (arg4 : Memref sig .tc .vmem S8x512x300 .f32) (arg5 : Memref sig .tc .vmem S3x300x256 .f32)
    (arg6 : Memref sig .tc .vmem S1x256 .f32) (arg10 : Memref sig .tc .vmem S32768x256 .bf16) (harg10 : arg10.IsWhole)
    (h1 : k1_cond1 i = 1#1) : Prog (TpuEff nD τ sig (Elt F) Λ₀ .tc) PUnit := do
  let s : Vec F S8x512x300 .f32 ← Prog.lift (.load arg4 (Rect.unit (s := S8x512x300) ![0, 0, 0] S8x512x300.size inb_S8x512x300_S8x512x300_0_0_0).toLoadRect (View.loadsAt_vmem h_S8x512x300))
  let w : Vec F S3x300x256 .f32 ← Prog.lift (.load arg5 (Rect.unit (s := S3x300x256) ![0, 0, 0] S3x300x256.size inb_S3x300x256_S3x300x256_0_0_0).toLoadRect (View.loadsAt_vmem h_S3x300x256))
  convFrom i arg6 arg10 harg10 h1 (k1_pay5 s w) (k1_pay6 s w) (k1_pay7 s w) 8 0 (by omega)
  pure ⟨⟩

/-- The kernel's body with its two phases as loops. -/
def body (i : grid1.Coords) (arg1 : Memref sig .tc .smem S2048 .i32) (harg1 : arg1.IsWhole) (arg2 : Memref sig .tc .smem S2048 .i32) (harg2 : arg2.IsWhole) (arg3 : Memref sig .tc .smem S2048 .i32) (harg3 : arg3.IsWhole) (arg4 : Memref sig .tc .vmem S8x512x300 .f32) (harg4 : arg4.IsWhole) (arg5 : Memref sig .tc .vmem S3x300x256 .f32) (harg5 : arg5.IsWhole) (arg6 : Memref sig .tc .vmem S1x256 .f32) (harg6 : arg6.IsWhole) (arg7 : Memref sig .tc .vmem S256x57 .f32) (harg7 : arg7.IsWhole) (arg8 : Memref sig .tc .vmem S1x57 .f32) (harg8 : arg8.IsWhole) (arg9 : Memref sig .tc .vmem S128x57 .f32) (harg9 : arg9.IsWhole) (arg10 : Memref sig .tc .vmem S32768x256 .bf16) (harg10 : arg10.IsWhole) (arg11 : Memref sig .tc .vmem S128x256 .f32) (harg11 : arg11.IsWhole) :
    Prog (TpuEff nD τ sig (Elt F) Λ₀ .tc) PUnit := do
  let arg0 : BitVec 32 := BitVec.ofNat 32 (i 0).val
  if k1_h1 : k1_cond1 i = 1#1 then do
    convPhase i arg4 arg5 arg6 arg10 harg10 k1_h1
    pure ⟨⟩
  else do
    pure ⟨⟩
  if k1_h2 : k1_cond2 i = 1#1 then do
    roiPhase i arg1 arg2 arg3 arg7 arg8 arg9 arg10 arg11 k1_h2
    pure ⟨⟩
  else do
    pure ⟨⟩
  pure ⟨⟩

set_option maxHeartbeats 4000000 in
/-- The kernel's body is the loop form of it: by unfolding. -/
theorem body_eq : cc1_conv_roi_heads_skel (F := F) = body (F := F) := by
  chain_rfl

end Cert.KernelIdeal.Run
-- ==== Proof.Ideal.Rows.lean ====
/- The second phase's rows: each step pools the 40 loaded rows under its mask into one row of the tile. -/
module

public import proofs.«01_k».proof.Proof.Ideal.Steps
public import Idealize.ShloMosaic.Lib.Pipeline.FrameBody
public import Idealize.ShloMosaic.Lib.Tactic
public import Idealize.ShloMosaic.Lib.VecWindow
public import Idealize.ShloMosaic.Lib.Pointwise

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.Pointwise

variable {F : FTy → Type} [FloatOps F]

local notation "𝕄" => MT nD τ sig Unit (Elt F) ℕ (UR sig nD τ) ℕ

/-- Entry `n` of a table of 2048 words (read round the end, so that every number names one). -/
def word (x : Vec F S2048 .i32) (n : ℕ) : BitVec 32 := x (ix1 ⟨n % 2048, Nat.mod_lt _ (by omega)⟩)

/-- The 40 rows of features from row `b` on (read round the end). -/
def rows40 (x : Vec F S32768x256 .bf16) (b : ℕ) : Vec F S40x256 .bf16 := fun y =>
  x (ix2 ⟨(b + (y 0).val) % 32768, Nat.mod_lt _ (by omega)⟩ (y 1))

/-- The pooled row of entry `n` of the tables: the maximum of the 40 rows of features from the entry's base on, under
    the entry's mask. -/
def pooled (x1 x2 x3 : Vec F S2048 .i32) (x10 : Vec F S32768x256 .bf16) (n : ℕ) : FVec F S1x256 .f32 :=
  k1_pay22 (rows40 x10 (word x1 n).toNat) (word x2 n) (word x3 n)

/-- A load of 40 rows within the buffer reads `rows40`. -/
theorem read_rows (M : Memref sig .tc .vmem S32768x256 .bf16) (f : M.view.ty.Contents (Elt F)) (v : BitVec 32)
    (inb : ∀ a, k1_off3 v a + S40x256.size a ≤ S32768x256.size a) :
    M.view.readAt (Elt F) (Rect.unit (s := S32768x256) (k1_off3 v) S40x256.size inb).toLoadRect f = rows40 (M.view.read (Elt F) f) v.toNat := by
  funext y
  have h0 : v.toNat + 40 ≤ 32768 := inb 0
  have hy : (y 0).val < 40 := (y 0).isLt
  show M.view.read (Elt F) f _ = M.view.read (Elt F) f _
  refine congrArg (M.view.read (Elt F) f) (funext fun a => Fin.ext ?_)
  match a with
  | ⟨0, _⟩ =>
    show v.toNat + 1 * (y 0).val = (v.toNat + (y 0).val) % 32768
    rw [Nat.mod_eq_of_lt (by omega), Nat.one_mul]
  | ⟨1, _⟩ =>
    show 0 + 1 * (y 1).val = (y 1).val
    omega

/-- A point's load of a table at its step's place reads the table's word there. -/
theorem read_word (M : Memref sig .tc .smem S2048 .i32) (f : M.view.ty.Contents (Elt F)) (i : grid1.Coords) (h2 : k1_cond2 i = 1#1) (mi : ℕ)
    (hmi : mi < 128) (z : (Rect.unit (s := S2048) (k1_off4 i (BitVec.ofNat 32 mi)) S1.size (slot_inb i h2 mi hmi)).shape.Idx) :
    M.view.readAt (Elt F) (Rect.unit (s := S2048) (k1_off4 i (BitVec.ofNat 32 mi)) S1.size (slot_inb i h2 mi hmi)).toLoadRect f z
      = word (M.view.read (Elt F) f) (((i 0).val - 8) * 128 + mi) := by
  show M.view.read (Elt F) f _ = M.view.read (Elt F) f _
  refine congrArg (M.view.read (Elt F) f) (funext fun a => Fin.ext ?_)
  obtain rfl := Fin.fin_one_eq_zero a
  have hz : (z 0).val = 0 := by
    have : (z 0).val < 1 := (z 0).isLt
    omega
  have hn := slot_inb i h2 mi hmi 0
  rw [slot_val i h2 mi hmi] at hn
  have hn' : ((i 0).val - 8) * 128 + mi < 2048 := hn
  show k1_off4 i (BitVec.ofNat 32 mi) 0 + 1 * (z 0).val = (((i 0).val - 8) * 128 + mi) % 2048
  rw [slot_val i h2 mi hmi, hz, Nat.mod_eq_of_lt hn', Nat.mul_zero, Nat.add_zero]

/-- Equal tables' words give the same pooled row. -/
theorem pay22_congr (x : Vec F S32768x256 .bf16) {a a' b b' d d' : BitVec 32} (ha : a = a') (hb : b = b') (hd : d = d') :
    k1_pay22 (rows40 x a.toNat) b d = k1_pay22 (rows40 x a'.toNat) b' d' := by
  rw [ha, hb, hd]

set_option maxHeartbeats 1000000 in
/-- One step puts its pooled row in the tile and leaves the rest. -/
theorem wp_roiStep (c : Dev nD) (E : Set ℕ) (i : grid1.Coords) (arg1 arg2 arg3 : Memref sig .tc .smem S2048 .i32)
    (arg10 : Memref sig .tc .vmem S32768x256 .bf16) (arg11 : Memref sig .tc .vmem S128x256 .f32)
    (h2 : k1_cond2 i = 1#1) (mi : ℕ) (hmi : mi < 128)
    (x1 x2 x3 : Vec F S2048 .i32) (x10 : Vec F S32768x256 .bf16) (x11 : Vec F S128x256 .f32)
    (hck : k1_chk1 i (word x1 (((i 0).val - 8) * 128 + mi))) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg10 fullShare x10 ∗ owns (c : Thread nD τ) arg11 fullShare x11
        ∗ (iprop(owns (c : Thread nD τ) arg1 fullShare x1 ∗ owns (c : Thread nD τ) arg2 fullShare x2 ∗ owns (c : Thread nD τ) arg3 fullShare x3
            ∗ owns (c : Thread nD τ) arg10 fullShare x10
            ∗ owns (c : Thread nD τ) arg11 fullShare (VecWindow.put x11 ![mi, 0] S1x256.size (pooled x1 x2 x3 x10 (((i 0).val - 8) * 128 + mi)))) -∗ K ⟨⟩))
      ⊢ wp frame (wpE (defs₀ (F := F)) Variants.none c none) E (roiStep i arg1 arg2 arg3 arg10 arg11 h2 mi hmi) K := by
  unfold owns
  iintro ⟨⟨%f1, %hf1, H1⟩, ⟨%f2, %hf2, H2⟩, ⟨%f3, %hf3, H3⟩, ⟨%f10, %hf10, H10⟩, ⟨%f11, %hf11, H11⟩, Hk⟩
  subst hf1 hf2 hf3 hf10 hf11
  have hck' : k1_chk1 i (arg1.view.readAt (Elt F) (Rect.unit (s := S2048) (k1_off4 i (BitVec.ofNat 32 mi)) S1.size (slot_inb i h2 mi hmi)).toLoadRect f1
      (Shape.Idx.first (numel1_S1.symm ▸ Nat.one_pos))) := by
    rw [read_word arg1 f1 i h2 mi hmi]
    exact hck
  unfold roiStep
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H10]
  · iexists f10; isplitr; · ipureintro; rfl
    iexact H10
  iexists _; isplitr
  swap; · iexact H11
  ipureintro
  rw [View.read_writes_cons_put _ _ _ _ _ rfl]
  refine congrArg (VecWindow.put _ _ _) ?_
  exact (congrArg (fun x => k1_pay22 x _ _) (read_rows arg10 f10 _ _)).trans
    (pay22_congr _ (read_word arg1 f1 i h2 mi hmi _) (read_word arg2 f2 i h2 mi hmi _) (read_word arg3 f3 i h2 mi hmi _))

/-- The tile `x` with the rows `mi` to `mi + n` replaced by their pooled rows. -/
def filled (x1 x2 x3 : Vec F S2048 .i32) (x10 : Vec F S32768x256 .bf16) (i : grid1.Coords) (x : Vec F S128x256 .f32) (n mi : ℕ) : Vec F S128x256 .f32 :=
  fun y => if mi ≤ (y 0).val ∧ (y 0).val < mi + n then pooled x1 x2 x3 x10 (((i 0).val - 8) * 128 + (y 0).val) (ix2 0 (y 1)) else x y

/-- With no row filled the tile is as it was. -/
theorem filled_zero (x1 x2 x3 : Vec F S2048 .i32) (x10 : Vec F S32768x256 .bf16) (i : grid1.Coords) (x : Vec F S128x256 .f32) (mi : ℕ) :
    filled x1 x2 x3 x10 i x 0 mi = x := by
  funext y
  exact if_neg (by omega)

/-- Filling one row and then the next `n` fills `n + 1`. -/
theorem filled_succ (x1 x2 x3 : Vec F S2048 .i32) (x10 : Vec F S32768x256 .bf16) (i : grid1.Coords) (x : Vec F S128x256 .f32) (n mi : ℕ) :
    filled x1 x2 x3 x10 i (VecWindow.put x ![mi, 0] S1x256.size (pooled x1 x2 x3 x10 (((i 0).val - 8) * 128 + mi))) n (mi + 1)
      = filled x1 x2 x3 x10 i x (n + 1) mi := by
  funext y
  have hy : (y 1).val < 256 := (y 1).isLt
  unfold filled
  by_cases h : mi + 1 ≤ (y 0).val ∧ (y 0).val < mi + 1 + n
  · rw [if_pos h, if_pos (by omega)]
  · rw [if_neg h]
    unfold VecWindow.put
    by_cases h' : (y 0).val = mi
    · have hall : ∀ a, (![mi, 0] : Fin 2 → ℕ) a ≤ (y a).val ∧ (y a).val < (![mi, 0] : Fin 2 → ℕ) a + S1x256.size a := by
        refine Fin.forall_fin_two.mpr ⟨?_, ?_⟩
        · show mi ≤ (y 0).val ∧ (y 0).val < mi + 1
          omega
        · show 0 ≤ (y 1).val ∧ (y 1).val < 0 + 256
          omega
      refine (dif_pos hall).trans ?_
      rw [if_pos (by omega), h']
      refine congrArg _ (funext fun a => Fin.ext ?_)
      match a with
      | ⟨0, _⟩ =>
        show (y 0).val - mi = 0
        omega
      | ⟨1, _⟩ =>
        show (y 1).val - 0 = (y 1).val
        omega
    · rw [if_neg (by omega)]
      refine dif_neg fun hall => ?_
      have := hall 0
      have h1 : mi ≤ (y 0).val := this.1
      have h2 : (y 0).val < mi + 1 := this.2
      omega

/-- The steps from `mi` on fill their rows. -/
theorem wp_roiFrom (c : Dev nD) (E : Set ℕ) (i : grid1.Coords) (arg1 arg2 arg3 : Memref sig .tc .smem S2048 .i32)
    (arg10 : Memref sig .tc .vmem S32768x256 .bf16) (arg11 : Memref sig .tc .vmem S128x256 .f32) (h2 : k1_cond2 i = 1#1)
    (x1 x2 x3 : Vec F S2048 .i32) (x10 : Vec F S32768x256 .bf16)
    (hck : ∀ n, k1_chk1 i (word x1 n)) (K : PUnit → sProp 𝕄) (n : ℕ) : ∀ (mi : ℕ) (hmi : mi + n ≤ 128) (x11 : Vec F S128x256 .f32),
    iprop(owns (c : Thread nD τ) arg1 fullShare x1 ∗ owns (c : Thread nD τ) arg2 fullShare x2 ∗ owns (c : Thread nD τ) arg3 fullShare x3
        ∗ owns (c : Thread nD τ) arg10 fullShare x10 ∗ owns (c : Thread nD τ) arg11 fullShare x11
        ∗ (iprop(owns (c : Thread nD τ) arg1 fullShare x1 ∗ owns (c : Thread nD τ) arg2 fullShare x2 ∗ owns (c : Thread nD τ) arg3 fullShare x3
            ∗ owns (c : Thread nD τ) arg10 fullShare x10
            ∗ owns (c : Thread nD τ) arg11 fullShare (filled x1 x2 x3 x10 i x11 n mi)) -∗ K ⟨⟩))
      ⊢ wp frame (wpE (defs₀ (F := F)) Variants.none c none) E (roiFrom i arg1 arg2 arg3 arg10 arg11 h2 n mi hmi) K := by
  induction n with
  | zero =>
    intro mi hmi x11
    rw [filled_zero]
    unfold roiFrom
    iintro ⟨H1, H2, H3, H10, H11, Hk⟩
    sl_step
    iapply Hk
    isplitl [H1]; · iexact H1
    isplitl [H2]; · iexact H2
    isplitl [H3]; · iexact H3
    isplitl [H10]; · iexact H10
    iexact H11
  | succ n ih =>
    intro mi hmi x11
    rw [← filled_succ]
    unfold roiFrom
    rw [wp_bind]
    iintro ⟨H1, H2, H3, H10, H11, Hk⟩
    iapply (wp_roiStep c E i arg1 arg2 arg3 arg10 arg11 h2 mi _ x1 x2 x3 x10 x11 (hck _) _)
    isplitl [H1]; · iexact H1
    isplitl [H2]; · iexact H2
    isplitl [H3]; · iexact H3
    isplitl [H10]; · iexact H10
    isplitl [H11]; · iexact H11
    iintro ⟨H1, H2, H3, H10, H11⟩
    iapply (ih (mi + 1) _ _)
    isplitl [H1]; · iexact H1
    isplitl [H2]; · iexact H2
    isplitl [H3]; · iexact H3
    isplitl [H10]; · iexact H10
    isplitl [H11]; · iexact H11
    iexact Hk

/-- The tile after all 128 steps. -/
def tile (x1 x2 x3 : Vec F S2048 .i32) (x10 : Vec F S32768x256 .bf16) (i : grid1.Coords) : Vec F S128x256 .f32 :=
  fun y => pooled x1 x2 x3 x10 (((i 0).val - 8) * 128 + (y 0).val) (ix2 0 (y 1))

/-- With all rows filled it is the whole tile. -/
theorem filled_all (x1 x2 x3 : Vec F S2048 .i32) (x10 : Vec F S32768x256 .bf16) (i : grid1.Coords) (x : Vec F S128x256 .f32) :
    filled x1 x2 x3 x10 i x 128 0 = tile x1 x2 x3 x10 i := by
  funext y
  have hy : (y 0).val < 128 := (y 0).isLt
  exact if_pos (by omega)

set_option maxHeartbeats 1000000 in
/-- The second phase leaves the heads of the pooled rows in the output block. -/
theorem wp_roiPhase (c : Dev nD) (E : Set ℕ) (i : grid1.Coords) (arg1 arg2 arg3 : Memref sig .tc .smem S2048 .i32)
    (arg7 : Memref sig .tc .vmem S256x57 .f32) (arg8 : Memref sig .tc .vmem S1x57 .f32) (arg9 : Memref sig .tc .vmem S128x57 .f32)
    (arg10 : Memref sig .tc .vmem S32768x256 .bf16) (arg11 : Memref sig .tc .vmem S128x256 .f32) (h2 : k1_cond2 i = 1#1)
    (x1 x2 x3 : Vec F S2048 .i32) (x7 : Vec F S256x57 .f32) (x8 : Vec F S1x57 .f32) (x9 : Vec F S128x57 .f32) (x10 : Vec F S32768x256 .bf16) (x11 : Vec F S128x256 .f32)
    (hck : ∀ n, k1_chk1 i (word x1 n)) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg7 fullShare x7 ∗ owns (c : Thread nD τ) arg8 fullShare x8 ∗ owns (c : Thread nD τ) arg9 fullShare x9
        ∗ owns (c : Thread nD τ) arg10 fullShare x10 ∗ owns (c : Thread nD τ) arg11 fullShare x11
        ∗ (iprop(owns (c : Thread nD τ) arg1 fullShare x1 ∗ owns (c : Thread nD τ) arg2 fullShare x2 ∗ owns (c : Thread nD τ) arg3 fullShare x3
            ∗ owns (c : Thread nD τ) arg7 fullShare x7 ∗ owns (c : Thread nD τ) arg8 fullShare x8
            ∗ owns (c : Thread nD τ) arg9 fullShare (k1_pay2 (tile x1 x2 x3 x10 i) x7 x8)
            ∗ owns (c : Thread nD τ) arg10 fullShare x10
            ∗ owns (c : Thread nD τ) arg11 fullShare (tile x1 x2 x3 x10 i)) -∗ K ⟨⟩))
      ⊢ wp frame (wpE (defs₀ (F := F)) Variants.none c none) E (roiPhase i arg1 arg2 arg3 arg7 arg8 arg9 arg10 arg11 h2) K := by
  unfold roiPhase
  rw [wp_bind]
  iintro ⟨H1, H2, H3, H7, H8, H9, H10, H11, Hk⟩
  iapply (wp_roiFrom c E i arg1 arg2 arg3 arg10 arg11 h2 x1 x2 x3 x10 hck _ 128 0 _ x11)
  isplitl [H1]; · iexact H1
  isplitl [H2]; · iexact H2
  isplitl [H3]; · iexact H3
  isplitl [H10]; · iexact H10
  isplitl [H11]; · iexact H11
  rw [filled_all]
  unfold owns
  icases H7 with ⟨%f7, %hf7, H7⟩
  icases H8 with ⟨%f8, %hf8, H8⟩
  icases H9 with ⟨%f9, %hf9, H9⟩
  iintro ⟨H1, H2, H3, H10, ⟨%f11, %hf11, H11⟩⟩
  sl_exec
  sl_step
  iapply Hk
  isplitl [H1]; · iexact H1
  isplitl [H2]; · iexact H2
  isplitl [H3]; · iexact H3
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    rw [View.read_writes_full, View.readAt_full, View.readAt_full, View.readAt_full, hf7, hf8, hf11]
  isplitl [H10]; · iexact H10
  iexists f11; isplitr; · ipureintro; exact hf11
  iexact H11

end Cert.KernelIdeal.Run
-- ==== Proof.Ideal.Conv.lean ====
/- The first phase: each point puts its eight sentences' features in rows `4096 * i` on of the feature buffer. -/
module

public import proofs.«01_k».proof.Proof.Ideal.Rows

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The row at which the first phase stores sentence `j` of point `i`. -/
theorem off1_val (i : grid1.Coords) (h1 : k1_cond1 i = 1#1) (j : Fin 8) :
    k1_off1 i (BitVec.ofNat 32 (512 * j.val)) = ![4096 * (i 0).val + 512 * j.val, 0] := by
  have h : ∀ a : Fin 24, ∀ b : Fin 8, a.val < 8 → k1_off1 (at1 a) (BitVec.ofNat 32 (512 * b.val)) = ![4096 * a.val + 512 * b.val, 0] := by
    decide +kernel
  have e := at1_eq i
  have := h (i 0) j ((cond1_iff i).mp h1)
  rwa [e] at this

/-- The features of sentence `j` of a block of eight sentences `s`, from the taps `w` and the bias `b`. -/
def sentence (s : Vec F S8x512x300 .f32) (w : Vec F S3x300x256 .f32) (b : Vec F S1x256 .f32) (j : Fin 8) : FVec F S512x256 .bf16 :=
  convPay j (k1_pay5 s w) (k1_pay6 s w) (k1_pay7 s w) b

/-- The buffer `x` with the sentences `j` to `j + n` of point `i` replaced by their features. -/
def stored (s : Vec F S8x512x300 .f32) (w : Vec F S3x300x256 .f32) (b : Vec F S1x256 .f32) (i : grid1.Coords) (x : Vec F S32768x256 .bf16) (n j : ℕ) :
    Vec F S32768x256 .bf16 :=
  fun y => if 4096 * (i 0).val + 512 * j ≤ (y 0).val ∧ (y 0).val < 4096 * (i 0).val + 512 * (j + n)
    then sentence s w b ⟨(y 0).val / 512 % 8, Nat.mod_lt _ (by omega)⟩ (ix2 ⟨(y 0).val % 512, Nat.mod_lt _ (by omega)⟩ (y 1)) else x y

/-- With no sentence stored the buffer is as it was. -/
theorem stored_zero (s : Vec F S8x512x300 .f32) (w : Vec F S3x300x256 .f32) (b : Vec F S1x256 .f32) (i : grid1.Coords) (x : Vec F S32768x256 .bf16) (j : ℕ) :
    stored s w b i x 0 j = x := by
  funext y
  exact if_neg (by omega)

/-- Storing one sentence and then the next `n` stores `n + 1`. -/
theorem stored_succ (s : Vec F S8x512x300 .f32) (w : Vec F S3x300x256 .f32) (b : Vec F S1x256 .f32) (i : grid1.Coords) (x : Vec F S32768x256 .bf16) (n j : ℕ)
    (hj : j < 8) :
    stored s w b i (VecWindow.put x ![4096 * (i 0).val + 512 * j, 0] S512x256.size (sentence s w b ⟨j, hj⟩)) n (j + 1) = stored s w b i x (n + 1) j := by
  funext y
  have hy : (y 1).val < 256 := (y 1).isLt
  unfold stored
  by_cases h : 4096 * (i 0).val + 512 * (j + 1) ≤ (y 0).val ∧ (y 0).val < 4096 * (i 0).val + 512 * (j + 1 + n)
  · rw [if_pos h, if_pos (by omega)]
  · rw [if_neg h]
    unfold VecWindow.put
    by_cases h' : 4096 * (i 0).val + 512 * j ≤ (y 0).val ∧ (y 0).val < 4096 * (i 0).val + 512 * (j + 1)
    · have hall : ∀ a, (![4096 * (i 0).val + 512 * j, 0] : Fin 2 → ℕ) a ≤ (y a).val ∧ (y a).val < (![4096 * (i 0).val + 512 * j, 0] : Fin 2 → ℕ) a + S512x256.size a := by
        refine Fin.forall_fin_two.mpr ⟨?_, ?_⟩
        · show 4096 * (i 0).val + 512 * j ≤ (y 0).val ∧ (y 0).val < 4096 * (i 0).val + 512 * j + 512
          omega
        · show 0 ≤ (y 1).val ∧ (y 1).val < 0 + 256
          omega
      refine (dif_pos hall).trans ?_
      rw [if_pos (by omega)]
      have hq : j = (y 0).val / 512 % 8 := by omega
      refine congr (congrArg (sentence s w b) (Fin.ext hq)) (funext fun a => Fin.ext ?_)
      match a with
      | ⟨0, _⟩ =>
        show (y 0).val - (4096 * (i 0).val + 512 * j) = (y 0).val % 512
        omega
      | ⟨1, _⟩ =>
        show (y 1).val - 0 = (y 1).val
        omega
    · rw [if_neg (by omega)]
      refine dif_neg fun hall => ?_
      have := hall 0
      have h1 : 4096 * (i 0).val + 512 * j ≤ (y 0).val := this.1
      have h2 : (y 0).val < 4096 * (i 0).val + 512 * j + 512 := this.2
      omega

set_option maxHeartbeats 1000000 in
/-- One step puts its sentence's features in the buffer. -/
theorem wp_convStep (c : Dev nD) (E : Set ℕ) (i : grid1.Coords) (arg6 : Memref sig .tc .vmem S1x256 .f32)
    (arg10 : Memref sig .tc .vmem S32768x256 .bf16) (harg10 : arg10.IsWhole) (h1 : k1_cond1 i = 1#1) (j : Fin 8)
    (s : Vec F S8x512x300 .f32) (w : Vec F S3x300x256 .f32) (b : Vec F S1x256 .f32) (x10 : Vec F S32768x256 .bf16) (K : PUnit → sProp 𝕄) :
    iprop(owns (c : Thread nD τ) arg6 fullShare b ∗ owns (c : Thread nD τ) arg10 fullShare x10
        ∗ (iprop(owns (c : Thread nD τ) arg6 fullShare b
            ∗ owns (c : Thread nD τ) arg10 fullShare (VecWindow.put x10 ![4096 * (i 0).val + 512 * j.val, 0] S512x256.size (sentence s w b j))) -∗ K ⟨⟩))
      ⊢ wp frame (wpE (defs₀ (F := F)) Variants.none c none) E (convStep i arg6 arg10 harg10 h1 (k1_pay5 s w) (k1_pay6 s w) (k1_pay7 s w) j) K := by
  unfold owns
  iintro ⟨⟨%f6, %hf6, H6⟩, ⟨%f10, %hf10, H10⟩, Hk⟩
  subst hf6 hf10
  unfold convStep
  sl_exec
  sl_step
  iapply Hk
  isplitl [H6]
  · iexists f6; isplitr; · ipureintro; rfl
    iexact H6
  iexists _; isplitr
  swap; · iexact H10
  ipureintro
  rw [View.read_writes_cons_put _ _ _ _ _ (off1_val i h1 j), View.readAt_full]
  rfl

/-- The steps from `j` on store their sentences. -/
theorem wp_convFrom (c : Dev nD) (E : Set ℕ) (i : grid1.Coords) (arg6 : Memref sig .tc .vmem S1x256 .f32)
    (arg10 : Memref sig .tc .vmem S32768x256 .bf16) (harg10 : arg10.IsWhole) (h1 : k1_cond1 i = 1#1)
    (s : Vec F S8x512x300 .f32) (w : Vec F S3x300x256 .f32) (b : Vec F S1x256 .f32) (K : PUnit → sProp 𝕄) (n : ℕ) :
    ∀ (j : ℕ) (hj : j + n ≤ 8) (x10 : Vec F S32768x256 .bf16),
    iprop(owns (c : Thread nD τ) arg6 fullShare b ∗ owns (c : Thread nD τ) arg10 fullShare x10
        ∗ (iprop(owns (c : Thread nD τ) arg6 fullShare b ∗ owns (c : Thread nD τ) arg10 fullShare (stored s w b i x10 n j)) -∗ K ⟨⟩))
      ⊢ wp frame (wpE (defs₀ (F := F)) Variants.none c none) E
          (convFrom i arg6 arg10 harg10 h1 (k1_pay5 s w) (k1_pay6 s w) (k1_pay7 s w) n j hj) K := by
  induction n with
  | zero =>
    intro j hj x10
    rw [stored_zero]
    unfold convFrom
    iintro ⟨H6, H10, Hk⟩
    sl_step
    iapply Hk
    isplitl [H6]; · iexact H6
    iexact H10
  | succ n ih =>
    intro j hj x10
    rw [← stored_succ s w b i x10 n j (by omega)]
    unfold convFrom
    rw [wp_bind]
    iintro ⟨H6, H10, Hk⟩
    iapply (wp_convStep c E i arg6 arg10 harg10 h1 ⟨j, _⟩ s w b x10 _)
    isplitl [H6]; · iexact H6
    isplitl [H10]; · iexact H10
    iintro ⟨H6, H10⟩
    iapply (ih (j + 1) _ _)
    isplitl [H6]; · iexact H6
    isplitl [H10]; · iexact H10
    iexact Hk

set_option maxHeartbeats 1000000 in
/-- The first phase stores the point's eight sentences' features. -/
theorem wp_convPhase (c : Dev nD) (E : Set ℕ) (i : grid1.Coords) (arg4 : Memref sig .tc .vmem S8x512x300 .f32) (arg5 : Memref sig .tc .vmem S3x300x256 .f32)
    (arg6 : Memref sig .tc .vmem S1x256 .f32) (arg10 : Memref sig .tc .vmem S32768x256 .bf16) (harg10 : arg10.IsWhole) (h1 : k1_cond1 i = 1#1)
    (s : Vec F S8x512x300 .f32) (w : Vec F S3x300x256 .f32) (b : Vec F S1x256 .f32) (x10 : Vec F S32768x256 .bf16) (K : PUnit → sProp 𝕄) :
    iprop(owns (c : Thread nD τ) arg4 fullShare s ∗ owns (c : Thread nD τ) arg5 fullShare w ∗ owns (c : Thread nD τ) arg6 fullShare b
        ∗ owns (c : Thread nD τ) arg10 fullShare x10
        ∗ (iprop(owns (c : Thread nD τ) arg4 fullShare s ∗ owns (c : Thread nD τ) arg5 fullShare w ∗ owns (c : Thread nD τ) arg6 fullShare b
            ∗ owns (c : Thread nD τ) arg10 fullShare (stored s w b i x10 8 0)) -∗ K ⟨⟩))
      ⊢ wp frame (wpE (defs₀ (F := F)) Variants.none c none) E (convPhase i arg4 arg5 arg6 arg10 harg10 h1) K := by
  rw [show convPhase (F := F) i arg4 arg5 arg6 arg10 harg10 h1
      = .op (.load arg4 (Rect.unit (s := S8x512x300) ![0, 0, 0] S8x512x300.size inb_S8x512x300_S8x512x300_0_0_0).toLoadRect (View.loadsAt_vmem h_S8x512x300)) (fun s =>
          .op (.load arg5 (Rect.unit (s := S3x300x256) ![0, 0, 0] S3x300x256.size inb_S3x300x256_S3x300x256_0_0_0).toLoadRect (View.loadsAt_vmem h_S3x300x256)) (fun w =>
            convFrom i arg6 arg10 harg10 h1 (k1_pay5 s w) (k1_pay6 s w) (k1_pay7 s w) 8 0 (by omega) >>= fun _ => pure ⟨⟩)) from rfl]
  unfold owns
  iintro ⟨⟨%f4, %hf4, H4⟩, ⟨%f5, %hf5, H5⟩, H6, H10, Hk⟩
  sl_step
  sl_step
  rw [View.readAt_full, View.readAt_full, hf4, hf5, wp_bind]
  iapply (wp_convFrom c E i arg6 arg10 harg10 h1 s w b _ 8 0 _ x10)
  unfold owns
  isplitl [H6]; · iexact H6
  isplitl [H10]; · iexact H10
  iintro ⟨H6, H10⟩
  sl_step
  iapply Hk
  isplitl [H4]
  · iexists f4; isplitr; · ipureintro; exact hf4
    iexact H4
  isplitl [H5]
  · iexists f5; isplitr; · ipureintro; exact hf5
    iexact H5
  isplitl [H6]; · iexact H6
  iexact H10

end Cert.KernelIdeal.Run
-- ==== Proof.Ideal.Fold.lean ====
/- The first kernel call (folding each pair of head layers into one): what its one point leaves in the two output arrays' staging buffers, as the
   pipeline's proof data. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Conv
public import Idealize.ShloMosaic.Lib.Pipeline.FrameBody
public import Idealize.ShloMosaic.Lib.Tactic

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Triple

set_option maxHeartbeats 1000000 in
/-- The fold's body: both outputs are written whole, from the eight inputs. -/
theorem wp_fold (c : Dev nD) (E : Set ℕ) (arg0 : Memref sig .tc .vmem S2048x2048 .f32) (h0 : arg0.IsWhole) (arg1 : Memref sig .tc .vmem S2048x19 .f32) (h1 : arg1.IsWhole)
    (arg2 : Memref sig .tc .vmem S1x2048 .f32) (h2 : arg2.IsWhole) (arg3 : Memref sig .tc .vmem S1x19 .f32) (h3 : arg3.IsWhole)
    (arg4 : Memref sig .tc .vmem S2048x2048 .f32) (h4 : arg4.IsWhole) (arg5 : Memref sig .tc .vmem S2048x38 .f32) (h5 : arg5.IsWhole)
    (arg6 : Memref sig .tc .vmem S1x2048 .f32) (h6 : arg6.IsWhole) (arg7 : Memref sig .tc .vmem S1x38 .f32) (h7 : arg7.IsWhole)
    (arg8 : Memref sig .tc .vmem S256x57 .f32) (h8 : arg8.IsWhole) (arg9 : Memref sig .tc .vmem S1x57 .f32) (h9 : arg9.IsWhole)
    (x0 : Vec F S2048x2048 .f32) (x1 : Vec F S2048x19 .f32) (x2 : Vec F S1x2048 .f32) (x3 : Vec F S1x19 .f32) (x4 : Vec F S2048x2048 .f32) (x5 : Vec F S2048x38 .f32)
    (x6 : Vec F S1x2048 .f32) (x7 : Vec F S1x38 .f32) (x8 : Vec F S256x57 .f32) (x9 : Vec F S1x57 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k0_pay2 x0 x1 x4 x5) ∗ owns (c : Thread nD τ) arg9 fullShare (k0_pay1 x2 x1 x3 x6 x5 x7)) -∗ K ⟨⟩))
      ⊢ wp frame (wpE (defs₀ (F := F)) Variants.none c none) E (cc0_head_weight_fold arg0 h0 arg1 h1 arg2 h2 arg3 h3 arg4 h4 arg5 h5 arg6 h6 arg7 h7 arg8 h8 arg9 h9) K := by
  simp only [cc0_head_weight_fold_eq_skeleton]; unfold cc0_head_weight_fold_skel
  simp only [k0_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, -, H8⟩, ⟨%f9, -, H9⟩, Hk⟩
  sl_exec
  sl_step
  iapply Hk
  isplitl [H0]; · iexists f0; isplitr; (ipureintro; exact e0); iexact H0
  isplitl [H1]; · iexists f1; isplitr; (ipureintro; exact e1); iexact H1
  isplitl [H2]; · iexists f2; isplitr; (ipureintro; exact e2); iexact H2
  isplitl [H3]; · iexists f3; isplitr; (ipureintro; exact e3); iexact H3
  isplitl [H4]; · iexists f4; isplitr; (ipureintro; exact e4); iexact H4
  isplitl [H5]; · iexists f5; isplitr; (ipureintro; exact e5); iexact H5
  isplitl [H6]; · iexists f6; isplitr; (ipureintro; exact e6); iexact H6
  isplitl [H7]; · iexists f7; isplitr; (ipureintro; exact e7); iexact H7
  isplitl [H8]
  · iexists _; isplitr
    swap; · iexact H8
    ipureintro
    rw [View.read_writes_full]
    exact congr (congr (congr (congrArg k0_pay2 ((View.readAt_full _ _ _).trans e0)) ((View.readAt_full _ _ _).trans e1))
      ((View.readAt_full _ _ _).trans e4)) ((View.readAt_full _ _ _).trans e5)
  iexists _; isplitr
  swap; · iexact H9
  ipureintro
  rw [View.read_writes_full, View.readAt_full, View.readAt_full, View.readAt_full, View.readAt_full, View.readAt_full, View.readAt_full, e1, e2, e3, e5, e6, e7]

end Triple

section Region

variable (V : (c : Dev nD) → (b : Ref sig .tc) → Buf (Elt F) ((c : Thread nD τ).loc b))

/-- The block of array `w` at the fold's point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The fold's proof data on core `c`: the inputs' buffers stay at their blocks, the outputs' get the folded weights and the folded biases. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => k0_pay2 (iblk0 V c 0 t) (iblk0 V c 1 t) (iblk0 V c 4 t) (iblk0 V c 5 t)
    | ⟨9, _⟩ => k0_pay1 (iblk0 V c 2 t) (iblk0 V c 1 t) (iblk0 V c 3 t) (iblk0 V c 6 t) (iblk0 V c 5 t) (iblk0 V c 7 t)
  Φ _ := Pipeline.ΦA spec0 c
  q _ := fullShare
  owed _ := 0

/-- The first call's arrays are those it is entered with. -/
theorem A_eq0 (c : Dev nD) (w : Fin cfg0.W) : (dat0 V c).A w = V c (Pipeline.arrRef spec0 w) := by
  dsimp only [dat0]

/-- The inputs' staging buffers hold their blocks when the body starts. -/
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
    ∧ (∀ d, (dat0 V c).before 3 t d = iblk0 V c 3 t) ∧ (∀ d, (dat0 V c).before 4 t d = iblk0 V c 4 t) ∧ (∀ d, (dat0 V c).before 5 t d = iblk0 V c 5 t)
    ∧ (∀ d, (dat0 V c).before 6 t d = iblk0 V c 6 t) ∧ (∀ d, (dat0 V c).before 7 t d = iblk0 V c 7 t) := by
  refine ⟨?_, ?_, ?_, ?_, ?_, ?_, ?_, ?_⟩ <;>
    exact fun d => ((dat0 V c).before_in_eq_fetched _ rfl (fun _ => rfl) (fun _ _ _ => rfl) (fun _ => rfl) t d).trans rfl

/-- What the body leaves in each buffer. -/
theorem after0 (c : Dev nD) (t : Fin cfg0.N) :
    (dat0 V c).after 0 t = iblk0 V c 0 t ∧ (dat0 V c).after 1 t = iblk0 V c 1 t ∧ (dat0 V c).after 2 t = iblk0 V c 2 t ∧ (dat0 V c).after 3 t = iblk0 V c 3 t
    ∧ (dat0 V c).after 4 t = iblk0 V c 4 t ∧ (dat0 V c).after 5 t = iblk0 V c 5 t ∧ (dat0 V c).after 6 t = iblk0 V c 6 t ∧ (dat0 V c).after 7 t = iblk0 V c 7 t
    ∧ (dat0 V c).after 8 t = k0_pay2 (iblk0 V c 0 t) (iblk0 V c 1 t) (iblk0 V c 4 t) (iblk0 V c 5 t)
    ∧ (dat0 V c).after 9 t = k0_pay1 (iblk0 V c 2 t) (iblk0 V c 1 t) (iblk0 V c 3 t) (iblk0 V c 6 t) (iblk0 V c 5 t) (iblk0 V c 7 t) := by
  dsimp only [dat0]
  exact ⟨rfl, rfl, rfl, rfl, rfl, rfl, rfl, rfl, rfl, rfl⟩

/-- The body table's row at the fold's point is the printed body. -/
theorem row0 (t : Fin cfg0.N) : defs₀ (F := F) .tc cfg0.body (cfg0.bodyArgs t (cfg0.slots t)) = bodyAt0 t := by
  unfold defs₀; rw [Defs.onTc_tc]

/-- What the body is called with and returns, window by window. -/
theorem body0 (c : Dev nD) (t : Fin cfg0.N) :
    iprop((dat0 V c).Φ t.castSucc ∗ (dat0 V c).owesAt () t.castSucc
      ∗ (∃ d, owns (c : Thread nD τ) (st0_0 t) fullShare ((dat0 V c).before 0 t d)) ∗ (∃ d, owns (c : Thread nD τ) (st0_1 t) fullShare ((dat0 V c).before 1 t d))
      ∗ (∃ d, owns (c : Thread nD τ) (st0_2 t) fullShare ((dat0 V c).before 2 t d)) ∗ (∃ d, owns (c : Thread nD τ) (st0_3 t) fullShare ((dat0 V c).before 3 t d))
      ∗ (∃ d, owns (c : Thread nD τ) (st0_4 t) fullShare ((dat0 V c).before 4 t d)) ∗ (∃ d, owns (c : Thread nD τ) (st0_5 t) fullShare ((dat0 V c).before 5 t d))
      ∗ (∃ d, owns (c : Thread nD τ) (st0_6 t) fullShare ((dat0 V c).before 6 t d)) ∗ (∃ d, owns (c : Thread nD τ) (st0_7 t) fullShare ((dat0 V c).before 7 t d))
      ∗ (∃ d, owns (c : Thread nD τ) (st0_8 t) fullShare ((dat0 V c).before 8 t d)) ∗ (∃ d, owns (c : Thread nD τ) (st0_9 t) fullShare ((dat0 V c).before 9 t d)))
    ⊢ wp frame (wpE (defs₀ (F := F)) Variants.none c none) Set.univ (bodyAt0 t) (fun _ => iprop((dat0 V c).Φ t.succ ∗ (dat0 V c).owesAt () t.succ
      ∗ owns (c : Thread nD τ) (st0_0 t) fullShare ((dat0 V c).after 0 t) ∗ owns (c : Thread nD τ) (st0_1 t) fullShare ((dat0 V c).after 1 t)
      ∗ owns (c : Thread nD τ) (st0_2 t) fullShare ((dat0 V c).after 2 t) ∗ owns (c : Thread nD τ) (st0_3 t) fullShare ((dat0 V c).after 3 t)
      ∗ owns (c : Thread nD τ) (st0_4 t) fullShare ((dat0 V c).after 4 t) ∗ owns (c : Thread nD τ) (st0_5 t) fullShare ((dat0 V c).after 5 t)
      ∗ owns (c : Thread nD τ) (st0_6 t) fullShare ((dat0 V c).after 6 t) ∗ owns (c : Thread nD τ) (st0_7 t) fullShare ((dat0 V c).after 7 t)
      ∗ owns (c : Thread nD τ) (st0_8 t) fullShare ((dat0 V c).after 8 t) ∗ owns (c : Thread nD τ) (st0_9 t) fullShare ((dat0 V c).after 9 t))) := by
  unfold bodyAt0
  simp only [before0 V c t, after0 V c t]
  rw [show (dat0 V c).Φ t.succ = (dat0 V c).Φ t.castSucc from rfl, show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_fold c Set.univ _ _ _ _ _ _ _ _ _ _ _ _ _ _ _ _ _ _ _ _ (iblk0 V c 0 t) (iblk0 V c 1 t) (iblk0 V c 2 t) (iblk0 V c 3 t) (iblk0 V c 4 t) (iblk0 V c 5 t)
    (iblk0 V c 6 t) (iblk0 V c 7 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The fold's body meets what the pipeline asks of it. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

end Region

end Cert.KernelIdeal.Run
-- ==== Proof.Ideal.Fused.lean ====
/- The second kernel call: its first eight points fill the feature buffer, four thousand and ninety-six rows each, and the other sixteen pool and
   multiply a tile of a hundred and twenty-eight regions each. The invariant between points says which rows of the feature buffer are right. -/
module

public import proofs.«01_k».proof.Proof.Ideal.Fold

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Triples

variable (c : Dev nD) (E : Set ℕ) (i : grid1.Coords) (arg1 : Memref sig .tc .smem S2048 .i32) (harg1 : arg1.IsWhole) (arg2 : Memref sig .tc .smem S2048 .i32) (harg2 : arg2.IsWhole)
  (arg3 : Memref sig .tc .smem S2048 .i32) (harg3 : arg3.IsWhole) (arg4 : Memref sig .tc .vmem S8x512x300 .f32) (harg4 : arg4.IsWhole)
  (arg5 : Memref sig .tc .vmem S3x300x256 .f32) (harg5 : arg5.IsWhole) (arg6 : Memref sig .tc .vmem S1x256 .f32) (harg6 : arg6.IsWhole)
  (arg7 : Memref sig .tc .vmem S256x57 .f32) (harg7 : arg7.IsWhole) (arg8 : Memref sig .tc .vmem S1x57 .f32) (harg8 : arg8.IsWhole)
  (arg9 : Memref sig .tc .vmem S128x57 .f32) (harg9 : arg9.IsWhole) (arg10 : Memref sig .tc .vmem S32768x256 .bf16) (harg10 : arg10.IsWhole)
  (arg11 : Memref sig .tc .vmem S128x256 .f32) (harg11 : arg11.IsWhole)

/-- A point below eight runs the first phase only. -/
theorem wp_early (hi : (i 0).val < 8) (s : Vec F S8x512x300 .f32) (w : Vec F S3x300x256 .f32) (b : Vec F S1x256 .f32) (x10 : Vec F S32768x256 .bf16) (K : PUnit → sProp 𝕄) :
    iprop(owns (c : Thread nD τ) arg4 fullShare s ∗ owns (c : Thread nD τ) arg5 fullShare w ∗ owns (c : Thread nD τ) arg6 fullShare b
        ∗ owns (c : Thread nD τ) arg10 fullShare x10
        ∗ (iprop(owns (c : Thread nD τ) arg4 fullShare s ∗ owns (c : Thread nD τ) arg5 fullShare w ∗ owns (c : Thread nD τ) arg6 fullShare b
            ∗ owns (c : Thread nD τ) arg10 fullShare (stored s w b i x10 8 0)) -∗ K ⟨⟩))
      ⊢ wp frame (wpE (defs₀ (F := F)) Variants.none c none) E
          (cc1_conv_roi_heads i arg1 harg1 arg2 harg2 arg3 harg3 arg4 harg4 arg5 harg5 arg6 harg6 arg7 harg7 arg8 harg8 arg9 harg9 arg10 harg10 arg11 harg11) K := by
  have h1 : k1_cond1 i = 1#1 := (cond1_iff i).mpr hi
  have h2 : ¬ k1_cond2 i = 1#1 := fun h => absurd ((cond2_iff i).mp h) (by omega)
  simp only [cc1_conv_roi_heads_eq_skeleton, body_eq]
  unfold body
  simp only [dif_pos h1, dif_neg h2]
  rw [wp_bind]
  iintro ⟨H4, H5, H6, H10, Hk⟩
  iapply (wp_convPhase c E i arg4 arg5 arg6 arg10 harg10 h1 s w b x10 _)
  isplitl [H4]; · iexact H4
  isplitl [H5]; · iexact H5
  isplitl [H6]; · iexact H6
  isplitl [H10]; · iexact H10
  iintro H
  sl_step
  iapply Hk
  iexact H

/-- A point from eight on runs the second phase only. -/
theorem wp_late (hi : 8 ≤ (i 0).val) (x1 x2 x3 : Vec F S2048 .i32) (x7 : Vec F S256x57 .f32) (x8 : Vec F S1x57 .f32) (x9 : Vec F S128x57 .f32)
    (x10 : Vec F S32768x256 .bf16) (x11 : Vec F S128x256 .f32) (hck : ∀ n, k1_chk1 i (word x1 n)) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg7 fullShare x7 ∗ owns (c : Thread nD τ) arg8 fullShare x8 ∗ owns (c : Thread nD τ) arg9 fullShare x9
        ∗ owns (c : Thread nD τ) arg10 fullShare x10 ∗ owns (c : Thread nD τ) arg11 fullShare x11
        ∗ (iprop(owns (c : Thread nD τ) arg1 fullShare x1 ∗ owns (c : Thread nD τ) arg2 fullShare x2 ∗ owns (c : Thread nD τ) arg3 fullShare x3
            ∗ owns (c : Thread nD τ) arg7 fullShare x7 ∗ owns (c : Thread nD τ) arg8 fullShare x8
            ∗ owns (c : Thread nD τ) arg9 fullShare (k1_pay2 (tile x1 x2 x3 x10 i) x7 x8)
            ∗ owns (c : Thread nD τ) arg10 fullShare x10
            ∗ owns (c : Thread nD τ) arg11 fullShare (tile x1 x2 x3 x10 i)) -∗ K ⟨⟩))
      ⊢ wp frame (wpE (defs₀ (F := F)) Variants.none c none) E
          (cc1_conv_roi_heads i arg1 harg1 arg2 harg2 arg3 harg3 arg4 harg4 arg5 harg5 arg6 harg6 arg7 harg7 arg8 harg8 arg9 harg9 arg10 harg10 arg11 harg11) K := by
  have h1 : ¬ k1_cond1 i = 1#1 := fun h => absurd ((cond1_iff i).mp h) (by omega)
  have h2 : k1_cond2 i = 1#1 := (cond2_iff i).mpr hi
  simp only [cc1_conv_roi_heads_eq_skeleton, body_eq]
  unfold body
  simp only [dif_neg h1, dif_pos h2]
  rw [wp_bind]
  iintro ⟨H1, H2, H3, H7, H8, H9, H10, H11, Hk⟩
  iapply (wp_roiPhase c E i arg1 arg2 arg3 arg7 arg8 arg9 arg10 arg11 h2 x1 x2 x3 x7 x8 x9 x10 x11 hck _)
  isplitl [H1]; · iexact H1
  isplitl [H2]; · iexact H2
  isplitl [H3]; · iexact H3
  isplitl [H7]; · iexact H7
  isplitl [H8]; · iexact H8
  isplitl [H9]; · iexact H9
  isplitl [H10]; · iexact H10
  isplitl [H11]; · iexact H11
  iintro H
  sl_step
  iapply Hk
  iexact H

end Triples

/-! ## The points -/

/-- The grid's one coordinate is the point's number. -/
theorem coord_val : ∀ t : Fin cfg1.N, (grid1.coords t 0).val = t.val :=
  (by decide +kernel : ∀ t : Fin grid1.N, (grid1.coords t 0).val = t.val)

/-- The output's window is idle at the points below eight, -/
theorem idle_early : ∀ t : Fin cfg1.N, t.val < 8 → cfg1.idle 8 (cfg1.grid.coords t) = true :=
  (by decide +kernel : ∀ t : Fin grid1.N, t.val < 8 → idle1 8 (grid1.coords t) = true)

/-- is not written back there, -/
theorem flush_early : ∀ t : Fin cfg1.N, t.val < 8 → (cfg1.win 8).flush t = false :=
  (by decide +kernel : ∀ t : Fin grid1.N, t.val < 8 → win1_8.flush t = false)

/-- and is in use at the points from eight on. -/
theorem idle_late : ∀ t : Fin cfg1.N, 8 ≤ t.val → cfg1.idle 8 (cfg1.grid.coords t) = false :=
  (by decide +kernel : ∀ t : Fin grid1.N, 8 ≤ t.val → idle1 8 (grid1.coords t) = false)

section Region

variable (V : (c : Dev nD) → (b : Ref sig .tc) → Buf (Elt F) ((c : Thread nD τ).loc b))

/-- The block of array `w` at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point that writes row `r` of the feature buffer. -/
def writer (r : Fin 32768) : Fin cfg1.N := ⟨r.val / 4096, lt_of_lt_of_le (Nat.div_lt_of_lt_mul (show r.val < 4096 * 24 by omega)) (le_of_eq rfl)⟩

/-- The features of the whole batch, a row for each token. -/
def feats (c : Dev nD) : Vec F S32768x256 .bf16 := fun y =>
  sentence (iblk1 V c 3 (writer (y 0))) (iblk1 V c 4 (writer (y 0))) (iblk1 V c 5 (writer (y 0))) ⟨(y 0).val / 512 % 8, Nat.mod_lt _ (by omega)⟩
    (ix2 ⟨(y 0).val % 512, Nat.mod_lt _ (by omega)⟩ (y 1))

/-- `x` has the features of the rows that the points before `t` write. -/
def Upto (c : Dev nD) (t : ℕ) (x : Vec F S32768x256 .bf16) : Prop := ∀ y : S32768x256.Idx, (y 0).val < 4096 * t → x y = feats V c y

/-- The store of point `t` adds its rows. -/
theorem upto_stored (c : Dev nD) (t : Fin cfg1.N) (x : Vec F S32768x256 .bf16) (h : Upto V c t.val x) :
    Upto V c (t.val + 1) (stored (iblk1 V c 3 t) (iblk1 V c 4 t) (iblk1 V c 5 t) (grid1.coords t) x 8 0) := by
  intro y hy
  unfold stored
  rw [coord_val t]
  split_ifs with hin
  · have e : writer (y 0) = t := Fin.ext (show (y 0).val / 4096 = t.val by omega)
    unfold feats
    rw [e]
  · exact h y (by omega)

/-- After the eighth point every row is there. -/
theorem upto_late (c : Dev nD) (t : ℕ) (x : Vec F S32768x256 .bf16) (ht : 8 ≤ t) (h : Upto V c t x) : x = feats V c :=
  funext fun y => h y (lt_of_lt_of_le (y 0).isLt (show 32768 ≤ 4096 * t by omega))

/-- The feature buffer -/
abbrev scM0 : Memref sig .tc .vmem S32768x256 .bf16 := Memref.whole cc1_scratch0
/-- and the tile of pooled rows. -/
abbrev scM1 : Memref sig .tc .vmem S128x256 .f32 := Memref.whole cc1_scratch1

/-- The staging buffers of the other call, at some contents, and `X`. -/
def beside (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f)
    ∗ X)

/-- What stands beside may be weakened. -/
theorem beside_mono (c : Dev nD) {X Y : sProp 𝕄} (h : X ⊢ Y) : beside c X ⊢ beside c Y :=
  sep_mono .rfl (sep_mono .rfl (sep_mono .rfl (sep_mono .rfl (sep_mono .rfl (sep_mono .rfl (sep_mono .rfl (sep_mono .rfl (sep_mono .rfl (sep_mono .rfl h)))))))))

/-- What stands beside the staging buffers can be taken out and put back changed. -/
theorem beside_take (c : Dev nD) (X : sProp 𝕄) : beside c X ⊢ iprop(beside c iprop(⌜True⌝) ∗ X) := by
  unfold beside
  iintro ⟨H0, H1, H2, H3, H4, H5, H6, H7, H8, H9, HX⟩
  isplitr [HX]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    ipureintro; trivial
  · iexact HX

/-- What was taken out can be put back. -/
theorem beside_put (c : Dev nD) (X : sProp 𝕄) : iprop(beside c iprop(⌜True⌝) ∗ X) ⊢ beside c X := by
  unfold beside
  iintro ⟨⟨H0, H1, H2, H3, H4, H5, H6, H7, H8, H9, -⟩, HX⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HX

/-- The scoped buffers of the call and the generator's register, as the pipeline hands them over. -/
theorem rest_eq (c : Dev nD) :
    (Pipeline.ΦA spec1 c : sProp 𝕄)
      = iprop(beside c iprop((∃ d, owns (c : Thread nD τ) scM0 fullShare d) ∗ (∃ d, owns (c : Thread nD τ) scM1 fullShare d)) ∗ (∃ r, prngReg c r)) := by
  unfold Pipeline.ΦA; rw [scopedRest1_eq]; simp only [scM0, scM1, owns_whole]; try rfl

/-- The invariant before point `t`: the feature buffer has the rows written so far. -/
def between (c : Dev nD) (t : ℕ) : sProp 𝕄 :=
  iprop(beside c iprop((∃ x, ⌜Upto V c t x⌝ ∗ owns (c : Thread nD τ) scM0 fullShare x) ∗ (∃ d, owns (c : Thread nD τ) scM1 fullShare d)) ∗ (∃ r, prngReg c r))

/-- Before the first point nothing is claimed of the feature buffer, -/
theorem between_start (c : Dev nD) : (Pipeline.ΦA spec1 c : sProp 𝕄) ⊢ between V c 0 := by
  rw [rest_eq]
  refine sep_mono (beside_mono c (sep_mono ?_ .rfl)) .rfl
  iintro ⟨%d, H⟩
  iexists d
  isplitr
  · ipureintro; exact fun y hy => absurd hy (by omega)
  iexact H

/-- and what is known after the last one may be forgotten. -/
theorem between_end (c : Dev nD) (t : ℕ) : between V c t ⊢ (Pipeline.ΦA spec1 c : sProp 𝕄) := by
  rw [rest_eq]
  refine sep_mono (beside_mono c (sep_mono ?_ .rfl)) .rfl
  iintro ⟨%d, -, H⟩
  iexists d
  iexact H

/-- The pipeline's proof data on core `c`: the inputs stay at their blocks; the output's buffer gets the tile's product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => k1_pay2 (tile (iblk1 V c 0 t) (iblk1 V c 1 t) (iblk1 V c 2 t) (feats V c) (grid1.coords t)) (iblk1 V c 6 t) (iblk1 V c 7 t)
  Φ t := between V c t.val
  q _ := fullShare
  owed _ := 0

/-- The second call's arrays are those it is entered with. -/
theorem A_eq1 (c : Dev nD) (w : Fin cfg1.W) : (dat1 V c).A w = V c (Pipeline.arrRef spec1 w) := by
  dsimp only [dat1]

/-- The inputs' staging buffers hold their blocks when the body starts. -/
theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
    ∧ (∀ d, (dat1 V c).before 3 t d = iblk1 V c 3 t) ∧ (∀ d, (dat1 V c).before 4 t d = iblk1 V c 4 t) ∧ (∀ d, (dat1 V c).before 5 t d = iblk1 V c 5 t)
    ∧ (∀ d, (dat1 V c).before 6 t d = iblk1 V c 6 t) ∧ (∀ d, (dat1 V c).before 7 t d = iblk1 V c 7 t) := by
  refine ⟨?_, ?_, ?_, ?_, ?_, ?_, ?_, ?_⟩ <;>
    exact fun d => ((dat1 V c).before_in_eq_fetched _ rfl (fun _ => rfl) (fun _ _ _ => rfl) (fun _ => rfl) t d).trans rfl

/-- What the body leaves in each buffer. -/
theorem after1 (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t
    ∧ (dat1 V c).after 4 t = iblk1 V c 4 t ∧ (dat1 V c).after 5 t = iblk1 V c 5 t ∧ (dat1 V c).after 6 t = iblk1 V c 6 t ∧ (dat1 V c).after 7 t = iblk1 V c 7 t
    ∧ (dat1 V c).after 8 t = k1_pay2 (tile (iblk1 V c 0 t) (iblk1 V c 1 t) (iblk1 V c 2 t) (feats V c) (grid1.coords t)) (iblk1 V c 6 t) (iblk1 V c 7 t) := by
  dsimp only [dat1]
  exact ⟨rfl, rfl, rfl, rfl, rfl, rfl, rfl, rfl, rfl⟩

/-- The body table's row at point `t` is the printed body. -/
theorem row1 (t : Fin cfg1.N) : defs₀ (F := F) .tc cfg1.body (cfg1.bodyArgs t (cfg1.slots t)) = bodyAt1 t := by
  unfold defs₀; rw [Defs.onTc_tc]

/-- What the body is called with at point `t`. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d)) ∗ (∃ d, owns (c : Thread nD τ) (st1_1 t) fullShare ((dat1 V c).before 1 t d))
    ∗ (∃ d, owns (c : Thread nD τ) (st1_2 t) fullShare ((dat1 V c).before 2 t d)) ∗ (∃ d, owns (c : Thread nD τ) (st1_3 t) fullShare ((dat1 V c).before 3 t d))
    ∗ (∃ d, owns (c : Thread nD τ) (st1_4 t) fullShare ((dat1 V c).before 4 t d)) ∗ (∃ d, owns (c : Thread nD τ) (st1_5 t) fullShare ((dat1 V c).before 5 t d))
    ∗ (∃ d, owns (c : Thread nD τ) (st1_6 t) fullShare ((dat1 V c).before 6 t d)) ∗ (∃ d, owns (c : Thread nD τ) (st1_7 t) fullShare ((dat1 V c).before 7 t d))
    ∗ (∃ d, owns (c : Thread nD τ) (st1_8 t) fullShare ((dat1 V c).before 8 t d)))

/-- What it returns, with `X` said of the output's buffer. -/
def post1 (c : Dev nD) (t : Fin cfg1.N) (X : sProp 𝕄) : sProp 𝕄 :=
  iprop((dat1 V c).Φ t.succ ∗ (dat1 V c).owesAt () t.succ
    ∗ owns (c : Thread nD τ) (st1_0 t) fullShare ((dat1 V c).after 0 t) ∗ owns (c : Thread nD τ) (st1_1 t) fullShare ((dat1 V c).after 1 t)
    ∗ owns (c : Thread nD τ) (st1_2 t) fullShare ((dat1 V c).after 2 t) ∗ owns (c : Thread nD τ) (st1_3 t) fullShare ((dat1 V c).after 3 t)
    ∗ owns (c : Thread nD τ) (st1_4 t) fullShare ((dat1 V c).after 4 t) ∗ owns (c : Thread nD τ) (st1_5 t) fullShare ((dat1 V c).after 5 t)
    ∗ owns (c : Thread nD τ) (st1_6 t) fullShare ((dat1 V c).after 6 t) ∗ owns (c : Thread nD τ) (st1_7 t) fullShare ((dat1 V c).after 7 t)
    ∗ X)

/-- A point below eight leaves the output's buffer alone and adds its rows to the feature buffer. -/
theorem body_early (c : Dev nD) (t : Fin cfg1.N) (ht : t.val < 8) :
    pre1 V c t ⊢ wp frame (wpE (defs₀ (F := F)) Variants.none c none) Set.univ (bodyAt1 t)
      (fun _ => post1 V c t iprop(∃ d, owns (c : Thread nD τ) (st1_8 t) fullShare ((dat1 V c).before 8 t d))) := by
  unfold pre1 post1 bodyAt1
  simp only [before1 V c t, after1 V c t]
  rw [show (dat1 V c).owesAt () t.succ = (dat1 V c).owesAt () t.castSucc from rfl, show (dat1 V c).Φ t.castSucc = between V c t.val from rfl,
    show (dat1 V c).Φ t.succ = between V c (t.val + 1) from rfl]
  unfold between
  iintro ⟨⟨HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  ihave HB2 := (beside_take c _) $$ HB
  icases HB2 with ⟨HB, ⟨%x, %hx, HS0⟩, HS1⟩
  iapply (wp_early c Set.univ (grid1.coords t) _ _ _ _ _ _ _ _ _ _ _ _ _ _ _ _ _ _ _ _ _ _ (by rw [coord_val t]; exact ht) (iblk1 V c 3 t) (iblk1 V c 4 t) (iblk1 V c 5 t) x _)
  isplitl [H3]; · iexact H3
  isplitl [H4]; · iexact H4
  isplitl [H5]; · iexact H5
  isplitl [HS0]; · iexact HS0
  iintro ⟨H3, H4, H5, HS0⟩
  isplitl [HB HS0 HS1 Hg]
  · isplitl [HB HS0 HS1]
    · iapply (beside_put c _)
      isplitl [HB]; · iexact HB
      isplitl [HS0]
      · iexists _; isplitr
        swap; · iexact HS0
        ipureintro; exact upto_stored V c t x hx
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A point from eight on reads the finished feature buffer and writes the output's buffer whole. -/
theorem body_late (c : Dev nD) (t : Fin cfg1.N) (ht : 8 ≤ t.val) (hck : ∀ n, k1_chk1 (grid1.coords t) (word (iblk1 V c 0 t) n)) :
    pre1 V c t ⊢ wp frame (wpE (defs₀ (F := F)) Variants.none c none) Set.univ (bodyAt1 t)
      (fun _ => post1 V c t (owns (c : Thread nD τ) (st1_8 t) fullShare ((dat1 V c).after 8 t))) := by
  unfold pre1 post1 bodyAt1
  simp only [before1 V c t, after1 V c t]
  rw [show (dat1 V c).owesAt () t.succ = (dat1 V c).owesAt () t.castSucc from rfl, show (dat1 V c).Φ t.castSucc = between V c t.val from rfl,
    show (dat1 V c).Φ t.succ = between V c (t.val + 1) from rfl]
  unfold between
  iintro ⟨⟨HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HB2 := (beside_take c _) $$ HB
  icases HB2 with ⟨HB, ⟨%x, %hx, HS0⟩, ⟨%x11, HS1⟩⟩
  obtain rfl := upto_late V c t.val x ht hx
  iapply (wp_late c Set.univ (grid1.coords t) _ _ _ _ _ _ _ _ _ _ _ _ _ _ _ _ _ _ _ _ _ _ (by rw [coord_val t]; exact ht) (iblk1 V c 0 t) (iblk1 V c 1 t) (iblk1 V c 2 t)
    (iblk1 V c 6 t) (iblk1 V c 7 t) _ (feats V c) x11 hck _)
  isplitl [H0]; · iexact H0
  isplitl [H1]; · iexact H1
  isplitl [H2]; · iexact H2
  isplitl [H6]; · iexact H6
  isplitl [H7]; · iexact H7
  isplitl [H8]; · iexact H8
  isplitl [HS0]; · iexact HS0
  isplitl [HS1]; · iexact HS1
  iintro ⟨H0, H1, H2, H6, H7, H8, HS0, HS1⟩
  isplitl [HB HS0 HS1 Hg]
  · isplitl [HB HS0 HS1]
    · iapply (beside_put c _)
      isplitl [HB]; · iexact HB
      isplitl [HS0]
      · iexists _; isplitr
        swap; · iexact HS0
        ipureintro; exact fun _ _ => rfl
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The call's body meets what the pipeline asks of it, if every window of features to be read lies in the buffer and starts at a multiple of
    eight. -/
theorem obligation1 (c : Dev nD) (hck : ∀ t n, k1_chk1 (grid1.coords t) (word (iblk1 V c 0 t) n)) :
    BodyObligation (dat1 (F := F) V c) (defs₀ (F := F)) Variants.none () Set.univ := fun t => by
  rw [bigSep_W1, bigSep_W1, row1]
  by_cases ht : t.val < 8
  · rewrite [idle_early t ht, flush_early t ht]
    exact triple_restated (body_early V c t ht) rfl .rfl fun _ => .rfl
  · rewrite [idle_late t (by omega)]
    exact triple_restated (body_late V c t (by omega) (hck t)) rfl .rfl fun _ => .rfl

end Region

end Cert.KernelIdeal.Run
-- ==== Proof.Ideal.Launch.lean ====
/- The whole program: the contents of the buffers between its parts, each kernel call as a segment, and the run from any launch. -/
module

public import proofs.«01_k».proof.Proof.Ideal.Fused
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen (hostOps0 hostOps1 hostOps1_1 hostOps1_2 hostOps1_3 hostOps1_4 hostOps2 hostOps0_sub hostOps1_sub hostOps1_1_sub hostOps1_2_sub hostOps1_3_sub
  hostOps1_4_sub hostOps2_sub hostOps0_fresh hostOps1_fresh hostOps1_1_fresh hostOps1_2_fresh hostOps1_3_fresh hostOps1_4_fresh hostOps2_fresh hostOps0_W hostOps1_W
  hostOps1_1_W hostOps1_2_W hostOps1_3_W hostOps1_4_W hostOps2_W hostOps0_writes hostOps1_writes hostOps1_1_writes hostOps1_2_writes hostOps1_3_writes hostOps1_4_writes
  hostOps2_writes launch0 launch1 main_chain regions_no_unscoped cellOf_inj adm)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the parts -/

/-- Core `c`'s buffers at launch, -/
abbrev W0 : Dev nD → Valuation τ sig (Elt F) := fun c b => m ((c : Dev nD), b)
/-- after the reshapes that the fold's operands need, -/
abbrev W1 : Dev nD → Valuation τ sig (Elt F) := fun c => StableHlo.after hostOps0 (W0 m c)
/-- The same contents, by reference -/
abbrev V1 : (c : Dev nD) → (b : Ref sig .tc) → Buf (Elt F) ((c : Thread nD τ).loc b) := fun c b => W1 m c b
/-- after the fold, -/
def W2 (c : Dev nD) : Valuation τ sig (Elt F) := Pipeline.withArrays spec0 c (W1 m c) fun w => (dat0 (V1 m) c).arrAt w cfg0.N
/-- The same contents, by reference -/
abbrev V2 : (c : Dev nD) → (b : Ref sig .tc) → Buf (Elt F) ((c : Thread nD τ).loc b) := fun c b => W2 m c b
/-- through the computation of the windows' rows, -/
abbrev W3 : Dev nD → Valuation τ sig (Elt F) := fun c => StableHlo.after hostOps1 (W2 m c)
/-- stretch by stretch, -/
abbrev W4 : Dev nD → Valuation τ sig (Elt F) := fun c => StableHlo.after hostOps1_1 (W3 m c)
/-- stretch by stretch, -/
abbrev W5 : Dev nD → Valuation τ sig (Elt F) := fun c => StableHlo.after hostOps1_2 (W4 m c)
/-- stretch by stretch, -/
abbrev W6 : Dev nD → Valuation τ sig (Elt F) := fun c => StableHlo.after hostOps1_3 (W5 m c)
/-- up to the second call, -/
abbrev W7 : Dev nD → Valuation τ sig (Elt F) := fun c => StableHlo.after hostOps1_4 (W6 m c)
/-- The same contents, by reference -/
abbrev V7 : (c : Dev nD) → (b : Ref sig .tc) → Buf (Elt F) ((c : Thread nD τ).loc b) := fun c b => W7 m c b
/-- after the second call, -/
def W8 (c : Dev nD) : Valuation τ sig (Elt F) := Pipeline.withArrays spec1 c (W7 m c) fun w => (dat1 (V7 m) c).arrAt w cfg1.N
/-- The same contents, by reference -/
abbrev V8 : (c : Dev nD) → (b : Ref sig .tc) → Buf (Elt F) ((c : Thread nD τ).loc b) := fun c b => W8 m c b
/-- and at the return. -/
abbrev W9 : Dev nD → Valuation τ sig (Elt F) := fun c => StableHlo.after hostOps2 (W8 m c)

/-- The first call leaves its arrays as its proof data say -/
theorem W2_arr (c : Dev nD) (w : Fin cfg0.W) : W2 m c (Proc.devRef .tc (Pipeline.arrRef spec0 w)) = (dat0 (V1 m) c).arrAt w cfg0.N := by
  unfold W2; exact Pipeline.withArrays_arr spec0 launch0.win.arr_inj c _ _ w

/-- and nothing else changed. -/
theorem W2_of_ne (c : Dev nD) (b : Ref sig .tc) (hb : ∀ w, Pipeline.arrRef spec0 w ≠ b) : W2 m c (Proc.devRef .tc b) = W1 m c (Proc.devRef .tc b) := by
  unfold W2; exact Pipeline.withArrays_of_ne spec0 c _ _ b hb

/-- The fold changes its output arrays only. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩

/-- The second call leaves its arrays as its proof data say -/
theorem W8_arr (c : Dev nD) (w : Fin cfg1.W) : W8 m c (Proc.devRef .tc (Pipeline.arrRef spec1 w)) = (dat1 (V7 m) c).arrAt w cfg1.N := by
  unfold W8; exact Pipeline.withArrays_arr spec1 launch1.win.arr_inj c _ _ w

/-- and nothing else changed. -/
theorem W8_of_ne (c : Dev nD) (b : Ref sig .tc) (hb : ∀ w, Pipeline.arrRef spec1 w ≠ b) : W8 m c (Proc.devRef .tc b) = W7 m c (Proc.devRef .tc b) := by
  unfold W8; exact Pipeline.withArrays_of_ne spec1 c _ _ b hb

/-- The second call changes its output array only. -/
theorem W8_of (c : Dev nD) (r : Ref sig .tc) (h : ∀ w : Fin cfg1.W, Pipeline.arrRef spec1 w = r → (cfg1.win w).isOut = false) :
    W8 m c (Proc.devRef .tc r) = W7 m c (Proc.devRef .tc r) := by
  by_cases hw : ∃ w : Fin cfg1.W, Pipeline.arrRef spec1 w = r
  · obtain ⟨w, rfl⟩ := hw
    exact (W8_arr m c w).trans (((dat1 (V7 m) c).arrAt_in w (h w rfl) _).trans (A_eq1 (V7 m) c w))
  · exact W8_of_ne m c r fun w e => hw ⟨w, e⟩

/-- The references that the host stretches between the two calls write. -/
abbrev middle_W : List (Ref sig .tc) := hostOps1_W ++ hostOps1_1_W ++ hostOps1_2_W ++ hostOps1_3_W ++ hostOps1_4_W

/-- A reference that none of them writes is what the fold left. -/
theorem W7_of (c : Dev nD) (r : Ref sig .tc) (h : r ∉ middle_W) : W7 m c (Proc.devRef .tc r) = W2 m c (Proc.devRef .tc r) := by
  simp only [middle_W, List.mem_append, not_or] at h
  obtain ⟨⟨⟨⟨h1, h2⟩, h3⟩, h4⟩, h5⟩ := h
  exact (StableHlo.after_of_writes_sub hostOps1_4 _ hostOps1_4_writes h5).trans ((StableHlo.after_of_writes_sub hostOps1_3 _ hostOps1_3_writes h4).trans
    ((StableHlo.after_of_writes_sub hostOps1_2 _ hostOps1_2_writes h3).trans ((StableHlo.after_of_writes_sub hostOps1_1 _ hostOps1_1_writes h2).trans
      (StableHlo.after_of_writes_sub hostOps1 _ hostOps1_writes h1))))

/-- The arguments. -/
abbrev argRefs : List (Ref sig .tc) := [main_arg0, main_arg1, main_arg2, main_arg3, main_arg4, main_arg5, main_arg6, main_arg7, main_arg8, main_arg9, main_arg10, main_arg11, main_arg12]

/-- No host stretch and no call writes an argument. -/
theorem args_untouched : ∀ a ∈ argRefs, (a ∉ hostOps0_W ∧ a ∉ middle_W ∧ a ∉ hostOps2_W)
    ∧ (∀ w : Fin cfg0.W, Pipeline.arrRef spec0 w = a → (cfg0.win w).isOut = false) ∧ (∀ w : Fin cfg1.W, Pipeline.arrRef spec1 w = a → (cfg1.win w).isOut = false) :=
  ListAll.forall_mem_of_all_decide (by decide +kernel)

/-- An argument keeps its launch contents: before the second call, -/
theorem W2_arg (c : Dev nD) (a : Ref sig .tc) (ha : a ∈ argRefs) : W2 m c (Proc.devRef .tc a) = m ((c : Thread nD τ).loc a) :=
  (W2_of m c a (args_untouched a ha).2.1).trans (StableHlo.after_of_writes_sub hostOps0 _ hostOps0_writes (args_untouched a ha).1.1)

/-- and at the return. -/
theorem W9_arg (c : Dev nD) (a : Ref sig .tc) (ha : a ∈ argRefs) : W9 m c (Proc.devRef .tc a) = m ((c : Thread nD τ).loc a) :=
  (StableHlo.after_of_writes_sub hostOps2 _ hostOps2_writes (args_untouched a ha).1.2.2).trans ((W8_of m c a (args_untouched a ha).2.2).trans
    ((W7_of m c a (args_untouched a ha).1.2.1).trans (W2_arg m c a ha)))

/-- Every window of features that the second call reads lies in the feature buffer and starts at a multiple of eight. -/
def InBuffer : Prop := ∀ (c : Dev nD) (t : Fin cfg1.N) (n : ℕ), k1_chk1 (grid1.coords t) (word (iblk1 (V7 m) c 0 t) n)

/-! ## The segments -/

/-- Both calls' proof data, each at the contents it is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V7 m) c

/-- No variants are used. -/
abbrev 𝒱₀ : Variants := Variants.none
/-- No semaphore carries a level. -/
abbrev L : GSem nD τ sig → Finset Unit := fun _ => ∅
/-- The level is zero throughout. -/
abbrev lv : GSem nD τ sig → Unit → ℕ := fun _ _ => 0

/-- What rides beside the buffers: the generator's register, and that the core owes nothing. -/
abbrev R (c : Dev nD) : sProp 𝕄 := iprop((∃ r, prngReg c r) ∗ ∃ W, owes (c : Thread nD τ) (0 : CellTallies nD τ sig Unit) W)

/-- A host stretch as a segment. -/
abbrev hseg (ops : List (HloOp τ sig (Elt F))) (hsub : ops.Forall fun op => op.bufs ⊆ StableHlo.tcRefs τ sig) (hfresh : ops.Forall fun op => op.fresh = ∅)
    (W : Dev nD → Valuation τ sig (Elt F)) : Pipeline.HostSeg (Name := ℕ) (U := UR sig nD τ) (pcfgs (F := F)) defs₀ 𝒱₀ L lv :=
  Pipeline.HostSeg.ofOps _ _ _ _ _ (Pipeline.ucRefs τ sig) ops (fun op h => Pipeline.sub_ucRefs op ((List.forall_iff_forall_mem.mp hsub) op h))
    (fun op h => (List.forall_iff_forall_mem.mp hfresh) op h) W R

/-- A buffer that is not scoped is held by the core. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the core holds at the return. -/
abbrev Tₙ (c : Dev nD) : sProp 𝕄 := iprop(StableHlo.held (c : Thread nD τ) (Pipeline.ucRefs τ sig) (W9 m c) ∗ ∃ r, prngReg c r)

set_option backward.isDefEq.respectTransparency.types false in
/-- The fold as a segment. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment: its invariant starts from the scratch buffers at any contents and ends by forgetting theirs. -/
def reg1 (hck : InBuffer m) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V7 m) c (hck c)).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) (A_eq1 (V7 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = between (V7 m) c 0 from rfl]
    have h := between_start (V7 m) c
    unfold Pipeline.ΦA at h
    iintro ⟨Hp, -, Hr⟩
    iapply h
    isplitl [Hr]; · iexact Hr
    iexact Hp
  hout c := by
    rw [Pipeline.ownSems0_none, show (pdats m 1 c).Φ (Fin.last _) = between (V7 m) c (Fin.last cfg1.N).val from rfl]
    have h := between_end (V7 m) c (Fin.last cfg1.N).val
    unfold Pipeline.ΦA at h
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (fun w => (W8_arr m c w).symm)
      (fun b hb => W8_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's parts in order. -/
abbrev segs (hck : InBuffer m) : List (Pipeline.Seg (pcfgs (F := F)) adm (pdats m) () defs₀ 𝒱₀ L lv) :=
  [ .host (hseg hostOps0 hostOps0_sub hostOps0_fresh (W0 m)), .region (reg0 m), .host (hseg hostOps1 hostOps1_sub hostOps1_fresh (W2 m)),
    .host (hseg hostOps1_1 hostOps1_1_sub hostOps1_1_fresh (W3 m)), .host (hseg hostOps1_2 hostOps1_2_sub hostOps1_2_fresh (W4 m)),
    .host (hseg hostOps1_3 hostOps1_3_sub hostOps1_3_fresh (W5 m)), .host (hseg hostOps1_4 hostOps1_4_sub hostOps1_4_fresh (W6 m)),
    .region (reg1 m hck), .host (hseg hostOps2 hostOps2_sub hostOps2_fresh (W8 m)) ]

/-- The program is the run of its segments. -/
theorem main_run (hck : InBuffer m) (c : Dev nD) : main (F := F) c = Pipeline.Seg.run (segs m hck) := (main_chain c).trans (by chain_rfl)

set_option backward.isDefEq.respectTransparency.types false in
/-- The run: from any launch whose windows lie in the feature buffer, every execution ends, with every buffer of the program's own at `W9` and every
    counter at zero. -/
theorem run (hck : InBuffer m) : θ_run defs (onTc (τ := τ) (main (F := F))) ⟨m, fun _ => 0, ρ⟩ (fun r =>
    (∀ c : Dev nD, ∀ b : Ref sig .tc, Proc.devRef .tc b ∈ Pipeline.ucRefs τ sig → r.2.mem ((c.tc : Thread nD τ).loc b) = W9 m c (Proc.devRef .tc b))
      ∧ r.2.sem = fun _ => 0) :=
  Pipeline.θ_run_regions_kit_sems (pcfgs (F := F)) adm (pdats m) () cellOf_inj emb₁ defs₀ 𝒱₀ L lv m ρ main (segs m hck)
    (fun c Q => by rw [main_run m hck c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h hz => ⟨fun c b hb => h c _ hb, funext fun g => hz g (.inr (regions_no_unscoped g.2))⟩)

end Cert.KernelIdeal.Run
-- ==== Proof.Drawn.lean ====
/- What the drawn integers satisfy, read off the printed precondition, and the words that the kernel computes from them. -/
module

public import proofs.«01_k».proof.Proof.Gen.Pre_drawn
public import Idealize.ShloMosaic.Lib.ReduceAll
public import Idealize.ShloMosaic.Lib.WordArith
public import Idealize.ShloMosaic.Lib.Affine
public import Idealize.ShloMosaic.Lib.Pointwise

@[expose] public section

set_option maxRecDepth 16384

noncomputable section

namespace Cert.Drawn

open Idealize.ShloMosaic Idealize.ShloMosaic.Pointwise

/-- The start, the end and the sentence number of one region of interest, as naturals: the span is not empty, has at most 31 rows and starts before row 480. -/
structure Span (s e r : BitVec 32) : Prop where
  start_lt : s.toNat < 480
  lt_end : s.toNat + 1 ≤ e.toNat
  end_le : e.toNat ≤ s.toNat + 31
  row_lt : r.toNat < 64

/-- The signed comparisons that the preconditions make give the bounds on naturals. -/
theorem span_of_signed (s e r : BitVec 32) (h1 : (0#32).toInt ≤ s.toInt) (h2 : s.toInt < (480#32).toInt) (h3 : (s + 1#32).toInt ≤ e.toInt)
    (h4 : e.toInt ≤ (s + 31#32).toInt) (h5 : (0#32).toInt ≤ r.toInt) (h6 : r.toInt < (64#32).toInt) : Span s e r := by
  have a1 : (1#32).toInt = 1 := by decide
  have a31 : (31#32).toInt = 31 := by decide
  have z : (0#32).toInt = 0 := by decide
  have b1 : (480#32).toInt = 480 := by decide
  have b2 : (64#32).toInt = 64 := by decide
  rw [z] at h1 h5
  rw [b1] at h2
  rw [b2] at h6
  have e3 := WordArith.toInt_add_of_bounds s 1#32 (by rw [a1]; omega) (by rw [a1]; omega)
  have e4 := WordArith.toInt_add_of_bounds s 31#32 (by rw [a31]; omega) (by rw [a31]; omega)
  rw [e3, a1] at h3
  rw [e4, a31] at h4
  have k (x : BitVec 32) (hx : 0 ≤ x.toInt) : (x.toNat : ℤ) = x.toInt := by
    have := x.isLt
    rw [BitVec.toInt_eq_toNat_cond] at hx ⊢
    split at hx <;> rename_i hc
    · rw [if_pos hc]
    · omega
  have ks := k s h1
  have ke := k e (by omega)
  have kr := k r h5
  exact ⟨by omega, by omega, by omega, by omega⟩

/-- The six tests of the integers, each a conjunction over all regions of interest. -/
def Tests (x1 : IVec ⟨2, ![2048, 2]⟩ 32) (x2 : IVec ⟨1, ![2048]⟩ 32) : Prop := ∀ n : Fin 2048, Span (x1 (ix2 n 0)) (x1 (ix2 n 1)) (x2 (ix1 n))

instance : Subsingleton (⟨0, ![]⟩ : Shape).Idx := ⟨fun a b => funext fun k => k.elim0⟩

/-- The six tests, each 1 at every region of interest, give the bounds: `s` and `e` are the starts and the ends. -/
theorem tests_of (x1 : IVec ⟨2, ![2048, 2]⟩ 32) (x2 s e : IVec ⟨1, ![2048]⟩ 32) (hs : ∀ n, s (ix1 n) = x1 (ix2 n 0)) (he : ∀ n, e (ix1 n) = x1 (ix2 n 1))
    (r1 : ∀ i, IntOp.cmpi .sge (s i) 0#32 = 1#1) (r2 : ∀ i, IntOp.cmpi .slt (s i) 480#32 = 1#1) (r3 : ∀ i, IntOp.cmpi .sle (s i + 1#32) (e i) = 1#1)
    (r4 : ∀ i, IntOp.cmpi .sle (e i) (s i + 31#32) = 1#1) (r5 : ∀ i, IntOp.cmpi .sge (x2 i) 0#32 = 1#1) (r6 : ∀ i, IntOp.cmpi .slt (x2 i) 64#32 = 1#1) : Tests x1 x2 := fun n => by
  rw [← hs, ← he]
  exact span_of_signed _ _ _ (IntOp.cmpi_sge.1 (r1 _)) (IntOp.cmpi_slt.1 (r2 _)) (IntOp.cmpi_sle.1 (r3 _)) (IntOp.cmpi_sle.1 (r4 _)) (IntOp.cmpi_sge.1 (r5 _)) (IntOp.cmpi_slt.1 (r6 _))

section
variable {F : FTy → Type} [FloatOps F]

/-- A column of the spans, read at a region of interest. -/
theorem column (k : Fin 2) (x : IVec ⟨2, ![2048, 2]⟩ 32) (h : (⟨2, ![2048, 2]⟩ : Shape).Slices ![0, k.val] ⟨2, ![2048, 1]⟩) (h' : (⟨2, ![2048, 1]⟩ : Shape).ShapeCasts ⟨1, ![2048]⟩) (n : Fin 2048) :
    shapeCast ⟨1, ![2048]⟩ (extractStridedSlice ⟨2, ![2048, 1]⟩ ![0, k.val] x h) h' (ix1 n) = x (ix2 n k) := by
  fin_cases k <;> pointwise <;> rfl

open Cert.Pre_drawn in
/-- The first precondition gives the bounds. -/
theorem of_drawn (a0 : FVec F S64x1x512x300 .f32) (a1 : IVec S2048x2 32) (a2 : IVec S2048 32) (a3 a4 a5 a6 a7 a8 a9 a10 a11 a12)
    (h : fn (F := F) a0 a1 a2 a3 a4 a5 a6 a7 a8 a9 a10 a11 a12 = fun _ => 1#1) : Tests a1 a2 := by
  have h := congrFun h (fun k => k.elim0)
  simp only [fn, fn_part1, andi, IntOp.andi_eq_one] at h
  obtain ⟨⟨⟨⟨⟨h1, h2⟩, h3⟩, h4⟩, h5⟩, h6⟩ := h
  have t1 := Host.reduce_andi_all _ _ _ _ _ h1
  have t2 := Host.reduce_andi_all _ _ _ _ _ h2
  have t3 := Host.reduce_andi_all _ _ _ _ _ h3
  have t4 := Host.reduce_andi_all _ _ _ _ _ h4
  have t5 := Host.reduce_andi_all _ _ _ _ _ h5
  have t6 := Host.reduce_andi_all _ _ _ _ _ h6
  have c0 : ∀ n : Fin 2048, shapeCast S2048 (extractStridedSlice S2048x1 ![0, 0] a1 Facts.slices_S2048x2_S2048x1_0_0) Facts.shapeCasts_S2048x1_S2048 (ix1 n) = a1 (ix2 n 0) := fun n => column 0 a1 _ _ n
  have c1 : ∀ n : Fin 2048, shapeCast S2048 (extractStridedSlice S2048x1 ![0, 1] a1 Facts.slices_S2048x2_S2048x1_0_1) Facts.shapeCasts_S2048x1_S2048 (ix1 n) = a1 (ix2 n 1) := fun n => column 1 a1 _ _ n
  generalize shapeCast S2048 (extractStridedSlice S2048x1 ![0, 0] a1 Facts.slices_S2048x2_S2048x1_0_0) Facts.shapeCasts_S2048x1_S2048 = s at *
  generalize shapeCast S2048 (extractStridedSlice S2048x1 ![0, 1] a1 Facts.slices_S2048x2_S2048x1_0_1) Facts.shapeCasts_S2048x1_S2048 = e at *
  clear h1 h2 h3 h4 h5 h6
  exact tests_of a1 a2 s e c0 c1 t1 t2 t3 t4 t5 t6

end

/-! ## The words -/

/-- A word's sign, as a word. -/
def sgn (s : BitVec 32) : BitVec 32 := if s = 0 then 0 else if s.msb then -1 else 1

/-- The floored quotient by eight, as the host computes it. -/
def floor8 (s : BitVec 32) : BitVec 32 :=
  Scalar.select (IntOp.andi (IntOp.cmpi .ne (sgn s) (sgn 8#32)) (IntOp.cmpi .ne (IntOp.remsi .host s 8#32) 0#32))
    (IntOp.divsi .host s 8#32 - 1#32) (IntOp.divsi .host s 8#32)

/-- The first row of the window within the sentence: the start rounded down to a multiple of eight, at most 472. -/
def base (s : BitVec 32) : BitVec 32 := IntOp.minsi 472#32 (IntOp.maxsi 0#32 (floor8 s * 8#32))

/-- That row as a natural. -/
theorem base_eq (s : BitVec 32) (h : s.toNat < 480) : base s = BitVec.ofNat 32 (min (s.toNat / 8 * 8) 472) := by
  have e : ∀ n : Fin 480, base (BitVec.ofNat 32 n.val) = BitVec.ofNat 32 (min (n.val / 8 * 8) 472) := by decide +kernel
  have := e ⟨s.toNat, h⟩
  rwa [BitVec.ofNat_toNat, BitVec.setWidth_eq] at this

end Cert.Drawn
-- ==== Proof.Ideal.Host.lean ====
/- What the host computes between the two calls: each window's first row, the span's offset in it and its length, and the operands that only change their layout. -/
module

public import proofs.«01_k».proof.Proof.Ideal.Launch
public import proofs.«01_k».proof.Proof.Drawn
public import Idealize.ShloMosaic.Lib.StableHlo.ReadAt

@[expose] public section

set_option maxRecDepth 16384

noncomputable section

namespace Cert.KernelIdeal.Run

open Idealize.ShloMosaic Idealize.ShloMosaic.TcCoe Idealize.ShloMosaic.Pointwise
open Cert.KernelIdeal.Gen (hostOps0 hostOps1 hostOps1_1 hostOps1_2 hostOps1_3 hostOps1_4 hostOps2)

variable {F : FTy → Type} [FloatOps F]

/-- The buffers after the stretches between the two calls, from buffers `X`. -/
abbrev middle (X : Valuation τ sig (Elt F)) : Valuation τ sig (Elt F) :=
  StableHlo.after hostOps1_4 (StableHlo.after hostOps1_3 (StableHlo.after hostOps1_2 (StableHlo.after hostOps1_1 (StableHlo.after hostOps1 X))))

/-- The spans and the sentence numbers that a valuation holds, as words. -/
def spans (X : Valuation τ sig (Elt F)) : IVec S2048x2 32 := X (Proc.devRef .tc main_arg1)
/-- The sentence numbers. -/
def rowOf (X : Valuation τ sig (Elt F)) : IVec S2048 32 := X (Proc.devRef .tc main_arg2)

variable (X : Valuation τ sig (Elt F)) (n : Fin 2048)

/-- The first row of region `n`'s window in the buffer of all sentences' features. -/
theorem rbase_at : (middle X (Proc.devRef .tc main_v17) : IVec S2048 32) (ix1 n)
    = rowOf X (ix1 n) * 512#32 + Drawn.base (spans X (ix2 n 0)) := by
  unfold middle
  after_reads_at
  rfl

/-- The span's first row in the window. -/
theorem off_at : (middle X (Proc.devRef .tc main_v18) : IVec S2048 32) (ix1 n)
    = spans X (ix2 n 0) - Drawn.base (spans X (ix2 n 0)) := by
  unfold middle
  after_reads_at
  rfl

/-- The span's length. -/
theorem width_at : (middle X (Proc.devRef .tc main_v10) : IVec S2048 32) (ix1 n)
    = spans X (ix2 n 1) - spans X (ix2 n 0) := by
  unfold middle
  after_reads_at
  rfl

end Cert.KernelIdeal.Run
-- ==== Proof.Ideal.Blocks.lean ====
/- The second call's blocks, read at an index of the arrays they come from, and the windows' bounds. -/
module

public import proofs.«01_k».proof.Proof.Ideal.Host
public import Idealize.ShloMosaic.Lib.Pipeline.ValueKit

@[expose] public section

set_option maxRecDepth 16384

noncomputable section

namespace Cert.KernelIdeal.Run

open Idealize.ShloMosaic Idealize.ShloMosaic.TcCoe Idealize.ShloMosaic.Pointwise

variable {F : FTy → Type} [FloatOps F]

/-- Which block each of the second call's windows is at, at every point. -/
theorem index1 : ∀ t : Fin cfg1.N, (cfg1.win 0).index t = ![0] ∧ (cfg1.win 1).index t = ![0] ∧ (cfg1.win 2).index t = ![0] ∧ (cfg1.win 3).index t = ![min t.val 7, 0, 0]
    ∧ (cfg1.win 4).index t = ![0, 0, 0] ∧ (cfg1.win 5).index t = ![0, 0] ∧ (cfg1.win 6).index t = ![0, 0] ∧ (cfg1.win 7).index t = ![0, 0] ∧ (cfg1.win 8).index t = ![t.val - 8, 0] := by
  decide +kernel

variable (V : (c : Dev nD) → (b : Ref sig .tc) → Buf (Elt F) ((c : Thread nD τ).loc b)) (c : Dev nD) (t : Fin cfg1.N)

/-- The tables of windows, -/
theorem iblk1_0 (n : Fin 2048) : (iblk1 V c 0 t : IVec S2048 32) (ix1 n) = (V c main_v17 : IVec S2048 32) (ix1 n) := by
  have e := (index1 t).1
  blk_ext [iblk1, e]

/-- of offsets -/
theorem iblk1_1 (n : Fin 2048) : (iblk1 V c 1 t : IVec S2048 32) (ix1 n) = (V c main_v18 : IVec S2048 32) (ix1 n) := by
  have e := (index1 t).2.1
  blk_ext [iblk1, e]

/-- and of lengths, -/
theorem iblk1_2 (n : Fin 2048) : (iblk1 V c 2 t : IVec S2048 32) (ix1 n) = (V c main_v10 : IVec S2048 32) (ix1 n) := by
  have e := (index1 t).2.2.1
  blk_ext [iblk1, e]

/-- eight sentences, -/
theorem iblk1_3 (p : Fin 8) (l : Fin 512) (d : Fin 300) : (iblk1 V c 3 t : Vec F S8x512x300 .f32) (ix3 p l d)
    = (V c main_v5 : Vec F S64x512x300 .f32) (ix3 ⟨min t.val 7 * 8 + p.val, by omega⟩ l d) := by
  have e := (index1 t).2.2.2.1
  blk_ext [iblk1, e]

/-- the taps, -/
theorem iblk1_4 (k : Fin 3) (d : Fin 300) (f : Fin 256) : (iblk1 V c 4 t : Vec F S3x300x256 .f32) (ix3 k d f) = (V c main_v20 : Vec F S3x300x256 .f32) (ix3 k d f) := by
  have e := (index1 t).2.2.2.2.1
  blk_ext [iblk1, e]

/-- the filters' biases, -/
theorem iblk1_5 (u : Fin 1) (f : Fin 256) : (iblk1 V c 5 t : Vec F S1x256 .f32) (ix2 u f) = (V c main_v21 : Vec F S1x256 .f32) (ix2 u f) := by
  have e := (index1 t).2.2.2.2.2.1
  blk_ext [iblk1, e]

/-- the folded weights -/
theorem iblk1_6 (f : Fin 256) (o : Fin 57) : (iblk1 V c 6 t : Vec F S256x57 .f32) (ix2 f o) = (V c main_v4_0 : Vec F S256x57 .f32) (ix2 f o) := by
  have e := (index1 t).2.2.2.2.2.2.1
  blk_ext [iblk1, e]

/-- and the folded biases. -/
theorem iblk1_7 (u : Fin 1) (o : Fin 57) : (iblk1 V c 7 t : Vec F S1x57 .f32) (ix2 u o) = (V c main_v4_1 : Vec F S1x57 .f32) (ix2 u o) := by
  have e := (index1 t).2.2.2.2.2.2.2.1
  blk_ext [iblk1, e]

/-! ## The bounds -/

/-- The first row of a drawn region's window: eight divides it, and the window's forty rows are in the buffer. -/
theorem rbase_ok (s e r : BitVec 32) (h : Drawn.Span s e r) :
    (r * 512#32 + Drawn.base s).toNat = r.toNat * 512 + min (s.toNat / 8 * 8) 472 := by
  have h1 := h.start_lt
  have h4 := h.row_lt
  rw [Drawn.base_eq s h1, BitVec.toNat_add, BitVec.toNat_mul, BitVec.toNat_ofNat, BitVec.toNat_ofNat]
  omega

variable (m : (ℓ : Loc nD τ sig) → Buf (Elt F) ℓ)

/-- The regions before the second call are the argument's, -/
theorem spans_W2 : spans (W2 m c) = (m ((c : Thread nD τ).loc main_arg1) : IVec S2048x2 32) := W2_arg m c main_arg1 (by decide)
/-- and so are the sentence numbers. -/
theorem rowOf_W2 : rowOf (W2 m c) = (m ((c : Thread nD τ).loc main_arg2) : IVec S2048 32) := W2_arg m c main_arg2 (by decide)

/-- Drawn regions keep every window in the buffer. -/
theorem inBuffer (h : ∀ c : Dev nD, Drawn.Tests (m ((c : Thread nD τ).loc main_arg1)) (m ((c : Thread nD τ).loc main_arg2))) : InBuffer m := fun c t n => by
  have e : word (iblk1 (V7 m) c 0 t) n = rowOf (W2 m c) (ix1 ⟨n % 2048, Nat.mod_lt _ (by omega)⟩) * 512#32 + Drawn.base (spans (W2 m c) (ix2 ⟨n % 2048, Nat.mod_lt _ (by omega)⟩ 0)) :=
    (iblk1_0 (V7 m) c t _).trans (rbase_at (W2 m c) _)
  rw [rowOf_W2, spans_W2] at e
  have hs := h c ⟨n % 2048, Nat.mod_lt _ (by omega)⟩
  have v := rbase_ok _ _ _ hs
  have h1 := hs.start_lt
  have h4 := hs.row_lt
  have v' : (word (iblk1 (V7 m) c 0 t) n).toNat = _ := (congrArg BitVec.toNat e).trans v
  refine ⟨fun _ => ?_, fun _ a => ?_⟩
  · show 8 ∣ (word (iblk1 (V7 m) c 0 t) n).toNat
    rw [v']
    omega
  · fin_cases a
    · show (word (iblk1 (V7 m) c 0 t) n).toNat + 40 ≤ 32768
      rw [v']
      omega
    · show 0 + 256 ≤ 256
      omega

end Cert.KernelIdeal.Run
-- ==== Proof.Ideal.Ends.lean ====
/- The run read at the arguments and at the results. -/
module

public import proofs.«01_k».proof.Proof.Ideal.Blocks

@[expose] public section

set_option maxRecDepth 16384

noncomputable section

namespace Cert.KernelIdeal.Run

open Idealize.ShloMosaic Idealize.ShloMosaic.TcCoe Idealize.ShloMosaic.Tactic
open Idealize.SL.Sem

variable {F : FTy → Type} [FloatOps F] (m : (ℓ : Loc nD τ sig) → Buf (Elt F) ℓ) (ρ : Dev nD → PrngReg)

/-- Core `c`'s arguments hold in memory `r` what the launch memory `m` holds there. -/
abbrev ArgsKept (r : (ℓ : Loc nD τ sig) → Buf (Elt F) ℓ) (c : Dev nD) : Prop :=
  r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)
      ∧ r ((c.tc : Thread nD τ).loc main_arg4) = m ((c.tc : Thread nD τ).loc main_arg4)
      ∧ r ((c.tc : Thread nD τ).loc main_arg5) = m ((c.tc : Thread nD τ).loc main_arg5)
      ∧ r ((c.tc : Thread nD τ).loc main_arg6) = m ((c.tc : Thread nD τ).loc main_arg6)
      ∧ r ((c.tc : Thread nD τ).loc main_arg7) = m ((c.tc : Thread nD τ).loc main_arg7)
      ∧ r ((c.tc : Thread nD τ).loc main_arg8) = m ((c.tc : Thread nD τ).loc main_arg8)
      ∧ r ((c.tc : Thread nD τ).loc main_arg9) = m ((c.tc : Thread nD τ).loc main_arg9)
      ∧ r ((c.tc : Thread nD τ).loc main_arg10) = m ((c.tc : Thread nD τ).loc main_arg10)
      ∧ r ((c.tc : Thread nD τ).loc main_arg11) = m ((c.tc : Thread nD τ).loc main_arg11)
      ∧ r ((c.tc : Thread nD τ).loc main_arg12) = m ((c.tc : Thread nD τ).loc main_arg12)

/-- From drawn regions the program ends with the two results at the last contents, the arguments unchanged and every semaphore at zero. -/
theorem ends (h : ∀ c : Dev nD, Drawn.Tests (m ((c : Thread nD τ).loc main_arg1)) (m ((c : Thread nD τ).loc main_arg2))) :
    θ_run defs (onTc (τ := τ) (main (F := F))) ⟨m, fun _ => 0, ρ⟩ (fun r =>
      (∀ c : Dev nD, r.2.mem ((c.tc : Thread nD τ).loc main_v23) = W9 m c (Proc.devRef .tc main_v23) ∧ r.2.mem ((c.tc : Thread nD τ).loc main_v25) = W9 m c (Proc.devRef .tc main_v25)
        ∧ ArgsKept m r.2.mem c) ∧ r.2.sem = fun _ => 0) :=
  (θ_run defs _ _).mono (fun r k => by
    refine ⟨fun c => ⟨k.1 c main_v23 (mem_uc _ (by decide)), k.1 c main_v25 (mem_uc _ (by decide)), ?_⟩, k.2⟩
    have g (a : Ref sig .tc) (ha : a ∈ argRefs) (hu : ¬ (Proc.devRef .tc a : DevRef τ sig).isScoped) : r.2.mem ((c.tc : Thread nD τ).loc a) = m ((c.tc : Thread nD τ).loc a) :=
      (k.1 c a (mem_uc a hu)).trans (W9_arg m c a ha)
    exact ⟨g main_arg0 (by decide) (by decide), g main_arg1 (by decide) (by decide), g main_arg2 (by decide) (by decide), g main_arg3 (by decide) (by decide), g main_arg4 (by decide) (by decide), g main_arg5 (by decide) (by decide), g main_arg6 (by decide) (by decide), g main_arg7 (by decide) (by decide), g main_arg8 (by decide) (by decide), g main_arg9 (by decide) (by decide), g main_arg10 (by decide) (by decide), g main_arg11 (by decide) (by decide), g main_arg12 (by decide) (by decide)⟩) (run m ρ (inBuffer m h))

end Cert.KernelIdeal.Run
-- ==== Proof.DrawnFinite.lean ====
/- What the second precondition says of the arrays: every one that enters a product is finite. -/
module

public import proofs.«01_k».proof.Proof.Gen.Pre_drawn_finite
public import proofs.«01_k».proof.Proof.Drawn

@[expose] public section

set_option maxRecDepth 16384

noncomputable section

namespace Cert.Drawn

open Idealize.ShloMosaic

/-- The finite arrays: every element of the sentences, of the filters and their biases and of the four matrices of the heads is a real number. -/
structure Finite (a0 : FVec Ideal ⟨4, ![64, 1, 512, 300]⟩ .f32) (a3 : FVec Ideal ⟨4, ![256, 1, 3, 300]⟩ .f32) (a4 : FVec Ideal ⟨1, ![256]⟩ .f32)
    (a5 : FVec Ideal ⟨2, ![2048, 2048]⟩ .f32) (a7 : FVec Ideal ⟨2, ![2048, 19]⟩ .f32) (a9 : FVec Ideal ⟨2, ![2048, 2048]⟩ .f32) (a11 : FVec Ideal ⟨2, ![2048, 38]⟩ .f32) : Prop where
  sentence : ∀ i, ∃ r : ℝ, a0 i = (r : EReal)
  conv_w : ∀ i, ∃ r : ℝ, a3 i = (r : EReal)
  conv_b : ∀ i, ∃ r : ℝ, a4 i = (r : EReal)
  w1 : ∀ i, ∃ r : ℝ, a5 i = (r : EReal)
  wc : ∀ i, ∃ r : ℝ, a7 i = (r : EReal)
  w2 : ∀ i, ∃ r : ℝ, a9 i = (r : EReal)
  wb : ∀ i, ∃ r : ℝ, a11 i = (r : EReal)

/-- An element whose absolute value is below plus infinity is a real number. -/
theorem real_of_lt {s : Shape} (x inf : FVec Ideal s .f32) (i : s.Idx) (hinf : inf i = Ideal.ofBits .f32 0x7F800000#32) (h : cmpf .olt (Host.absf x) inf i = 1#1) : ∃ r : ℝ, x i = (r : EReal) := by
  have top : inf i = (⊤ : EReal) := hinf.trans (by simp [Ideal.ofBits, Ideal.ieee])
  have l : max (x i : EReal) (-(x i)) < ⊤ := by
    have h' : BitVec.ofBool (decide (max (x i : EReal) (-(x i)) < inf i)) = 1#1 := h
    rw [top] at h'
    simpa only [WordArith.ofBool_eq_one_iff, decide_eq_true_eq] using h'
  have n1 : (x i : EReal) ≠ ⊤ := fun e => by rw [e] at l; simp at l
  have n2 : (x i : EReal) ≠ ⊥ := fun e => by rw [e] at l; simp at l
  exact ⟨(x i : EReal).toReal, (EReal.coe_toReal n1 n2).symm⟩

open Cert.Pre_drawn_finite in
/-- The second precondition gives the bounds and the finite arrays. -/
theorem of_drawn_finite (a0 : FVec Ideal S64x1x512x300 .f32) (a1 : IVec S2048x2 32) (a2 : IVec S2048 32) (a3 a4 a5 a6 a7 a8 a9 a10 a11 a12)
    (h : fn (F := Ideal) a0 a1 a2 a3 a4 a5 a6 a7 a8 a9 a10 a11 a12 = fun _ => 1#1) : Tests a1 a2 ∧ Finite a0 a3 a4 a5 a7 a9 a11 := by
  have h := congrFun h (fun k => k.elim0)
  simp only [fn, fn_part1, fn_part2, fn_part3, andi, IntOp.andi_eq_one] at h
  obtain ⟨⟨⟨⟨⟨⟨⟨⟨⟨⟨⟨⟨h1, h2⟩, h3⟩, h4⟩, h5⟩, h6⟩, f0⟩, f3⟩, f4⟩, f5⟩, f7⟩, f9⟩, f11⟩ := h
  refine ⟨?_, ?_⟩
  · refine of_drawn (F := Ideal) a0 a1 a2 a3 a4 a5 a6 a7 a8 a9 a10 a11 a12 (funext fun k => ?_)
    rw [show k = fun k => k.elim0 from Subsingleton.elim _ _]
    simp only [Cert.Pre_drawn.fn, Cert.Pre_drawn.fn_part1, andi, IntOp.andi_eq_one]
    exact ⟨⟨⟨⟨⟨h1, h2⟩, h3⟩, h4⟩, h5⟩, h6⟩
  · have g {s : Shape} {axes : List (Fin s.rank)} (x inf : FVec Ideal s .f32) (one : IVec ⟨0, ![]⟩ 1) (hr : s.ReducesTo axes ⟨0, ![]⟩) (hu : 0 < (⟨0, ![]⟩ : Shape).numel)
        (j : (⟨0, ![]⟩ : Shape).Idx) (r : Host.reduce IntOp.andi (cmpf .olt (Host.absf x) inf) one hr hu j = 1#1) (hinf : ∀ i, inf i = Ideal.ofBits .f32 0x7F800000#32) (i : s.Idx) :
        ∃ r : ℝ, x i = (r : EReal) := real_of_lt x inf i (hinf i) (Host.reduce_andi_all _ one hr hu j r i)
    exact ⟨g _ _ _ _ _ _ f0 fun _ => rfl, g _ _ _ _ _ _ f3 fun _ => rfl, g _ _ _ _ _ _ f4 fun _ => rfl, g _ _ _ _ _ _ f5 fun _ => rfl,
      g _ _ _ _ _ _ f7 fun _ => rfl, g _ _ _ _ _ _ f9 fun _ => rfl, g _ _ _ _ _ _ f11 fun _ => rfl⟩

end Cert.Drawn
-- ==== Proof.Spec.lean ====
/- The features, the pooled maxima and the two heads as plain formulas, for both programs to be compared with. -/
module

public import proofs.«01_k».proof.Proof.DrawnFinite

@[expose] public section

set_option maxRecDepth 16384

noncomputable section

namespace Cert.Spec

open Idealize.ShloMosaic Idealize.ShloMosaic.Pointwise

/-- One tap of filter `f` at row `l` of sentence `s`. -/
def tap (a0 : FVec Ideal ⟨4, ![64, 1, 512, 300]⟩ .f32) (a3 : FVec Ideal ⟨4, ![256, 1, 3, 300]⟩ .f32) (k : Fin 3) (s : Fin 64) (l : Fin 512) (f : Fin 256) : EReal :=
  ∑ d : Fin 300, a0 (ix4 s 0 l d) * a3 (ix4 f 0 k d)

/-- Feature `f` at row `l` of sentence `s`: three taps (none from outside the sentence), a bias, and nothing below zero. -/
def feature (a0 : FVec Ideal ⟨4, ![64, 1, 512, 300]⟩ .f32) (a3 : FVec Ideal ⟨4, ![256, 1, 3, 300]⟩ .f32) (a4 : FVec Ideal ⟨1, ![256]⟩ .f32) (s : Fin 64) (l : Fin 512) (f : Fin 256) : EReal :=
  max ((((if h : l.val < 1 then 0 else tap a0 a3 0 s ⟨l.val - 1, by omega⟩ f) + tap a0 a3 1 s l f)
    + if h : l.val < 511 then tap a0 a3 2 s ⟨l.val + 1, by omega⟩ f else 0) + a4 (ix1 f)) 0

/-- The greatest of the values `g` at the rows from `s` on and before `e`. -/
def greatest (s e : ℕ) (g : Fin 512 → EReal) : EReal := Finset.univ.fold max ⊥ fun l : Fin 512 => if s ≤ l.val ∧ l.val < e then g l else ⊥

/-- A row is in a region when it is from the start on and before the end. -/
theorem inside (s e l : BitVec 32) (hs : s.toNat < 2 ^ 31) (he : e.toNat < 2 ^ 31) (hl : l.toNat < 2 ^ 31) (x y : EReal) :
    Scalar.select (IntOp.andi (IntOp.cmpi .sge l s) (IntOp.cmpi .slt l e)) x y = if s.toNat ≤ l.toNat ∧ l.toNat < e.toNat then x else y := by
  have i1 := BitVec.toInt_eq_toNat_of_lt (x := s) (by omega)
  have i2 := BitVec.toInt_eq_toNat_of_lt (x := e) (by omega)
  have i3 := BitVec.toInt_eq_toNat_of_lt (x := l) (by omega)
  have e1 : IntOp.cmpi .sge l s = BitVec.ofBool (decide (s.toInt ≤ l.toInt)) := rfl
  have e2 : IntOp.cmpi .slt l e = BitVec.ofBool (decide (l.toInt < e.toInt)) := rfl
  rw [e1, e2, i1, i2, i3]
  by_cases h1 : s.toNat ≤ l.toNat <;> by_cases h2 : l.toNat < e.toNat <;> simp [h1, h2, Scalar.select, IntOp.andi]

end Cert.Spec
-- ==== Proof.Ideal.FeatValue.lean ====
/- The features that the second call keeps in its buffer, at the extended reals. -/
module

public import proofs.«01_k».proof.Proof.Ideal.Blocks
public import proofs.«01_k».proof.Proof.Spec
public import Idealize.ShloMosaic.Lib.StableHlo.ReadAt
public import Idealize.ShloMosaic.Lib.Pointwise

@[expose] public section

set_option maxRecDepth 16384

noncomputable section

namespace Cert.KernelIdeal.Run

open Idealize.ShloMosaic Idealize.ShloMosaic.TcCoe Idealize.ShloMosaic.Pointwise
open Cert.KernelIdeal.Gen

/-- The first tap at row `r` of eight sentences laid end to end, -/
theorem pay5_at (s : Vec Ideal S8x512x300 .f32) (w : Vec Ideal S3x300x256 .f32) (r : Fin 4096) (f : Fin 256) :
    k1_pay5 (F := Ideal) s w (ix2 r f) = ∑ d : Fin 300, s (ix3 ⟨r.val / 512, by omega⟩ ⟨r.val % 512, by omega⟩ d) * w (ix3 0 d f) := by
  unfold k1_pay5 k1_pay3 k1_pay4
  pointwise

/-- the second -/
theorem pay6_at (s : Vec Ideal S8x512x300 .f32) (w : Vec Ideal S3x300x256 .f32) (r : Fin 4096) (f : Fin 256) :
    k1_pay6 (F := Ideal) s w (ix2 r f) = ∑ d : Fin 300, s (ix3 ⟨r.val / 512, by omega⟩ ⟨r.val % 512, by omega⟩ d) * w (ix3 1 d f) := by
  unfold k1_pay6 k1_pay3 k1_pay4
  pointwise

/-- and the third. -/
theorem pay7_at (s : Vec Ideal S8x512x300 .f32) (w : Vec Ideal S3x300x256 .f32) (r : Fin 4096) (f : Fin 256) :
    k1_pay7 (F := Ideal) s w (ix2 r f) = ∑ d : Fin 300, s (ix3 ⟨r.val / 512, by omega⟩ ⟨r.val % 512, by omega⟩ d) * w (ix3 2 d f) := by
  unfold k1_pay7 k1_pay3 k1_pay4
  pointwise

/-- The three taps of sentence `j` brought together at row `l`: the first comes from the row before, the third from the row after. -/
theorem convPay_at (j : Fin 8) (y0 y1 y2 : FVec Ideal S4096x256 .f32) (b : Vec Ideal S1x256 .f32) (l : Fin 512) (f : Fin 256) :
    convPay (F := Ideal) j y0 y1 y2 b (ix2 l f)
      = max ((((if h : l.val < 1 then (0 : EReal) else y0 (ix2 ⟨512 * j.val + (l.val - 1), by omega⟩ f)) + y1 (ix2 ⟨512 * j.val + l.val, by omega⟩ f))
          + if h : l.val < 511 then y2 (ix2 ⟨512 * j.val + 1 + l.val, by omega⟩ f) else (0 : EReal)) + b (ix2 0 f)) 0 := by
  unfold convPay k1_pay8
  pointwise

variable (m : (ℓ : Loc nD τ sig) → Buf (Elt Ideal) ℓ) (c : Dev nD)

/-- The sentences as the second call is given them, -/
theorem v5_at (s : Fin 64) (l : Fin 512) (d : Fin 300) : (V7 m c main_v5 : FVec Ideal S64x512x300 .f32) (ix3 s l d)
    = (m ((c : Thread nD τ).loc main_arg0) : FVec Ideal S64x1x512x300 .f32) (ix4 s 0 l d) := by
  have e : (V7 m c main_v5 : FVec Ideal S64x512x300 .f32) = middle (W2 m c) main_v5 := rfl
  rw [e]
  unfold middle
  after_reads_at
  pointwise
  exact congrFun (W2_arg m c main_arg0 (by decide)) _

/-- the filters, the taps first, -/
theorem v20_at (k : Fin 3) (d : Fin 300) (f : Fin 256) : (V7 m c main_v20 : FVec Ideal S3x300x256 .f32) (ix3 k d f)
    = (m ((c : Thread nD τ).loc main_arg3) : FVec Ideal S256x1x3x300 .f32) (ix4 f 0 k d) := by
  have e : (V7 m c main_v20 : FVec Ideal S3x300x256 .f32) = middle (W2 m c) main_v20 := rfl
  rw [e]
  unfold middle
  after_reads_at
  pointwise
  exact congrFun (W2_arg m c main_arg3 (by decide)) _

/-- and the filters' biases. -/
theorem v21_at (u : Fin 1) (f : Fin 256) : (V7 m c main_v21 : FVec Ideal S1x256 .f32) (ix2 u f)
    = (m ((c : Thread nD τ).loc main_arg4) : FVec Ideal S256 .f32) (ix1 f) := by
  have e : (V7 m c main_v21 : FVec Ideal S1x256 .f32) = middle (W2 m c) main_v21 := rfl
  rw [e]
  unfold middle
  after_reads_at
  pointwise
  exact congrFun (W2_arg m c main_arg4 (by decide)) _

/-- The eight sentences of point `t`, -/
abbrev given (t : Fin cfg1.N) : FVec Ideal S8x512x300 .f32 := iblk1 (V7 m) c 3 t
/-- the filters -/
abbrev filters (t : Fin cfg1.N) : FVec Ideal S3x300x256 .f32 := iblk1 (V7 m) c 4 t
/-- and their biases. -/
abbrev offsets (t : Fin cfg1.N) : FVec Ideal S1x256 .f32 := iblk1 (V7 m) c 5 t

/-- A tap taken from the blocks of point `t`, at row `r` of its eight sentences: it is the tap at row `l` of sentence `s`. -/
theorem block_tap (t : Fin cfg1.N) (k : Fin 3) (r : Fin 4096) (j : Fin 8) (l : Fin 512) (s : Fin 64) (f : Fin 256) (hr : r.val = 512 * j.val + l.val) (hs : s.val = min t.val 7 * 8 + j.val) :
    (∑ d : Fin 300, given m c t (ix3 ⟨r.val / 512, by omega⟩ ⟨r.val % 512, by omega⟩ d) * filters m c t (ix3 k d f))
      = Spec.tap (m ((c : Thread nD τ).loc main_arg0)) (m ((c : Thread nD τ).loc main_arg3)) k s l f := by
  have e1 : (⟨r.val / 512, by omega⟩ : Fin 8) = j := Fin.ext (by dsimp only; omega)
  have e2 : (⟨r.val % 512, by omega⟩ : Fin 512) = l := Fin.ext (by dsimp only; omega)
  have e3 : (⟨min t.val 7 * 8 + j.val, by omega⟩ : Fin 64) = s := Fin.ext hs.symm
  rw [e1, e2, ← e3]
  exact Finset.sum_congr rfl fun d _ =>
    congrArg₂ (fun x y : EReal => x * y) ((iblk1_3 (V7 m) c t j l d).trans (v5_at m c _ l d)) ((iblk1_4 (V7 m) c t k d f).trans (v20_at m c k d f))

/-- Sentence `j` of point `t` has the features of sentence `s`. -/
theorem block_feature (t : Fin cfg1.N) (j : Fin 8) (l : Fin 512) (s : Fin 64) (f : Fin 256) (hs : s.val = min t.val 7 * 8 + j.val) :
    sentence (F := Ideal) (given m c t) (filters m c t) (offsets m c t) j (ix2 l f)
      = Spec.feature (m ((c : Thread nD τ).loc main_arg0)) (m ((c : Thread nD τ).loc main_arg3)) (m ((c : Thread nD τ).loc main_arg4)) s l f := by
  have e5 : offsets m c t (ix2 0 f) = (m ((c : Thread nD τ).loc main_arg4) : FVec Ideal S256 .f32) (ix1 f) :=
    (iblk1_5 (V7 m) c t 0 f).trans (v21_at m c 0 f)
  unfold sentence Spec.feature
  rw [convPay_at, e5, pay6_at, block_tap m c t 1 _ j l s f rfl hs]
  congr 2
  congr 1
  · congr 1
    split
    · rfl
    · next h => rw [pay5_at, block_tap m c t 0 _ j ⟨l.val - 1, by omega⟩ s f rfl hs]
  · split
    · next h => rw [pay7_at, block_tap m c t 2 _ j ⟨l.val + 1, by omega⟩ s f (by dsimp only; omega) hs]
    · rfl

/-- Row `r` of the feature buffer has the features of row `r % 512` of sentence `r / 512`. -/
theorem feats_at (r : Fin 32768) (f : Fin 256) : feats (V7 m) c (ix2 r f)
    = Spec.feature (m ((c : Thread nD τ).loc main_arg0)) (m ((c : Thread nD τ).loc main_arg3)) (m ((c : Thread nD τ).loc main_arg4)) ⟨r.val / 512, by omega⟩ ⟨r.val % 512, by omega⟩ f :=
  block_feature m c (writer r) ⟨r.val / 512 % 8, Nat.mod_lt _ (by omega)⟩ ⟨r.val % 512, Nat.mod_lt _ (by omega)⟩ ⟨r.val / 512, by omega⟩ f
    (show r.val / 512 = min (r.val / 4096) 7 * 8 + r.val / 512 % 8 by omega)

end Cert.KernelIdeal.Run
-- ==== Proof.Algebra.lean ====
/- The laws by which the two programs agree: the pooled maximum over a window, and the two layers of a head folded into one. -/
module

public import proofs.«01_k».proof.Proof.Spec

@[expose] public section

set_option maxRecDepth 16384

noncomputable section

namespace Cert.Spec

open Idealize.ShloMosaic Idealize.ShloMosaic.Pointwise

/-- An extended real that is a real number. -/
def Real (x : EReal) : Prop := ∃ r : ℝ, x = (r : EReal)

/-- A sum of two real numbers is real, -/
theorem Real.add {x y : EReal} (hx : Real x) (hy : Real y) : Real (x + y) := by
  obtain ⟨a, rfl⟩ := hx
  obtain ⟨b, rfl⟩ := hy
  exact ⟨a + b, (EReal.coe_add a b).symm⟩

/-- so is a product, -/
theorem Real.mul {x y : EReal} (hx : Real x) (hy : Real y) : Real (x * y) := by
  obtain ⟨a, rfl⟩ := hx
  obtain ⟨b, rfl⟩ := hy
  exact ⟨a * b, (EReal.coe_mul a b).symm⟩

/-- so is zero, -/
theorem Real.zero : Real 0 := ⟨0, rfl⟩

/-- and so is the greater of two. -/
theorem Real.max {x y : EReal} (hx : Real x) (hy : Real y) : Real (max x y) := by
  rcases max_choice x y with h | h <;> rw [h] <;> assumption

/-- A sum of real numbers, taken in the extended reals, is their sum. -/
theorem coe_sum {ι : Type} [Fintype ι] (f : ι → ℝ) : (∑ i, (f i : EReal)) = ((∑ i, f i : ℝ) : EReal) :=
  (map_sum (⟨⟨Real.toEReal, EReal.coe_zero⟩, EReal.coe_add⟩ : ℝ →+ EReal) f Finset.univ).symm

/-- A finite sum of real numbers is real. -/
theorem Real.sum {ι : Type} [Fintype ι] {f : ι → EReal} (h : ∀ i, Real (f i)) : Real (∑ i, f i) := by
  choose g hg using h
  exact ⟨∑ i, g i, by rw [← coe_sum]; exact Finset.sum_congr rfl fun i _ => hg i⟩

/-! ## The features -/

section
variable (a0 : FVec Ideal ⟨4, ![64, 1, 512, 300]⟩ .f32) (a3 : FVec Ideal ⟨4, ![256, 1, 3, 300]⟩ .f32) (a4 : FVec Ideal ⟨1, ![256]⟩ .f32) (s : Fin 64) (l : Fin 512) (f : Fin 256)

/-- No feature is below zero. -/
theorem feature_nonneg : 0 ≤ feature a0 a3 a4 s l f := le_max_right _ _

/-- The features of finite arrays are real numbers. -/
theorem feature_real (h0 : ∀ i, Real (a0 i)) (h3 : ∀ i, Real (a3 i)) (h4 : ∀ i, Real (a4 i)) : Real (feature a0 a3 a4 s l f) := by
  have t (k : Fin 3) (l : Fin 512) : Real (tap a0 a3 k s l f) := Real.sum fun d => (h0 _).mul (h3 _)
  unfold feature
  refine Real.max (Real.add (Real.add (Real.add ?_ (t _ _)) ?_) (h4 _)) Real.zero
  · split
    · exact Real.zero
    · exact t _ _
  · split
    · exact t _ _
    · exact Real.zero
end

/-! ## The pooled maximum -/

/-- Each value of the span is at most the greatest. -/
theorem le_greatest (s e : ℕ) (g : Fin 512 → EReal) (l : Fin 512) (h : s ≤ l.val ∧ l.val < e) : g l ≤ greatest s e g :=
  (Finset.le_fold_max (g l)).2 (Or.inr ⟨l, Finset.mem_univ l, by rw [if_pos h]⟩)

/-- The greatest of real numbers over a span that is not empty is a real number. -/
theorem greatest_real (s e : ℕ) (g : Fin 512 → EReal) (hs : s < e) (he : e ≤ 512) (hg : ∀ l, Real (g l)) : Real (greatest s e g) := by
  have lo : greatest s e g ≠ ⊥ := fun h => by
    have := le_greatest s e g ⟨s, by omega⟩ ⟨le_refl s, hs⟩
    obtain ⟨r, hr⟩ := hg ⟨s, by omega⟩
    rw [h, hr] at this
    simp at this
  have hi : greatest s e g < ⊤ := (Finset.fold_max_lt _).2 ⟨bot_lt_top, fun l _ => by
    split
    · obtain ⟨r, hr⟩ := hg l
      rw [hr]
      exact EReal.coe_lt_top r
    · exact bot_lt_top⟩
  exact ⟨(greatest s e g).toReal, (EReal.coe_toReal hi.ne lo).symm⟩

/-- The greatest over a span is the greatest over forty rows from row `b` on that have the span in them, when the rows off the span count as
    something not above zero and no value is below zero. -/
theorem greatest_window (s e b : ℕ) (g : Fin 512 → EReal) (z : EReal) (hb : b ≤ s) (hs : s < e) (he : e ≤ b + 40) (hr : b + 40 ≤ 512) (hg : ∀ l, 0 ≤ g l) (hz : z ≤ 0) :
    (Finset.univ : Finset (Fin 40)).fold max ⊥ (fun k => if s - b ≤ k.val ∧ k.val < s - b + (e - s) then g ⟨b + k.val, by omega⟩ else z) = greatest s e g := by
  refine le_antisymm ((Finset.fold_max_le _).2 ⟨bot_le, fun k _ => ?_⟩) ((Finset.fold_max_le _).2 ⟨bot_le, fun l _ => ?_⟩)
  · split
    · exact le_greatest s e g _ (by dsimp only; omega)
    · exact (hz.trans (hg _)).trans (le_greatest s e g ⟨s, by omega⟩ ⟨le_refl s, hs⟩)
  · split
    · refine (Finset.le_fold_max _).2 (Or.inr ⟨⟨l.val - b, by omega⟩, Finset.mem_univ _, ?_⟩)
      rw [if_pos (by dsimp only; omega)]
      exact le_of_eq (congrArg g (Fin.ext (by dsimp only; omega)))
    · exact bot_le

/-! ## The folded layers -/

/-- Two layers folded into one, over the reals: the weights of the eight inputs that carry the same feature are added, then multiplied into the
    second layer. -/
theorem fold_reals (p : Fin 256 → ℝ) (w : Fin 2048 → Fin 2048 → ℝ) (v : Fin 2048 → ℝ) :
    (∑ f : Fin 256, p f * ∑ x : Fin 2048, (if x.val / 8 = f.val then (1 : ℝ) else 0) * ∑ k, w x k * v k)
      = ∑ k, (∑ x : Fin 2048, p ⟨x.val / 8, by omega⟩ * w x k) * v k := by
  have e (x : Fin 2048) : (∑ f : Fin 256, p f * ((if x.val / 8 = f.val then (1 : ℝ) else 0) * ∑ k, w x k * v k)) = p ⟨x.val / 8, by omega⟩ * ∑ k, w x k * v k := by
    rw [Finset.sum_eq_single (⟨x.val / 8, by omega⟩ : Fin 256)]
    · rw [if_pos rfl, one_mul]
    · intro f _ hf
      rw [if_neg (fun h => hf (Fin.ext h.symm)), zero_mul, mul_zero]
    · exact fun h => absurd (Finset.mem_univ _) h
  simp only [Finset.mul_sum] at e ⊢
  rw [Finset.sum_comm]
  simp only [e, Finset.sum_mul]
  rw [Finset.sum_comm]
  exact Finset.sum_congr rfl fun k _ => Finset.sum_congr rfl fun x _ => (mul_assoc _ _ _).symm

/-- A real factor distributes over the sum of a real number and any extended real. -/
theorem add_mul_coe (a v : ℝ) (b : EReal) : ((a : EReal) + b) * (v : EReal) = (a : EReal) * (v : EReal) + b * (v : EReal) := by
  induction b with
  | coe b => norm_cast; ring
  | top =>
    rcases lt_trichotomy v 0 with h | rfl | h
    · rw [EReal.coe_add_top, EReal.top_mul_coe_of_neg h, EReal.add_bot]
    · simp
    · rw [EReal.coe_add_top, EReal.top_mul_coe_of_pos h, ← EReal.coe_mul, EReal.coe_add_top]
  | bot =>
    rcases lt_trichotomy v 0 with h | rfl | h
    · rw [EReal.add_bot, EReal.bot_mul_coe_of_neg h, ← EReal.coe_mul, EReal.coe_add_top]
    · simp
    · rw [EReal.add_bot, EReal.bot_mul_coe_of_pos h, EReal.add_bot]

/-- The two layers folded into one over the extended reals, where everything but the biases is a real number. -/
theorem fold_layers (p : Fin 256 → EReal) (w : Fin 2048 → Fin 2048 → EReal) (b v : Fin 2048 → EReal) (d : EReal) (hp : ∀ f, Real (p f)) (hw : ∀ x k, Real (w x k))
    (hv : ∀ k, Real (v k)) :
    (∑ f : Fin 256, p f * ∑ x : Fin 2048, (if x.val / 8 = f.val then (1 : EReal) else 0) * ∑ k, w x k * v k) + ((∑ k, b k * v k) + d)
      = (∑ k, ((∑ x : Fin 2048, p ⟨x.val / 8, by omega⟩ * w x k) + b k) * v k) + d := by
  choose p' hp using hp
  choose w' hw using hw
  choose v' hv using hv
  have one (x : Fin 2048) (f : Fin 256) : (if x.val / 8 = f.val then (1 : EReal) else 0) = ((if x.val / 8 = f.val then (1 : ℝ) else 0 : ℝ) : EReal) := by
    split <;> rfl
  rw [← add_assoc]
  simp only [hp, hw, hv, one, ← EReal.coe_mul, coe_sum, add_mul_coe, Finset.sum_add_distrib]
  rw [fold_reals]

/-! ## The results -/

/-- The pooled value of feature `f` for region `n`. -/
def best (a0 : FVec Ideal ⟨4, ![64, 1, 512, 300]⟩ .f32) (a1 : IVec ⟨2, ![2048, 2]⟩ 32) (a2 : IVec ⟨1, ![2048]⟩ 32) (a3 : FVec Ideal ⟨4, ![256, 1, 3, 300]⟩ .f32) (a4 : FVec Ideal ⟨1, ![256]⟩ .f32)
    (h : Drawn.Tests a1 a2) (n : Fin 2048) (f : Fin 256) : EReal :=
  greatest (a1 (ix2 n 0)).toNat (a1 (ix2 n 1)).toNat fun l => feature a0 a3 a4 ⟨(a2 (ix1 n)).toNat, (h n).row_lt⟩ l f

/-- Equal arrays have equal pooled values. -/
theorem best_congr {a0 b0 : FVec Ideal ⟨4, ![64, 1, 512, 300]⟩ .f32} {a1 b1 : IVec ⟨2, ![2048, 2]⟩ 32} {a2 b2 : IVec ⟨1, ![2048]⟩ 32} {a3 b3 : FVec Ideal ⟨4, ![256, 1, 3, 300]⟩ .f32}
    {a4 b4 : FVec Ideal ⟨1, ![256]⟩ .f32} (e0 : a0 = b0) (e1 : a1 = b1) (e2 : a2 = b2) (e3 : a3 = b3) (e4 : a4 = b4) (h : Drawn.Tests a1 a2) (h' : Drawn.Tests b1 b2) (n : Fin 2048) :
    best a0 a1 a2 a3 a4 h n = best b0 b1 b2 b3 b4 h' n := by
  subst e0 e1 e2 e3 e4
  rfl

/-- The pooled values of finite arrays are real numbers. -/
theorem best_real (a0 : FVec Ideal ⟨4, ![64, 1, 512, 300]⟩ .f32) (a1 : IVec ⟨2, ![2048, 2]⟩ 32) (a2 : IVec ⟨1, ![2048]⟩ 32) (a3 : FVec Ideal ⟨4, ![256, 1, 3, 300]⟩ .f32) (a4 : FVec Ideal ⟨1, ![256]⟩ .f32)
    (h : Drawn.Tests a1 a2) (h0 : ∀ i, Real (a0 i)) (h3 : ∀ i, Real (a3 i)) (h4 : ∀ i, Real (a4 i)) (n : Fin 2048) (f : Fin 256) : Real (best a0 a1 a2 a3 a4 h n f) := by
  have h1 := (h n).start_lt
  have h2 := (h n).lt_end
  have h5 := (h n).end_le
  exact greatest_real _ _ _ (by omega) (by omega) fun l => feature_real a0 a3 a4 _ l f h0 h3 h4

/-- A head: two layers on a row of 256 pooled values, each given eight times; element `o`. -/
def head {n : ℕ} (p : Fin 256 → EReal) (w : FVec Ideal ⟨2, ![2048, 2048]⟩ .f32) (b : FVec Ideal ⟨1, ![2048]⟩ .f32) (v : FVec Ideal ⟨2, ![2048, n]⟩ .f32) (d : FVec Ideal ⟨1, ![n]⟩ .f32) (o : Fin n) : EReal :=
  (∑ k : Fin 2048, ((∑ x : Fin 2048, p ⟨x.val / 8, by omega⟩ * w (ix2 x k)) + b (ix1 k)) * v (ix2 k o)) + d (ix1 o)

/-- Equal arrays have equal heads. -/
theorem head_congr {n : ℕ} {p p' : Fin 256 → EReal} {w w' : FVec Ideal ⟨2, ![2048, 2048]⟩ .f32} {b b' : FVec Ideal ⟨1, ![2048]⟩ .f32} {v v' : FVec Ideal ⟨2, ![2048, n]⟩ .f32} {d d' : FVec Ideal ⟨1, ![n]⟩ .f32}
    (ep : p = p') (ew : w = w') (eb : b = b') (ev : v = v') (ed : d = d') (o : Fin n) : head p w b v d o = head p' w' b' v' d' o := by
  subst ep ew eb ev ed
  rfl

end Cert.Spec
-- ==== Proof.Ideal.PoolValue.lean ====
/- The pooled maxima that the second call takes from its feature buffer. -/
module

public import proofs.«01_k».proof.Proof.Ideal.FeatValue
public import proofs.«01_k».proof.Proof.Algebra

@[expose] public section

set_option maxRecDepth 16384

noncomputable section

namespace Cert.KernelIdeal.Run

open Idealize.ShloMosaic Idealize.ShloMosaic.TcCoe Idealize.ShloMosaic.Pointwise
open Cert.KernelIdeal.Gen

/-- The pooled row: the greatest of forty rows, those off the span counting as a large negative number. -/
theorem pay22_at (x : Vec Ideal S40x256 .bf16) (o d : BitVec 32) (u : Fin 1) (f : Fin 256) : k1_pay22 (F := Ideal) x o d (ix2 u f)
    = Finset.univ.fold max (Ideal.ofBits .f32 4286578688#32 : EReal) (fun k : Fin 40 =>
        Scalar.select (IntOp.andi (IntOp.cmpi .sge (BitVec.ofNat 32 k.val) o) (IntOp.cmpi .slt (BitVec.ofNat 32 k.val) (Scalar.addi o d))) (x (ix2 k f) : EReal) (Ideal.ofBits .f32 4048155338#32)) := by
  unfold k1_pay22
  pointwise

variable (m : (ℓ : Loc nD τ sig) → Buf (Elt Ideal) ℓ) (c : Dev nD)

/-- The tables at point `t`: the windows' first rows, -/
abbrev firsts (t : Fin cfg1.N) : IVec S2048 32 := iblk1 (V7 m) c 0 t
/-- the spans' places in them -/
abbrev places (t : Fin cfg1.N) : IVec S2048 32 := iblk1 (V7 m) c 1 t
/-- and their lengths. -/
abbrev lengths (t : Fin cfg1.N) : IVec S2048 32 := iblk1 (V7 m) c 2 t

/-- The arguments that say where region `n` starts and ends, and in which sentence. -/
abbrev start (n : Fin 2048) : BitVec 32 := (m ((c : Thread nD τ).loc main_arg1) : IVec S2048x2 32) (ix2 n 0)
/-- Where it ends, -/
abbrev stop (n : Fin 2048) : BitVec 32 := (m ((c : Thread nD τ).loc main_arg1) : IVec S2048x2 32) (ix2 n 1)
/-- and its sentence. -/
abbrev line (n : Fin 2048) : BitVec 32 := (m ((c : Thread nD τ).loc main_arg2) : IVec S2048 32) (ix1 n)

/-- The pooled value of feature `f` for region `n`. -/
abbrev best (h : Drawn.Tests (m ((c : Thread nD τ).loc main_arg1)) (m ((c : Thread nD τ).loc main_arg2))) (n : Fin 2048) (f : Fin 256) : EReal :=
  Spec.best (m ((c : Thread nD τ).loc main_arg0)) (m ((c : Thread nD τ).loc main_arg1)) (m ((c : Thread nD τ).loc main_arg2)) (m ((c : Thread nD τ).loc main_arg3)) (m ((c : Thread nD τ).loc main_arg4)) h n f

/-- The second call pools that value. -/
theorem pooled_at (h : Drawn.Tests (m ((c : Thread nD τ).loc main_arg1)) (m ((c : Thread nD τ).loc main_arg2))) (t : Fin cfg1.N) (n : Fin 2048) (u : Fin 1) (f : Fin 256) :
    pooled (F := Ideal) (firsts m c t) (places m c t) (lengths m c t) (feats (V7 m) c) n.val (ix2 u f) = best m c h n f := by
  have hn : Drawn.Span (start m c n) (stop m c n) (line m c n) := h n
  have h1 := hn.start_lt
  have h2 := hn.lt_end
  have h3 := hn.end_le
  have h4 := hn.row_lt
  have en : (⟨n.val % 2048, Nat.mod_lt _ (by omega)⟩ : Fin 2048) = n := Fin.ext (Nat.mod_eq_of_lt n.isLt)
  have w0 : word (F := Ideal) (firsts m c t) n.val = line m c n * 512#32 + Drawn.base (start m c n) := by
    unfold word
    rw [en]
    refine ((iblk1_0 (V7 m) c t n).trans (rbase_at (W2 m c) n)).trans ?_
    rw [rowOf_W2, spans_W2]
  have w1 : word (F := Ideal) (places m c t) n.val = start m c n - Drawn.base (start m c n) := by
    unfold word
    rw [en]
    refine ((iblk1_1 (V7 m) c t n).trans (off_at (W2 m c) n)).trans ?_
    rw [spans_W2]
  have w2 : word (F := Ideal) (lengths m c t) n.val = stop m c n - start m c n := by
    unfold word
    rw [en]
    refine ((iblk1_2 (V7 m) c t n).trans (width_at (W2 m c) n)).trans ?_
    rw [spans_W2]
  have base := Drawn.base_eq (start m c n) h1
  have v0 := rbase_ok _ _ _ hn
  have v1 : (start m c n - Drawn.base (start m c n)).toNat = (start m c n).toNat - min ((start m c n).toNat / 8 * 8) 472 := by
    rw [base, BitVec.toNat_sub, BitVec.toNat_ofNat]
    omega
  have v2 : (Scalar.addi (start m c n - Drawn.base (start m c n)) (stop m c n - start m c n)).toNat
      = (start m c n).toNat - min ((start m c n).toNat / 8 * 8) 472 + ((stop m c n).toNat - (start m c n).toNat) := by
    show ((start m c n - Drawn.base (start m c n)) + (stop m c n - start m c n)).toNat = _
    rw [BitVec.toNat_add, v1, BitVec.toNat_sub]
    omega
  have bot : Ideal.ofBits FTy.f32 4286578688#32 = (⊥ : EReal) := by simp [Ideal.ofBits, Ideal.ieee]
  have neg : Ideal.ofBits FTy.f32 4048155338#32 ≤ (0 : EReal) := by
    simp [Ideal.ofBits, Ideal.ieee]
    norm_cast
  unfold pooled
  show _ = Spec.greatest (start m c n).toNat (stop m c n).toNat fun l =>
    Spec.feature (m ((c : Thread nD τ).loc main_arg0)) (m ((c : Thread nD τ).loc main_arg3)) (m ((c : Thread nD τ).loc main_arg4)) ⟨(line m c n).toNat, h4⟩ l f
  rw [w0, w1, w2, v0, pay22_at, bot]
  refine Eq.trans ?_ (Spec.greatest_window _ _ (min ((start m c n).toNat / 8 * 8) 472) _ _ (by omega) (by omega) (by omega) (by omega) (fun l => Spec.feature_nonneg _ _ _ _ l f) neg)
  congr 1
  funext k
  rw [Spec.inside _ _ _ (by omega) (by omega) (by rw [BitVec.toNat_ofNat]; omega), v1, v2, BitVec.toNat_ofNat, Nat.mod_eq_of_lt (show k.val < 2 ^ 32 by omega)]
  congr 1
  have e0 : ((line m c n).toNat * 512 + min ((start m c n).toNat / 8 * 8) 472 + k.val) % 32768 = (line m c n).toNat * 512 + min ((start m c n).toNat / 8 * 8) 472 + k.val :=
    Nat.mod_eq_of_lt (by omega)
  refine (feats_at m c ⟨((line m c n).toNat * 512 + min ((start m c n).toNat / 8 * 8) 472 + k.val) % 32768, Nat.mod_lt _ (by omega)⟩ f).trans ?_
  congr 1
  · exact Fin.ext (by dsimp only; omega)
  · exact Fin.ext (by dsimp only; omega)

end Cert.KernelIdeal.Run
-- ==== Proof.Ideal.FoldValue.lean ====
/- What the first call leaves in its two result arrays, at the extended reals: the heads' layers multiplied out, each group of eight rows added up, and the biases. -/
module

public import proofs.«01_k».proof.Proof.Ideal.Launch
public import Idealize.ShloMosaic.Lib.Pipeline.ValueKit
public import Idealize.ShloMosaic.Lib.StableHlo.ReadAt
public import Idealize.ShloMosaic.Lib.Pointwise

@[expose] public section

set_option maxRecDepth 16384

noncomputable section

namespace Cert.KernelIdeal.Run

open Idealize.ShloMosaic Idealize.ShloMosaic.TcCoe Idealize.ShloMosaic.Pointwise
open Cert.KernelIdeal.Gen

/-- The word that says which filter a row of the heads belongs to: its number over eight, as the kernel computes it. -/
theorem group_word : ∀ x : Fin 2048, Scalar.select
    (IntOp.andi (IntOp.cmpi CmpIPredicate.ne (IntOp.subi (BitVec.setWidth 32 (IntOp.cmpi CmpIPredicate.sgt (BitVec.ofNat 32 x.val) 0#32))
          (BitVec.setWidth 32 (IntOp.cmpi CmpIPredicate.slt (BitVec.ofNat 32 x.val) 0#32)))
        (Scalar.subi (Scalar.extui (Scalar.cmpi CmpIPredicate.sgt 8#32 0#32)) (Scalar.extui (Scalar.cmpi CmpIPredicate.slt 8#32 0#32))))
      (IntOp.cmpi CmpIPredicate.ne (IntOp.remsi ArithUnit.vector (BitVec.ofNat 32 x.val) 8#32) 0#32))
    (IntOp.subi (IntOp.divsi ArithUnit.vector (BitVec.ofNat 32 x.val) 8#32) 1#32)
    (IntOp.divsi ArithUnit.vector (BitVec.ofNat 32 x.val) 8#32) = BitVec.ofNat 32 (x.val / 8) := by
  decide +kernel

/-- The entry of the matrix that adds up groups: one where the row is of the filter's group, and zero elsewhere. -/
theorem group_entry (x : Fin 2048) (f : Fin 256) :
    (FloatOps.sitofp FTy.f32 (BitVec.setWidth 32 (IntOp.cmpi CmpIPredicate.eq (BitVec.ofNat 32 (x.val / 8)) (BitVec.ofNat 32 f.val))) : Ideal .f32)
      = (if x.val / 8 = f.val then (1 : EReal) else 0) := by
  have e : (BitVec.ofNat 32 (x.val / 8) = BitVec.ofNat 32 f.val) ↔ x.val / 8 = f.val := by
    constructor
    · intro h
      have := congrArg BitVec.toNat h
      rw [BitVec.toNat_ofNat, BitVec.toNat_ofNat] at this
      omega
    · intro h; rw [h]
  by_cases h : x.val / 8 = f.val
  · rw [if_pos h, h]
    simp [IntOp.cmpi, FloatOps.sitofp]
  · rw [if_neg h]
    have n : ¬ BitVec.ofNat 32 (x.val / 8) = BitVec.ofNat 32 f.val := fun k => h (e.mp k)
    have z : (BitVec.ofNat 32 (x.val / 8) == BitVec.ofNat 32 f.val) = false := beq_false_of_ne n
    simp [IntOp.cmpi, FloatOps.sitofp, z]

/-- One folded weight: of filter `f` and column `o` of a head with the layers `w` and `v`. -/
def folded {n : ℕ} (w : FVec Ideal ⟨2, ![2048, 2048]⟩ .f32) (v : FVec Ideal ⟨2, ![2048, n]⟩ .f32) (f : Fin 256) (o : Fin n) : EReal :=
  ∑ x : Fin 2048, (if x.val / 8 = f.val then (1 : EReal) else 0) * ∑ k : Fin 2048, w (ix2 x k) * v (ix2 k o)

/-- One folded bias. -/
def foldedBias {n : ℕ} (b : FVec Ideal ⟨1, ![2048]⟩ .f32) (v : FVec Ideal ⟨2, ![2048, n]⟩ .f32) (d : FVec Ideal ⟨1, ![n]⟩ .f32) (o : Fin n) : EReal :=
  (∑ k : Fin 2048, b (ix1 k) * v (ix2 k o)) + d (ix1 o)

/-- The weights that the body computes: the first head's columns, then the second's. -/
theorem pay2_at (w1 : FVec Ideal S2048x2048 .f32) (wc : FVec Ideal S2048x19 .f32) (w2 : FVec Ideal S2048x2048 .f32) (wb : FVec Ideal S2048x38 .f32) (f : Fin 256) (o : Fin 57) :
    k0_pay2 (F := Ideal) w1 wc w2 wb (ix2 f o) = if h : o.val < 19 then folded w1 wc f ⟨o.val, h⟩ else folded w2 wb f ⟨o.val - 19, by omega⟩ := by
  unfold k0_pay2
  pointwise
  simp only [group_word, group_entry]
  rfl

/-- The biases that it computes. -/
theorem pay1_at (b1 : FVec Ideal S1x2048 .f32) (wc : FVec Ideal S2048x19 .f32) (bc : FVec Ideal S1x19 .f32) (b2 : FVec Ideal S1x2048 .f32) (wb : FVec Ideal S2048x38 .f32)
    (bb : FVec Ideal S1x38 .f32) (u : Fin 1) (o : Fin 57) :
    k0_pay1 (F := Ideal) b1 wc bc b2 wb bb (ix2 u o) = if h : o.val < 19 then foldedBias (fun k => b1 (ix2 0 (k 0))) wc (fun k => bc (ix2 0 (k 0))) ⟨o.val, h⟩
      else foldedBias (fun k => b2 (ix2 0 (k 0))) wb (fun k => bb (ix2 0 (k 0))) ⟨o.val - 19, by omega⟩ := by
  unfold k0_pay1
  pointwise
  rfl

/-- Every window of the first call is at its array's one block. -/
theorem index0 : ∀ t : Fin cfg0.N, (cfg0.win 0).index t = ![0, 0] ∧ (cfg0.win 1).index t = ![0, 0] ∧ (cfg0.win 2).index t = ![0, 0] ∧ (cfg0.win 3).index t = ![0, 0]
    ∧ (cfg0.win 4).index t = ![0, 0] ∧ (cfg0.win 5).index t = ![0, 0] ∧ (cfg0.win 6).index t = ![0, 0] ∧ (cfg0.win 7).index t = ![0, 0]
    ∧ (cfg0.win 8).index t = ![0, 0] ∧ (cfg0.win 9).index t = ![0, 0] := by
  decide +kernel

variable (m : (ℓ : Loc nD τ sig) → Buf (Elt Ideal) ℓ) (c : Dev nD) (t : Fin cfg0.N)

variable (V : (c : Dev nD) → (b : Ref sig .tc) → Buf (Elt Ideal) ((c : Thread nD τ).loc b))

/-- The blocks of the first call's inputs are its arrays. -/
theorem iblk0_0 : (iblk0 V c 0 t : FVec Ideal S2048x2048 .f32) = V c main_arg5 := funext fun y => by
  obtain ⟨e, -, -, -, -, -, -, -, -, -⟩ := index0 t
  idx_vars y
  blk_ext [iblk0, e]

/-- Block 1 of the first call is its whole array. -/
theorem iblk0_1 : (iblk0 V c 1 t : FVec Ideal S2048x19 .f32) = V c main_arg7 := funext fun y => by
  obtain ⟨-, e, -, -, -, -, -, -, -, -⟩ := index0 t
  idx_vars y
  blk_ext [iblk0, e]

/-- Block 2 of the first call is its whole array. -/
theorem iblk0_2 : (iblk0 V c 2 t : FVec Ideal S1x2048 .f32) = V c main_v0 := funext fun y => by
  obtain ⟨-, -, e, -, -, -, -, -, -, -⟩ := index0 t
  idx_vars y
  blk_ext [iblk0, e]

/-- Block 3 of the first call is its whole array. -/
theorem iblk0_3 : (iblk0 V c 3 t : FVec Ideal S1x19 .f32) = V c main_v1 := funext fun y => by
  obtain ⟨-, -, -, e, -, -, -, -, -, -⟩ := index0 t
  idx_vars y
  blk_ext [iblk0, e]

/-- Block 4 of the first call is its whole array. -/
theorem iblk0_4 : (iblk0 V c 4 t : FVec Ideal S2048x2048 .f32) = V c main_arg9 := funext fun y => by
  obtain ⟨-, -, -, -, e, -, -, -, -, -⟩ := index0 t
  idx_vars y
  blk_ext [iblk0, e]

/-- Block 5 of the first call is its whole array. -/
theorem iblk0_5 : (iblk0 V c 5 t : FVec Ideal S2048x38 .f32) = V c main_arg11 := funext fun y => by
  obtain ⟨-, -, -, -, -, e, -, -, -, -⟩ := index0 t
  idx_vars y
  blk_ext [iblk0, e]

/-- Block 6 of the first call is its whole array. -/
theorem iblk0_6 : (iblk0 V c 6 t : FVec Ideal S1x2048 .f32) = V c main_v2 := funext fun y => by
  obtain ⟨-, -, -, -, -, -, e, -, -, -⟩ := index0 t
  idx_vars y
  blk_ext [iblk0, e]

/-- Block 7 of the first call is its whole array. -/
theorem iblk0_7 : (iblk0 V c 7 t : FVec Ideal S1x38 .f32) = V c main_v3 := funext fun y => by
  obtain ⟨-, -, -, -, -, -, -, e, -, -⟩ := index0 t
  idx_vars y
  blk_ext [iblk0, e]

/-- The one point of the first call. -/
abbrev only : Fin cfg0.N := ⟨0, by decide⟩

/-- The two result arrays hold what that point stores. -/
theorem v4_0_eq : (W2 m c (Proc.devRef .tc main_v4_0) : FVec Ideal S256x57 .f32) = (dat0 (V1 m) c).after 8 only :=
  (W2_arr m c 8).trans ((dat0 (V1 m) c).arrAt_eq_of_after_last 8 only (by decide +kernel) _ fun j => rfl)

/-- and of the biases. -/
theorem v4_1_eq : (W2 m c (Proc.devRef .tc main_v4_1) : FVec Ideal S1x57 .f32) = (dat0 (V1 m) c).after 9 only :=
  (W2_arr m c 9).trans ((dat0 (V1 m) c).arrAt_eq_of_after_last 9 only (by decide +kernel) _ fun j => rfl)

/-- The host's reshapes before the first call: a row of biases is the vector. -/
theorem v0_at (k : Fin 2048) : (V1 m c main_v0 : FVec Ideal S1x2048 .f32) (ix2 0 k) = (m ((c : Thread nD τ).loc main_arg6) : FVec Ideal S2048 .f32) (ix1 k) := by
  unfold V1 W1
  after_reads_at

/-- The same of the first head's second bias, -/
theorem v1_at (k : Fin 19) : (V1 m c main_v1 : FVec Ideal S1x19 .f32) (ix2 0 k) = (m ((c : Thread nD τ).loc main_arg8) : FVec Ideal S19 .f32) (ix1 k) := by
  unfold V1 W1
  after_reads_at

/-- of the second head's first bias -/
theorem v2_at (k : Fin 2048) : (V1 m c main_v2 : FVec Ideal S1x2048 .f32) (ix2 0 k) = (m ((c : Thread nD τ).loc main_arg10) : FVec Ideal S2048 .f32) (ix1 k) := by
  unfold V1 W1
  after_reads_at

/-- and of its second. -/
theorem v3_at (k : Fin 38) : (V1 m c main_v3 : FVec Ideal S1x38 .f32) (ix2 0 k) = (m ((c : Thread nD τ).loc main_arg12) : FVec Ideal S38 .f32) (ix1 k) := by
  unfold V1 W1
  after_reads_at

/-- An argument is untouched when the first call starts. -/
theorem V1_arg (a : Ref sig .tc) (ha : a ∈ argRefs) : V1 m c a = m ((c : Thread nD τ).loc a) :=
  StableHlo.after_of_writes_sub hostOps0 _ hostOps0_writes (args_untouched a ha).1.1

/-- The folded weights that the second call reads. -/
theorem weights_at (f : Fin 256) (o : Fin 57) : (V7 m c main_v4_0 : FVec Ideal S256x57 .f32) (ix2 f o)
    = if h : o.val < 19 then folded (m ((c : Thread nD τ).loc main_arg5)) (m ((c : Thread nD τ).loc main_arg7)) f ⟨o.val, h⟩
      else folded (m ((c : Thread nD τ).loc main_arg9)) (m ((c : Thread nD τ).loc main_arg11)) f ⟨o.val - 19, by omega⟩ := by
  have e : (V7 m c main_v4_0 : FVec Ideal S256x57 .f32) = _ := (W7_of m c main_v4_0 (by decide)).trans ((v4_0_eq m c).trans (after0 (V1 m) c only).2.2.2.2.2.2.2.2.1)
  rw [e, iblk0_0 c only (V1 m), iblk0_1 c only (V1 m), iblk0_4 c only (V1 m), iblk0_5 c only (V1 m), V1_arg m c main_arg5 (by decide), V1_arg m c main_arg7 (by decide),
    V1_arg m c main_arg9 (by decide), V1_arg m c main_arg11 (by decide)]
  exact pay2_at _ _ _ _ f o

/-- The folded biases that it reads. -/
theorem biases_at (u : Fin 1) (o : Fin 57) : (V7 m c main_v4_1 : FVec Ideal S1x57 .f32) (ix2 u o)
    = if h : o.val < 19 then foldedBias (m ((c : Thread nD τ).loc main_arg6)) (m ((c : Thread nD τ).loc main_arg7)) (m ((c : Thread nD τ).loc main_arg8)) ⟨o.val, h⟩
      else foldedBias (m ((c : Thread nD τ).loc main_arg10)) (m ((c : Thread nD τ).loc main_arg11)) (m ((c : Thread nD τ).loc main_arg12)) ⟨o.val - 19, by omega⟩ := by
  have e : (V7 m c main_v4_1 : FVec Ideal S1x57 .f32) = _ := (W7_of m c main_v4_1 (by decide)).trans ((v4_1_eq m c).trans (after0 (V1 m) c only).2.2.2.2.2.2.2.2.2)
  rw [e, iblk0_1 c only (V1 m), iblk0_2 c only (V1 m), iblk0_3 c only (V1 m), iblk0_5 c only (V1 m), iblk0_6 c only (V1 m), iblk0_7 c only (V1 m), V1_arg m c main_arg7 (by decide),
    V1_arg m c main_arg11 (by decide)]
  refine (pay1_at _ _ _ _ _ _ u o).trans ?_
  have e0 : (fun k : S2048.Idx => (V1 m c main_v0 : FVec Ideal S1x2048 .f32) (ix2 0 (k 0))) = m ((c : Thread nD τ).loc main_arg6) := funext fun k => by idx_vars k; exact v0_at m c _
  have e1 : (fun k : S19.Idx => (V1 m c main_v1 : FVec Ideal S1x19 .f32) (ix2 0 (k 0))) = m ((c : Thread nD τ).loc main_arg8) := funext fun k => by idx_vars k; exact v1_at m c _
  have e2 : (fun k : S2048.Idx => (V1 m c main_v2 : FVec Ideal S1x2048 .f32) (ix2 0 (k 0))) = m ((c : Thread nD τ).loc main_arg10) := funext fun k => by idx_vars k; exact v2_at m c _
  have e3 : (fun k : S38.Idx => (V1 m c main_v3 : FVec Ideal S1x38 .f32) (ix2 0 (k 0))) = m ((c : Thread nD τ).loc main_arg12) := funext fun k => by idx_vars k; exact v3_at m c _
  rw [← e0, ← e1, ← e2, ← e3]

end Cert.KernelIdeal.Run
-- ==== Proof.Ideal.OutValue.lean ====
/- The two results of the kernel, element by element. -/
module

public import proofs.«01_k».proof.Proof.Ideal.PoolValue
public import proofs.«01_k».proof.Proof.Ideal.FoldValue

@[expose] public section

set_option maxRecDepth 16384

noncomputable section

namespace Cert.KernelIdeal.Run

open Idealize.ShloMosaic Idealize.ShloMosaic.TcCoe Idealize.ShloMosaic.Pointwise
open Cert.KernelIdeal.Gen

/-- The heads' product: a row of pooled values against the folded weights. -/
theorem heads_at (x : Vec Ideal S128x256 .f32) (w : Vec Ideal S256x57 .f32) (b : Vec Ideal S1x57 .f32) (n : Fin 128) (o : Fin 57) :
    k1_pay2 (F := Ideal) x w b (ix2 n o) = (∑ f : Fin 256, x (ix2 n f) * w (ix2 f o)) + (b (ix2 0 o) : EReal) := by
  unfold k1_pay2
  pointwise

variable (m : (ℓ : Loc nD τ sig) → Buf (Elt Ideal) ℓ) (c : Dev nD)
  (h : Drawn.Tests (m ((c : Thread nD τ).loc main_arg1)) (m ((c : Thread nD τ).loc main_arg2)))

/-- Column `o` of the two heads together, for region `n`. -/
def column (n : Fin 2048) (o : Fin 57) : EReal :=
  (∑ f : Fin 256, best m c h n f * (V7 m c main_v4_0 : FVec Ideal S256x57 .f32) (ix2 f o)) + (V7 m c main_v4_1 : FVec Ideal S1x57 .f32) (ix2 0 o)

/-- The points that write the second call's output back are those from eight on. -/
theorem flush_late : ∀ t : Fin cfg1.N, (cfg1.win 8).flush t = true → 8 ≤ t.val :=
  (by decide +kernel : ∀ t : Fin grid1.N, win1_8.flush t = true → 8 ≤ t.val)

/-- What point `t` leaves in the output's block. -/
theorem block_out (t : Fin cfg1.N) (ht : 8 ≤ t.val) (r : Fin 128) (o : Fin 57) (n : Fin 2048) (hn : (t.val - 8) * 128 + r.val = n.val) :
    ((dat1 (V7 m) c).after 8 t : FVec Ideal S128x57 .f32) (ix2 r o) = column m c h n o := by
  rw [(after1 (V7 m) c t).2.2.2.2.2.2.2.2]
  refine (heads_at _ _ _ r o).trans ?_
  unfold column
  refine congrArg₂ (fun x y : EReal => x + y) (Finset.sum_congr rfl fun f _ => congrArg₂ (fun x y : EReal => x * y) ?_ (iblk1_6 (V7 m) c t f o)) (iblk1_7 (V7 m) c t 0 o)
  show pooled (F := Ideal) (firsts m c t) (places m c t) (lengths m c t) (feats (V7 m) c) (((grid1.coords t 0).val - 8) * 128 + r.val) (ix2 0 f) = _
  rw [coord_val, hn]
  exact pooled_at m c h t n 0 f

/-- The rows of a block lie in the output. -/
theorem rows_fit (t : Fin cfg1.N) (r : Fin 128) : (t.val - 8) * 128 + r.val < 2048 := by
  have : t.val < 24 := lt_of_lt_of_le t.isLt (le_of_eq rfl)
  omega

/-- Where the block of point `t` lies in the output. -/
theorem read_out (G : FVec Ideal S2048x57 .f32) (t : Fin cfg1.N) (r : Fin 128) (o : Fin 57) :
    (((cfg1.win 8).blk t).view.read (Elt Ideal) G : FVec Ideal S128x57 .f32) (ix2 r o) = G (ix2 ⟨(t.val - 8) * 128 + r.val, rows_fit t r⟩ o) := by
  have e := (index1 t).2.2.2.2.2.2.2.2
  blk_ext [e]

/-- The second call's output. -/
theorem v22_at (n : Fin 2048) (o : Fin 57) : (W8 m c (Proc.devRef .tc main_v22) : FVec Ideal S2048x57 .f32) (ix2 n o) = column m c h n o := by
  have e : (W8 m c (Proc.devRef .tc main_v22) : FVec Ideal S2048x57 .f32) = fun y => column m c h (y 0) (y 1) := by
    refine (W8_arr m c 8).trans ((dat1 (V7 m) c).arrAt_eq_of_covers 8 _ (by decide +kernel) fun t hf y => ?_)
    have ht := flush_late t hf
    have e := (index1 t).2.2.2.2.2.2.2.2
    idx_vars y
    blk_simp [e]
    exact (block_out m c h t ht y0 y1 ⟨(t.val - 8) * 128 + y0.val, rows_fit t y0⟩ rfl).trans (read_out (fun y => column m c h (y 0) (y 1)) t y0 y1).symm
  rw [e]
  rfl

/-- The first result -/
theorem v23_at (n : Fin 2048) (o : Fin 19) : (W9 m c (Proc.devRef .tc main_v23) : FVec Ideal S2048x19 .f32) (ix2 n o) = column m c h n ⟨o.val, by omega⟩ := by
  refine Eq.trans ?_ (v22_at m c h n ⟨o.val, by omega⟩)
  after_reads_at

/-- and the second, a pair of columns for each class. -/
theorem v25_at (n : Fin 2048) (o : Fin 19) (p : Fin 2) : (W9 m c (Proc.devRef .tc main_v25) : FVec Ideal S2048x19x2 .f32) (ix3 n o p)
    = column m c h n ⟨19 + (o.val * 2 + p.val), by omega⟩ := by
  refine Eq.trans ?_ (v22_at m c h n ⟨19 + (o.val * 2 + p.val), by omega⟩)
  after_reads_at

/-- With finite arrays, the first nineteen columns are the first head -/
theorem column_first (hf : Drawn.Finite (m ((c : Thread nD τ).loc main_arg0)) (m ((c : Thread nD τ).loc main_arg3)) (m ((c : Thread nD τ).loc main_arg4)) (m ((c : Thread nD τ).loc main_arg5))
      (m ((c : Thread nD τ).loc main_arg7)) (m ((c : Thread nD τ).loc main_arg9)) (m ((c : Thread nD τ).loc main_arg11)))
    (n : Fin 2048) (o : Fin 19) : column m c h n ⟨o.val, by omega⟩
      = Spec.head (best m c h n) (m ((c : Thread nD τ).loc main_arg5)) (m ((c : Thread nD τ).loc main_arg6)) (m ((c : Thread nD τ).loc main_arg7)) (m ((c : Thread nD τ).loc main_arg8)) o := by
  unfold column Spec.head
  refine Eq.trans (congrArg₂ (fun x y : EReal => x + y) (Finset.sum_congr rfl fun f _ => congrArg (fun y : EReal => best m c h n f * y)
    ((weights_at m c f _).trans (dif_pos o.isLt))) ((biases_at m c 0 _).trans (dif_pos o.isLt))) ?_
  unfold folded foldedBias
  exact Spec.fold_layers (best m c h n) (fun x k => (m ((c : Thread nD τ).loc main_arg5) : FVec Ideal S2048x2048 .f32) (ix2 x k)) (fun k => (m ((c : Thread nD τ).loc main_arg6) : FVec Ideal S2048 .f32) (ix1 k))
    (fun k => (m ((c : Thread nD τ).loc main_arg7) : FVec Ideal S2048x19 .f32) (ix2 k o)) _ (Spec.best_real _ _ _ _ _ h hf.sentence hf.conv_w hf.conv_b n) (fun x k => hf.w1 _) (fun k => hf.wc _)

/-- and the others the second. -/
theorem column_second (hf : Drawn.Finite (m ((c : Thread nD τ).loc main_arg0)) (m ((c : Thread nD τ).loc main_arg3)) (m ((c : Thread nD τ).loc main_arg4)) (m ((c : Thread nD τ).loc main_arg5))
      (m ((c : Thread nD τ).loc main_arg7)) (m ((c : Thread nD τ).loc main_arg9)) (m ((c : Thread nD τ).loc main_arg11)))
    (n : Fin 2048) (o : Fin 38) : column m c h n ⟨19 + o.val, by omega⟩
      = Spec.head (best m c h n) (m ((c : Thread nD τ).loc main_arg9)) (m ((c : Thread nD τ).loc main_arg10)) (m ((c : Thread nD τ).loc main_arg11)) (m ((c : Thread nD τ).loc main_arg12)) o := by
  have e : (⟨19 + o.val - 19, by omega⟩ : Fin 38) = o := Fin.ext (by dsimp only; omega)
  unfold column Spec.head
  refine Eq.trans (congrArg₂ (fun x y : EReal => x + y) (Finset.sum_congr rfl fun f _ => congrArg (fun y : EReal => best m c h n f * y)
    ((weights_at m c f _).trans (dif_neg (show ¬ 19 + o.val < 19 by omega)))) ((biases_at m c 0 _).trans (dif_neg (show ¬ 19 + o.val < 19 by omega)))) ?_
  simp only [e]
  unfold folded foldedBias
  exact Spec.fold_layers (best m c h n) (fun x k => (m ((c : Thread nD τ).loc main_arg9) : FVec Ideal S2048x2048 .f32) (ix2 x k)) (fun k => (m ((c : Thread nD τ).loc main_arg10) : FVec Ideal S2048 .f32) (ix1 k))
    (fun k => (m ((c : Thread nD τ).loc main_arg11) : FVec Ideal S2048x38 .f32) (ix2 k o)) _ (Spec.best_real _ _ _ _ _ h hf.sentence hf.conv_w hf.conv_b n) (fun x k => hf.w2 _) (fun k => hf.wb _)

end Cert.KernelIdeal.Run
-- ==== Proof.Reference.lean ====
/- The reference's two results in parts, each read at an index. -/
module

public import proofs.«01_k».proof.Proof.Gen.ReferenceIdeal.Run
public import proofs.«01_k».proof.Proof.Algebra
public import Idealize.ShloMosaic.Lib.Pointwise

@[expose] public section

set_option maxRecDepth 16384

noncomputable section

namespace Cert.ReferenceIdeal.Value

open Idealize.ShloMosaic Idealize.ShloMosaic.TcCoe Idealize.ShloMosaic.Pointwise
open Cert.ReferenceIdeal Cert.ReferenceIdeal.Gen

/-! ## The parts -/

/-- The sentences with one row of zeros before and one after. -/
def padded (a0 : FVec Ideal S64x1x512x300 .f32) : FVec Ideal S64x514x300 .f32 :=
  pad S64x514x300 ![0, 1, 0] ![0, 1, 0] ![0, 0, 0] (shapeCast _ a0 shapeCasts_S64x1x512x300_S64x512x300) (sitofp .f32 (constantI S_ 32 0#32)) pads_S64x512x300_S64x514x300_000_110_000 h_S_

/-- One tap of the convolution: every sentence's rows times the filters. -/
def tap (w : FVec Ideal S256x1x1x300 .f32) (x : FVec Ideal S64x512x300 .f32) : FVec Ideal S64x256x512 .f32 :=
  transpose S64x256x512 [1, 0, 2] (Host.dotGeneral dot_S256x300_S64x512x300_S256x64x512_1_2_0_01_n_n none (shapeCast S256x300 w shapeCasts_S256x1x1x300_S256x300) x) transposes_S256x64x512_S64x256x512_1_0_2

/-- The zeros that the taps are added to. -/
def zeros : FVec Ideal S64x256x512 .f32 := broadcastInDim S64x256x512 ![] bcast_S_S64x256x512 (constant S_ .f32 0x00000000#32)

/-- The features. -/
def feat (a0 : FVec Ideal S64x1x512x300 .f32) (a3 : FVec Ideal S256x1x3x300 .f32) (a4 : FVec Ideal S256 .f32) : FVec Ideal S64x256x512 .f32 :=
  maximumf (addf (addf (addf (addf zeros
      (tap (extractStridedSlice S256x1x1x300 ![0, 0, 0, 0] a3 slices_S256x1x3x300_S256x1x1x300_0_0_0_0) (extractStridedSlice S64x512x300 ![0, 0, 0] (padded a0) slices_S64x514x300_S64x512x300_0_0_0)))
      (tap (extractStridedSlice S256x1x1x300 ![0, 0, 1, 0] a3 slices_S256x1x3x300_S256x1x1x300_0_0_1_0) (extractStridedSlice S64x512x300 ![0, 1, 0] (padded a0) slices_S64x514x300_S64x512x300_0_1_0)))
      (tap (extractStridedSlice S256x1x1x300 ![0, 0, 2, 0] a3 slices_S256x1x3x300_S256x1x1x300_0_0_2_0) (extractStridedSlice S64x512x300 ![0, 2, 0] (padded a0) slices_S64x514x300_S64x512x300_0_2_0)))
      (broadcastInDim S64x256x512 ![0, 1, 2] bcast_S1x256x1_S64x256x512_0_1_2 (broadcastInDim S1x256x1 ![1] bcast_S256_S1x256x1_1 a4))) zeros

/-- The numbers of the sentences, as the gather's indices. -/
def numbers (a2 : IVec S2048 32) : IVec S2048x1 32 :=
  broadcastInDim S2048x1 ![0] bcast_S2048_S2048x1_0 (select (cmpi .slt a2 (broadcastInDim S2048 ![] bcast_S_S2048 (constantI S_ 32 0#32)))
    (addi a2 (broadcastInDim S2048 ![] bcast_S_S2048 (constantI S_ 32 64#32))) a2)

/-- The rows of every region. -/
def rowsIn (a1 : IVec S2048x2 32) : IVec S2048x512 1 :=
  andi (cmpi .sge (broadcastInDim S2048x512 ![0, 1] bcast_S1x512_S2048x512_0_1 (broadcastInDim S1x512 ![1] bcast_S512_S1x512_1 (iotaInDim S512 32 0)))
      (broadcastInDim S2048x512 ![0, 1] bcast_S2048x1_S2048x512_0_1 (extractStridedSlice S2048x1 ![0, 0] a1 slices_S2048x2_S2048x1_0_0)))
    (cmpi .slt (broadcastInDim S2048x512 ![0, 1] bcast_S1x512_S2048x512_0_1 (broadcastInDim S1x512 ![1] bcast_S512_S1x512_1 (iotaInDim S512 32 0)))
      (broadcastInDim S2048x512 ![0, 1] bcast_S2048x1_S2048x512_0_1 (extractStridedSlice S2048x1 ![0, 1] a1 slices_S2048x2_S2048x1_0_1)))

/-- The maxima over the regions. -/
def pool (r : IVec S2048x512 1) (g : FVec Ideal S2048x256x512 .f32) : FVec Ideal S2048x256 .f32 :=
  Host.reduce FloatOps.maximumf (select (broadcastInDim S2048x256x512 ![0, 1, 2] bcast_S2048x1x512_S2048x256x512_0_1_2 (broadcastInDim S2048x1x512 ![0, 2] bcast_S2048x512_S2048x1x512_0_2 r)) g
    (broadcastInDim S2048x256x512 ![] bcast_S_S2048x256x512 (id (constant S_ .f32 0xFF800000#32)))) (constant S_ .f32 0xFF800000#32) reducesTo_S2048x256x512_S2048x256_d2 h_S_

/-- Each maximum eight times over. -/
def eightfold (p : FVec Ideal S2048x256 .f32) : FVec Ideal S2048x2048 .f32 :=
  shapeCast _ (broadcastInDim S2048x256x8 ![0, 1, 2] bcast_S2048x256x1_S2048x256x8_0_1_2 (broadcastInDim S2048x256x1 ![0, 1] bcast_S2048x256_S2048x256x1_0_1 p)) shapeCasts_S2048x256x8_S2048x2048

/-- A hidden layer. -/
def hidden (x w : FVec Ideal S2048x2048 .f32) (b : FVec Ideal S2048 .f32) : FVec Ideal S2048x2048 .f32 :=
  addf (Host.dotGeneral dot_S2048x2048_S2048x2048_S2048x2048_1_0_0_1_n_n none x w) (broadcastInDim S2048x2048 ![0, 1] bcast_S1x2048_S2048x2048_0_1 (broadcastInDim S1x2048 ![1] bcast_S2048_S1x2048_1 b))

/-- The first head's last layer, -/
def scores (x : FVec Ideal S2048x2048 .f32) (v : FVec Ideal S2048x19 .f32) (d : FVec Ideal S19 .f32) : FVec Ideal S2048x19 .f32 :=
  addf (Host.dotGeneral dot_S2048x2048_S2048x19_S2048x19_1_0_0_1_n_n none x v) (broadcastInDim S2048x19 ![0, 1] bcast_S1x19_S2048x19_0_1 (broadcastInDim S1x19 ![1] bcast_S19_S1x19_1 d))

/-- and the second's. -/
def boxes (x : FVec Ideal S2048x2048 .f32) (v : FVec Ideal S2048x38 .f32) (d : FVec Ideal S38 .f32) : FVec Ideal S2048x38 .f32 :=
  addf (Host.dotGeneral dot_S2048x2048_S2048x38_S2048x38_1_0_0_1_n_n none x v) (broadcastInDim S2048x38 ![0, 1] bcast_S1x38_S2048x38_0_1 (broadcastInDim S1x38 ![1] bcast_S38_S1x38_1 d))

variable (m : (ℓ : Loc nD τ sig) → Buf (Elt Ideal) ℓ) (c : Dev nD)

/-- What enters both heads. -/
def entering : FVec Ideal S2048x2048 .f32 :=
  eightfold (pool (rowsIn (m ((c : Thread nD τ).loc main_arg1)))
    (Host.gather gather_S64x256x512_S2048x1_S2048x256x512_12_0_n_n_0_1_1256512
      (feat (m ((c : Thread nD τ).loc main_arg0)) (m ((c : Thread nD τ).loc main_arg3)) (m ((c : Thread nD τ).loc main_arg4))) (numbers (m ((c : Thread nD τ).loc main_arg2)))))

/-- The first result is the first head, -/
theorem v57_eq : (res_main_v57 (F := Ideal) m c : FVec Ideal S2048x19 .f32) = scores (hidden (entering m c) (m ((c : Thread nD τ).loc main_arg5)) (m ((c : Thread nD τ).loc main_arg6)))
    (m ((c : Thread nD τ).loc main_arg7)) (m ((c : Thread nD τ).loc main_arg8)) := rfl

/-- and the second is the second head, two numbers to a class. -/
theorem v66_eq : (res_main_v66 (F := Ideal) m c : FVec Ideal S2048x19x2 .f32) = shapeCast _ (boxes (hidden (entering m c) (m ((c : Thread nD τ).loc main_arg9)) (m ((c : Thread nD τ).loc main_arg10)))
    (m ((c : Thread nD τ).loc main_arg11)) (m ((c : Thread nD τ).loc main_arg12))) shapeCasts_S2048x38_S2048x19x2 := rfl

/-! ## The parts at an index -/

/-- The padded sentences: nothing at either end, row `l - 1` of the sentence between. -/
theorem padded_at (a0 : FVec Ideal S64x1x512x300 .f32) (s : Fin 64) (l : Fin 514) (d : Fin 300) : padded a0 (ix3 s l d)
    = if h : 1 ≤ l.val ∧ l.val < 513 then a0 (ix4 s 0 ⟨l.val - 1, by omega⟩ d) else 0 := by
  unfold padded
  pointwise
  have z : (FloatOps.sitofp FTy.f32 0#32 : Ideal .f32) = (0 : EReal) := by simp [FloatOps.sitofp]
  rw [z]
  exact dite_congr (by apply propext; omega) (fun _ => rfl) fun _ => rfl

/-- One tap's product. -/
theorem tap_at (w : FVec Ideal S256x1x1x300 .f32) (x : FVec Ideal S64x512x300 .f32) (s : Fin 64) (f : Fin 256) (l : Fin 512) :
    tap w x (ix3 s f l) = ∑ d : Fin 300, w (ix4 f 0 0 d) * x (ix3 s l d) := by
  unfold tap
  pointwise

/-- The array of zeros. -/
theorem zeros_at (j : S64x256x512.Idx) : zeros j = 0 := by
  unfold zeros
  idx_vars j
  pointwise

/-- The sentence numbers, unchanged where they are in range. -/
theorem numbers_at (a2 : IVec S2048 32) (n : Fin 2048) (u : Fin 1) (h : (a2 (ix1 n)).toNat < 64) : numbers a2 (ix2 n u) = a2 (ix1 n) := by
  unfold numbers
  pointwise
  have z : IntOp.cmpi CmpIPredicate.slt (a2 (ix1 n)) 0#32 = 0#1 := by
    have := BitVec.toInt_eq_toNat_of_lt (x := a2 (ix1 n)) (by omega)
    have no : ¬ (a2 (ix1 n)).toInt < (0#32).toInt := by rw [this]; show ¬ ((a2 (ix1 n)).toNat : ℤ) < 0; omega
    show BitVec.ofBool (decide ((a2 (ix1 n)).toInt < (0#32).toInt)) = 0#1
    rw [decide_eq_false no]
    rfl
  rw [z]
  rfl

/-- Whether row `l` is in region `n`. -/
theorem rowsIn_at (a1 : IVec S2048x2 32) (n : Fin 2048) (l : Fin 512) : rowsIn a1 (ix2 n l)
    = IntOp.andi (IntOp.cmpi .sge (BitVec.ofNat 32 l.val) (a1 (ix2 n 0))) (IntOp.cmpi .slt (BitVec.ofNat 32 l.val) (a1 (ix2 n 1))) := by
  unfold rowsIn
  pointwise

/-- The maximum over the rows of a region. -/
theorem pool_at (r : IVec S2048x512 1) (g : FVec Ideal S2048x256x512 .f32) (n : Fin 2048) (f : Fin 256) : pool r g (ix2 n f)
    = Finset.univ.fold max (Ideal.ofBits FTy.f32 0xFF800000#32) fun l : Fin 512 => Scalar.select (r (ix2 n l)) (g (ix3 n f l)) (Ideal.ofBits FTy.f32 0xFF800000#32) := by
  unfold pool
  pointwise
  rfl

/-- Each pooled value is given eight times. -/
theorem eightfold_at (p : FVec Ideal S2048x256 .f32) (n x : Fin 2048) : eightfold p (ix2 n x) = p (ix2 n ⟨x.val / 8, by omega⟩) := by
  unfold eightfold
  pointwise

/-- The first layer of a head. -/
theorem hidden_at (x w : FVec Ideal S2048x2048 .f32) (b : FVec Ideal S2048 .f32) (n k : Fin 2048) : hidden x w b (ix2 n k) = (∑ r : Fin 2048, x (ix2 n r) * w (ix2 r k)) + b (ix1 k) := by
  unfold hidden
  pointwise

/-- The second layer of the first head -/
theorem scores_at (x : FVec Ideal S2048x2048 .f32) (v : FVec Ideal S2048x19 .f32) (d : FVec Ideal S19 .f32) (n : Fin 2048) (o : Fin 19) :
    scores x v d (ix2 n o) = (∑ k : Fin 2048, x (ix2 n k) * v (ix2 k o)) + d (ix1 o) := by
  unfold scores
  pointwise

/-- and of the second. -/
theorem boxes_at (x : FVec Ideal S2048x2048 .f32) (v : FVec Ideal S2048x38 .f32) (d : FVec Ideal S38 .f32) (n : Fin 2048) (o : Fin 38) :
    boxes x v d (ix2 n o) = (∑ k : Fin 2048, x (ix2 n k) * v (ix2 k o)) + d (ix1 o) := by
  unfold boxes
  pointwise

/-- The features are those of the specification. -/
theorem feat_at (a0 : FVec Ideal S64x1x512x300 .f32) (a3 : FVec Ideal S256x1x3x300 .f32) (a4 : FVec Ideal S256 .f32) (s : Fin 64) (f : Fin 256) (l : Fin 512) :
    feat a0 a3 a4 (ix3 s f l) = Spec.feature a0 a3 a4 s l f := by
  unfold feat
  pointwise
  simp only [tap_at, zeros_at]
  pointwise
  simp only [padded_at]
  unfold Spec.feature Spec.tap
  have t0 : (∑ x : Fin 300, a3 (ix4 f 0 0 x) * (if h : 1 ≤ l.val ∧ l.val < 513 then a0 (ix4 s 0 ⟨l.val - 1, by omega⟩ x) else (0 : EReal)))
      = if h : l.val < 1 then 0 else ∑ d : Fin 300, a0 (ix4 s 0 ⟨l.val - 1, by omega⟩ d) * a3 (ix4 f 0 0 d) := by
    by_cases h : l.val < 1
    · rw [dif_pos h]
      exact Finset.sum_eq_zero fun d _ => by rw [dif_neg (by omega), mul_zero]
    · rw [dif_neg h]
      exact Finset.sum_congr rfl fun d _ => by rw [dif_pos (by omega), mul_comm]
  have t1 : (∑ x : Fin 300, a3 (ix4 f 0 1 x) * (if h : 1 ≤ 1 + l.val ∧ 1 + l.val < 513 then a0 (ix4 s 0 ⟨1 + l.val - 1, by omega⟩ x) else (0 : EReal)))
      = ∑ d : Fin 300, a0 (ix4 s 0 l d) * a3 (ix4 f 0 1 d) :=
    Finset.sum_congr rfl fun d _ => by
      rw [dif_pos (by omega), mul_comm]
      congr 3
      exact Fin.ext (by show 1 + l.val - 1 = l.val; omega)
  have t2 : (∑ x : Fin 300, a3 (ix4 f 0 2 x) * (if h : 1 ≤ 2 + l.val ∧ 2 + l.val < 513 then a0 (ix4 s 0 ⟨2 + l.val - 1, by omega⟩ x) else (0 : EReal)))
      = if h : l.val < 511 then ∑ d : Fin 300, a0 (ix4 s 0 ⟨l.val + 1, by omega⟩ d) * a3 (ix4 f 0 2 d) else 0 := by
    by_cases h : l.val < 511
    · rw [dif_pos h]
      exact Finset.sum_congr rfl fun d _ => by
        rw [dif_pos (by omega), mul_comm]
        congr 3
        exact Fin.ext (by show 2 + l.val - 1 = l.val + 1; omega)
    · rw [dif_neg h]
      exact Finset.sum_eq_zero fun d _ => by rw [dif_neg (by omega), mul_zero]
  rw [← t0, ← t1, ← t2]

/-- The gather of whole sentences' features: row `n` of the result is the sentence that index `n` names. -/
theorem gather_at (x : FVec Ideal S64x256x512 .f32) (i : IVec S2048x1 32) (n : Fin 2048) (f : Fin 256) (l : Fin 512) :
    Host.gather gather_S64x256x512_S2048x1_S2048x256x512_12_0_n_n_0_1_1256512 x i (ix3 n f l) = x (ix3 ⟨min (i (ix2 n 0)).toInt.toNat 63, by omega⟩ f l) := by
  unfold Host.gather
  congr 1
  funext a
  refine Fin.ext ?_
  show gather_S64x256x512_S2048x1_S2048x256x512_12_0_n_n_0_1_1256512.start (ix3 n f l) i a
    + gather_S64x256x512_S2048x1_S2048x256x512_12_0_n_n_0_1_1256512.batchCoord (ix3 n f l) a
    + gather_S64x256x512_S2048x1_S2048x256x512_12_0_n_n_0_1_1256512.offCoord (ix3 n f l) a = _
  rw [GatherDims.batchCoord_eq_zero _ _ _ List.not_mem_nil]
  have cases : a = (0 : Fin 3) ∨ a = (1 : Fin 3) ∨ a = (2 : Fin 3) := by
    match a with
    | ⟨0, _⟩ => exact .inl rfl
    | ⟨1, _⟩ => exact .inr (.inl rfl)
    | ⟨2, _⟩ => exact .inr (.inr rfl)
  rcases cases with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S64x256x512_S2048x1_S2048x256x512_12_0_n_n_0_1_1256512.startIndexMap from List.mem_singleton.mpr rfl)]
    have e : gather_S64x256x512_S2048x1_S2048x256x512_12_0_n_n_0_1_1256512.siIdx (ix3 n f l) ⟨List.idxOf (0 : Fin 3) gather_S64x256x512_S2048x1_S2048x256x512_12_0_n_n_0_1_1256512.startIndexMap,
        List.idxOf_lt_length_iff.2 (List.mem_singleton.mpr rfl)⟩ = ix2 n 0 := by
      funext b
      refine Fin.ext ?_
      match b with
      | ⟨0, _⟩ => rfl
      | ⟨1, _⟩ => rfl
    rw [e]
    rfl
  · unfold GatherDims.start
    rw [dif_neg (by decide)]
    unfold GatherDims.offCoord
    rw [dif_pos (by decide)]
    rw [Nat.zero_add]
    rfl
  · unfold GatherDims.start
    rw [dif_neg (by decide)]
    unfold GatherDims.offCoord
    rw [dif_pos (by decide)]
    rw [Nat.zero_add]
    rfl

/-- The pooled values of region `n`. -/
abbrev best (h : Drawn.Tests (m ((c : Thread nD τ).loc main_arg1)) (m ((c : Thread nD τ).loc main_arg2))) (n : Fin 2048) (f : Fin 256) : EReal :=
  Spec.best (m ((c : Thread nD τ).loc main_arg0)) (m ((c : Thread nD τ).loc main_arg1)) (m ((c : Thread nD τ).loc main_arg2)) (m ((c : Thread nD τ).loc main_arg3)) (m ((c : Thread nD τ).loc main_arg4)) h n f

/-- What enters the heads at region `n` and place `x`: pooled value `x / 8`. -/
theorem entering_at (h : Drawn.Tests (m ((c : Thread nD τ).loc main_arg1)) (m ((c : Thread nD τ).loc main_arg2))) (n x : Fin 2048) :
    entering m c (ix2 n x) = best m c h n ⟨x.val / 8, by omega⟩ := by
  have hn := h n
  have h1 := hn.start_lt
  have h2 := hn.end_le
  have h3 := hn.row_lt
  unfold entering
  rw [eightfold_at, pool_at]
  have bot : Ideal.ofBits FTy.f32 0xFF800000#32 = (⊥ : EReal) := by simp [Ideal.ofBits, Ideal.ieee]
  rw [bot]
  unfold best Spec.best Spec.greatest
  congr 1
  funext l
  rw [rowsIn_at, gather_at, feat_at, Spec.inside _ _ _ (by omega) (by omega) (by rw [BitVec.toNat_ofNat]; omega), BitVec.toNat_ofNat, Nat.mod_eq_of_lt (show l.val < 2 ^ 32 by omega)]
  have e : min (numbers (m ((c : Thread nD τ).loc main_arg2)) (ix2 n 0)).toInt.toNat 63 = ((m ((c : Thread nD τ).loc main_arg2) : IVec S2048 32) (ix1 n)).toNat := by
    rw [numbers_at _ n 0 h3, BitVec.toInt_eq_toNat_of_lt (by omega), Int.toNat_natCast]
    omega
  congr 2
  exact Fin.ext e

/-- The first result at region `n` and class `o`. -/
theorem v57_at (h : Drawn.Tests (m ((c : Thread nD τ).loc main_arg1)) (m ((c : Thread nD τ).loc main_arg2))) (n : Fin 2048) (o : Fin 19) :
    (res_main_v57 (F := Ideal) m c : FVec Ideal S2048x19 .f32) (ix2 n o)
      = Spec.head (best m c h n) (m ((c : Thread nD τ).loc main_arg5)) (m ((c : Thread nD τ).loc main_arg6)) (m ((c : Thread nD τ).loc main_arg7)) (m ((c : Thread nD τ).loc main_arg8)) o := by
  rw [v57_eq, scores_at]
  simp only [hidden_at, entering_at m c h]
  rfl

/-- The second result at region `n`, class `o` and corner `p`. -/
theorem v66_at (h : Drawn.Tests (m ((c : Thread nD τ).loc main_arg1)) (m ((c : Thread nD τ).loc main_arg2))) (n : Fin 2048) (o : Fin 19) (p : Fin 2) :
    (res_main_v66 (F := Ideal) m c : FVec Ideal S2048x19x2 .f32) (ix3 n o p)
      = Spec.head (best m c h n) (m ((c : Thread nD τ).loc main_arg9)) (m ((c : Thread nD τ).loc main_arg10)) (m ((c : Thread nD τ).loc main_arg11)) (m ((c : Thread nD τ).loc main_arg12)) ⟨o.val * 2 + p.val, by omega⟩ := by
  rw [v66_eq]
  have e (y : FVec Ideal S2048x38 .f32) : shapeCast S2048x19x2 y shapeCasts_S2048x38_S2048x19x2 (ix3 n o p) = y (ix2 n ⟨o.val * 2 + p.val, by omega⟩) := by
    pointwise
  rw [e, boxes_at]
  simp only [hidden_at, entering_at m c h]
  rfl

end Cert.ReferenceIdeal.Value
-- ==== Proof.Equal.lean ====
/- The kernel's results are the reference's. -/
module

public import proofs.«01_k».proof.Proof.Ideal.OutValue
public import proofs.«01_k».proof.Proof.Reference

@[expose] public section

set_option maxRecDepth 16384

noncomputable section

namespace Cert.Equal

open Idealize.ShloMosaic Idealize.ShloMosaic.TcCoe Idealize.ShloMosaic.Pointwise
open Cert.KernelIdeal (nD τ sig)
open Cert.KernelIdeal.Run (W9)

variable (m : (ℓ : Loc nD τ sig) → Buf (Elt Ideal) ℓ) (m' : (ℓ : Loc ReferenceIdeal.nD ReferenceIdeal.τ ReferenceIdeal.sig) → Buf (Elt Ideal) ℓ) (c : Dev nD)

/-- The two memories agree on the arguments. -/
structure Agree : Prop where
  e0 : m' ((c.tc : Thread ReferenceIdeal.nD ReferenceIdeal.τ).loc ReferenceIdeal.main_arg0) = m ((c.tc : Thread nD τ).loc KernelIdeal.main_arg0)
  e1 : m' ((c.tc : Thread ReferenceIdeal.nD ReferenceIdeal.τ).loc ReferenceIdeal.main_arg1) = m ((c.tc : Thread nD τ).loc KernelIdeal.main_arg1)
  e2 : m' ((c.tc : Thread ReferenceIdeal.nD ReferenceIdeal.τ).loc ReferenceIdeal.main_arg2) = m ((c.tc : Thread nD τ).loc KernelIdeal.main_arg2)
  e3 : m' ((c.tc : Thread ReferenceIdeal.nD ReferenceIdeal.τ).loc ReferenceIdeal.main_arg3) = m ((c.tc : Thread nD τ).loc KernelIdeal.main_arg3)
  e4 : m' ((c.tc : Thread ReferenceIdeal.nD ReferenceIdeal.τ).loc ReferenceIdeal.main_arg4) = m ((c.tc : Thread nD τ).loc KernelIdeal.main_arg4)
  e5 : m' ((c.tc : Thread ReferenceIdeal.nD ReferenceIdeal.τ).loc ReferenceIdeal.main_arg5) = m ((c.tc : Thread nD τ).loc KernelIdeal.main_arg5)
  e6 : m' ((c.tc : Thread ReferenceIdeal.nD ReferenceIdeal.τ).loc ReferenceIdeal.main_arg6) = m ((c.tc : Thread nD τ).loc KernelIdeal.main_arg6)
  e7 : m' ((c.tc : Thread ReferenceIdeal.nD ReferenceIdeal.τ).loc ReferenceIdeal.main_arg7) = m ((c.tc : Thread nD τ).loc KernelIdeal.main_arg7)
  e8 : m' ((c.tc : Thread ReferenceIdeal.nD ReferenceIdeal.τ).loc ReferenceIdeal.main_arg8) = m ((c.tc : Thread nD τ).loc KernelIdeal.main_arg8)
  e9 : m' ((c.tc : Thread ReferenceIdeal.nD ReferenceIdeal.τ).loc ReferenceIdeal.main_arg9) = m ((c.tc : Thread nD τ).loc KernelIdeal.main_arg9)
  e10 : m' ((c.tc : Thread ReferenceIdeal.nD ReferenceIdeal.τ).loc ReferenceIdeal.main_arg10) = m ((c.tc : Thread nD τ).loc KernelIdeal.main_arg10)
  e11 : m' ((c.tc : Thread ReferenceIdeal.nD ReferenceIdeal.τ).loc ReferenceIdeal.main_arg11) = m ((c.tc : Thread nD τ).loc KernelIdeal.main_arg11)
  e12 : m' ((c.tc : Thread ReferenceIdeal.nD ReferenceIdeal.τ).loc ReferenceIdeal.main_arg12) = m ((c.tc : Thread nD τ).loc KernelIdeal.main_arg12)

variable {m m' c} (a : Agree m m' c) (h : Drawn.Tests (m ((c.tc : Thread nD τ).loc KernelIdeal.main_arg1)) (m ((c.tc : Thread nD τ).loc KernelIdeal.main_arg2)))
  (hf : Drawn.Finite (m ((c.tc : Thread nD τ).loc KernelIdeal.main_arg0)) (m ((c.tc : Thread nD τ).loc KernelIdeal.main_arg3)) (m ((c.tc : Thread nD τ).loc KernelIdeal.main_arg4))
    (m ((c.tc : Thread nD τ).loc KernelIdeal.main_arg5)) (m ((c.tc : Thread nD τ).loc KernelIdeal.main_arg7))
    (m ((c.tc : Thread nD τ).loc KernelIdeal.main_arg9)) (m ((c.tc : Thread nD τ).loc KernelIdeal.main_arg11)))

include a h in
/-- The reference's regions are drawn as the kernel's are. -/
theorem tests : Drawn.Tests (m' ((c.tc : Thread ReferenceIdeal.nD ReferenceIdeal.τ).loc ReferenceIdeal.main_arg1)) (m' ((c.tc : Thread ReferenceIdeal.nD ReferenceIdeal.τ).loc ReferenceIdeal.main_arg2)) := by
  rw [a.e1, a.e2]
  exact h

include a h hf in
/-- The first results are equal, -/
theorem first : ReferenceIdeal.Value.res_main_v57 (F := Ideal) m' c = W9 m c (Proc.devRef .tc KernelIdeal.main_v23) := by
  funext j
  idx_vars j
  refine (ReferenceIdeal.Value.v57_at m' c (tests a h) _ _).trans (Eq.trans ?_ ((KernelIdeal.Run.v23_at m c h _ _).trans (KernelIdeal.Run.column_first m c h hf _ _)).symm)
  exact Spec.head_congr (Spec.best_congr a.e0 a.e1 a.e2 a.e3 a.e4 _ _ _) a.e5 a.e6 a.e7 a.e8 _

include a h hf in
/-- and so are the second. -/
theorem second : ReferenceIdeal.Value.res_main_v66 (F := Ideal) m' c = W9 m c (Proc.devRef .tc KernelIdeal.main_v25) := by
  funext j
  idx_vars j
  refine (ReferenceIdeal.Value.v66_at m' c (tests a h) _ _ _).trans (Eq.trans ?_ ((KernelIdeal.Run.v25_at m c h _ _ _).trans (KernelIdeal.Run.column_second m c h hf _ ⟨j1.val * 2 + j2.val, by omega⟩)).symm)
  exact Spec.head_congr (Spec.best_congr a.e0 a.e1 a.e2 a.e3 a.e4 _ _ _) a.e9 a.e10 a.e11 a.e12 _

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_drawn
public import proofs.«01_k».proof.Proof.Gen.Pre_drawn_finite
public import proofs.«01_k».proof.Proof.Ideal.Ends
public import proofs.«01_k».proof.Proof.DrawnFinite
public import proofs.«01_k».proof.Proof.Equal
public import proofs.«01_k».proof.Proof.Bits.Ends
public import Idealize.ShloMosaic.Adequacy
public import Idealize.ShloMosaic.Init

@[expose] public section

noncomputable section

namespace Cert.Proof

open Idealize.ShloMosaic Idealize.SL.Sem

/-- The kernel's frame, at bits, -/
theorem frame_kernel : Cert.quiescent_Kernel := fun m ρ h =>
  (θ_run Cert.Kernel.defs _ _).mono (fun _ k => ⟨fun c => (k.1 c).2.2, k.2⟩) (Cert.Kernel.Run.ends m ρ fun c => Cert.Drawn.of_drawn _ _ _ _ _ _ _ _ _ _ _ _ _ (h c))

/-- and at the extended reals. -/
theorem frame_ideal : Cert.quiescent_KernelIdeal := fun m ρ h =>
  (θ_run Cert.KernelIdeal.defs _ _).mono (fun _ k => ⟨fun c => (k.1 c).2.2, k.2⟩) (Cert.KernelIdeal.Run.ends m ρ fun c => Cert.Drawn.of_drawn _ _ _ _ _ _ _ _ _ _ _ _ _ (h c))

/-- The kernel's frame at the extended reals, under the precondition of the value claim. -/
theorem frame_ideal_finite : Cert.quiescent_KernelIdeal_pre_drawn_finite := fun m ρ h =>
  (θ_run Cert.KernelIdeal.defs _ _).mono (fun _ k => ⟨fun c => (k.1 c).2.2, k.2⟩) (Cert.KernelIdeal.Run.ends m ρ fun c => (Cert.Drawn.of_drawn_finite _ _ _ _ _ _ _ _ _ _ _ _ _ (h c)).1)

/-- The reference's frame. -/
theorem frame_reference : Cert.quiescent_ReferenceIdeal := fun m ρ _ =>
  (θ_run Cert.ReferenceIdeal.defs _ _).mono (fun r k => ⟨fun c => (k c).2.2, Idealize.ShloMosaic.sem_eq_zero_of_no_sems (by decide) r.2⟩) (Cert.ReferenceIdeal.Value.run m ρ)

/-- The reference's frame under that precondition. -/
theorem frame_reference_finite : Cert.quiescent_ReferenceIdeal_pre_drawn_finite := fun m ρ _ => frame_reference m ρ trivial

/-- The kernel's results are the reference's at the extended reals. -/
theorem value : Cert.algebraic_KernelIdeal_ReferenceIdeal_pre_drawn_finite := fun m ρ m' ρ' h e => by
  have d (c) := Cert.Drawn.of_drawn_finite _ _ _ _ _ _ _ _ _ _ _ _ _ (h c)
  have a (c) : Cert.Equal.Agree m m' c :=
    have ⟨e0, e1, e2, e3, e4, e5, e6, e7, e8, e9, e10, e11, e12⟩ := e c
    ⟨e0, e1, e2, e3, e4, e5, e6, e7, e8, e9, e10, e11, e12⟩
  exact ⟨_, _, (θ_run Cert.KernelIdeal.defs _ _).mono (fun r k => k.1) (Cert.KernelIdeal.Run.ends m ρ fun c => (d c).1),
    (θ_run Cert.ReferenceIdeal.defs _ _).mono (fun r k c => ⟨(k c).1.trans (Cert.Equal.first (a c) (d c).1 (d c).2), (k c).2.1.trans (Cert.Equal.second (a c) (d c).1 (d c).2), (k c).2.2⟩)
      (Cert.ReferenceIdeal.Value.run m' ρ')⟩

/-- Everything that is claimed. -/
theorem claim : Cert.Claim := ⟨Cert.Kernel.Gen.facts, Cert.KernelIdeal.Gen.facts, Cert.ReferenceIdeal.Gen.facts, Cert.Pre_drawn.Gen.facts, Cert.Pre_drawn_finite.Gen.facts,
  frame_kernel, frame_ideal, frame_ideal_finite, frame_reference, frame_reference_finite, trivial, value⟩

end Cert.Proof

end
